-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesRefIdeal (m : (ℓ : Loc Cert.QueriesRefIdeal.nD Cert.QueriesRefIdeal.τ Cert.QueriesRefIdeal.sig) → Buf (Elt Ideal) ℓ) : Prop :=
  True

def Pre_MobaRows (m : (ℓ : Loc Cert.MobaRows.nD Cert.MobaRows.τ Cert.MobaRows.sig) → Buf (Elt Bits) ℓ) : Prop :=
  True

def Pre_MobaRowsIdeal (m : (ℓ : Loc Cert.MobaRowsIdeal.nD Cert.MobaRowsIdeal.τ Cert.MobaRowsIdeal.sig) → Buf (Elt Ideal) ℓ) : Prop :=
  True

def Pre_MobaRowsRefIdeal (m : (ℓ : Loc Cert.MobaRowsRefIdeal.nD Cert.MobaRowsRefIdeal.τ Cert.MobaRowsRefIdeal.sig) → Buf (Elt Ideal) ℓ) : Prop :=
  True

def Pre_RwkvRows (m : (ℓ : Loc Cert.RwkvRows.nD Cert.RwkvRows.τ Cert.RwkvRows.sig) → Buf (Elt Bits) ℓ) : Prop :=
  True

def Pre_RwkvRowsIdeal (m : (ℓ : Loc Cert.RwkvRowsIdeal.nD Cert.RwkvRowsIdeal.τ Cert.RwkvRowsIdeal.sig) → Buf (Elt Ideal) ℓ) : Prop :=
  True

def Pre_RwkvRowsRefIdeal (m : (ℓ : Loc Cert.RwkvRowsRefIdeal.nD Cert.RwkvRowsRefIdeal.τ Cert.RwkvRowsRefIdeal.sig) → Buf (Elt Ideal) ℓ) : Prop :=
  True

def Pre_DsaRows (m : (ℓ : Loc Cert.DsaRows.nD Cert.DsaRows.τ Cert.DsaRows.sig) → Buf (Elt Bits) ℓ) : Prop :=
  True

def Pre_DsaRowsIdeal (m : (ℓ : Loc Cert.DsaRowsIdeal.nD Cert.DsaRowsIdeal.τ Cert.DsaRowsIdeal.sig) → Buf (Elt Ideal) ℓ) : Prop :=
  True

def Pre_DsaRowsRefIdeal (m : (ℓ : Loc Cert.DsaRowsRefIdeal.nD Cert.DsaRowsRefIdeal.τ Cert.DsaRowsRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ r.2.sem = fun _ => 0)

def quiescent_QueriesRefIdeal [hQueriesRefIdeal : Cert.QueriesRefIdeal.Facts] : Prop :=
  ∀ (m : (ℓ : Loc Cert.QueriesRefIdeal.nD Cert.QueriesRefIdeal.τ Cert.QueriesRefIdeal.sig) → Buf (Elt Ideal) ℓ) (g : Dev Cert.QueriesRefIdeal.nD → PrngReg), Pre_QueriesRefIdeal m →
    θ_run (Cert.QueriesRefIdeal.defs (F := Ideal)) (onTc (τ := Cert.QueriesRefIdeal.τ) (Cert.QueriesRefIdeal.main (F := Ideal))) ⟨m, fun _ => 0, g⟩ (fun r => (∀ c : Dev Cert.QueriesRefIdeal.nD,
      r.2.mem ((c.tc : Thread Cert.QueriesRefIdeal.nD Cert.QueriesRefIdeal.τ).loc Cert.QueriesRefIdeal.main_arg0) = m ((c.tc : Thread Cert.QueriesRefIdeal.nD Cert.QueriesRefIdeal.τ).loc Cert.QueriesRefIdeal.main_arg0)
      ∧ r.2.mem ((c.tc : Thread Cert.QueriesRefIdeal.nD Cert.QueriesRefIdeal.τ).loc Cert.QueriesRefIdeal.main_arg1) = m ((c.tc : Thread Cert.QueriesRefIdeal.nD Cert.QueriesRefIdeal.τ).loc Cert.QueriesRefIdeal.main_arg1))
      ∧ r.2.sem = fun _ => 0)

def quiescent_MobaRows [hMobaRows : Cert.MobaRows.Facts] : Prop :=
  ∀ (m : (ℓ : Loc Cert.MobaRows.nD Cert.MobaRows.τ Cert.MobaRows.sig) → Buf (Elt Bits) ℓ) (g : Dev Cert.MobaRows.nD → PrngReg), Pre_MobaRows m →
    θ_run (Cert.MobaRows.defs (F := Bits)) (onTc (τ := Cert.MobaRows.τ) (Cert.MobaRows.main (F := Bits))) ⟨m, fun _ => 0, g⟩ (fun r => (∀ c : Dev Cert.MobaRows.nD,
      r.2.mem ((c.tc : Thread Cert.MobaRows.nD Cert.MobaRows.τ).loc Cert.MobaRows.main_arg0) = m ((c.tc : Thread Cert.MobaRows.nD Cert.MobaRows.τ).loc Cert.MobaRows.main_arg0)
      ∧ r.2.mem ((c.tc : Thread Cert.MobaRows.nD Cert.MobaRows.τ).loc Cert.MobaRows.main_arg1) = m ((c.tc : Thread Cert.MobaRows.nD Cert.MobaRows.τ).loc Cert.MobaRows.main_arg1))
      ∧ r.2.sem = fun _ => 0)

def quiescent_MobaRowsIdeal [hMobaRowsIdeal : Cert.MobaRowsIdeal.Facts] : Prop :=
  ∀ (m : (ℓ : Loc Cert.MobaRowsIdeal.nD Cert.MobaRowsIdeal.τ Cert.MobaRowsIdeal.sig) → Buf (Elt Ideal) ℓ) (g : Dev Cert.MobaRowsIdeal.nD → PrngReg), Pre_MobaRowsIdeal m →
    θ_run (Cert.MobaRowsIdeal.defs (F := Ideal)) (onTc (τ := Cert.MobaRowsIdeal.τ) (Cert.MobaRowsIdeal.main (F := Ideal))) ⟨m, fun _ => 0, g⟩ (fun r => (∀ c : Dev Cert.MobaRowsIdeal.nD,
      r.2.mem ((c.tc : Thread Cert.MobaRowsIdeal.nD Cert.MobaRowsIdeal.τ).loc Cert.MobaRowsIdeal.main_arg0) = m ((c.tc : Thread Cert.MobaRowsIdeal.nD Cert.MobaRowsIdeal.τ).loc Cert.MobaRowsIdeal.main_arg0)
      ∧ r.2.mem ((c.tc : Thread Cert.MobaRowsIdeal.nD Cert.MobaRowsIdeal.τ).loc Cert.MobaRowsIdeal.main_arg1) = m ((c.tc : Thread Cert.MobaRowsIdeal.nD Cert.MobaRowsIdeal.τ).loc Cert.MobaRowsIdeal.main_arg1))
      ∧ r.2.sem = fun _ => 0)

def quiescent_MobaRowsRefIdeal [hMobaRowsRefIdeal : Cert.MobaRowsRefIdeal.Facts] : Prop :=
  ∀ (m : (ℓ : Loc Cert.MobaRowsRefIdeal.nD Cert.MobaRowsRefIdeal.τ Cert.MobaRowsRefIdeal.sig) → Buf (Elt Ideal) ℓ) (g : Dev Cert.MobaRowsRefIdeal.nD → PrngReg), Pre_MobaRowsRefIdeal m →
    θ_run (Cert.MobaRowsRefIdeal.defs (F := Ideal)) (onTc (τ := Cert.MobaRowsRefIdeal.τ) (Cert.MobaRowsRefIdeal.main (F := Ideal))) ⟨m, fun _ => 0, g⟩ (fun r => (∀ c : Dev Cert.MobaRowsRefIdeal.nD,
      r.2.mem ((c.tc : Thread Cert.MobaRowsRefIdeal.nD Cert.MobaRowsRefIdeal.τ).loc Cert.MobaRowsRefIdeal.main_arg0) = m ((c.tc : Thread Cert.MobaRowsRefIdeal.nD Cert.MobaRowsRefIdeal.τ).loc Cert.MobaRowsRefIdeal.main_arg0)
      ∧ r.2.mem ((c.tc : Thread Cert.MobaRowsRefIdeal.nD Cert.MobaRowsRefIdeal.τ).loc Cert.MobaRowsRefIdeal.main_arg1) = m ((c.tc : Thread Cert.MobaRowsRefIdeal.nD Cert.MobaRowsRefIdeal.τ).loc Cert.MobaRowsRefIdeal.main_arg1))
      ∧ r.2.sem = fun _ => 0)

def quiescent_RwkvRows [hRwkvRows : Cert.RwkvRows.Facts] : Prop :=
  ∀ (m : (ℓ : Loc Cert.RwkvRows.nD Cert.RwkvRows.τ Cert.RwkvRows.sig) → Buf (Elt Bits) ℓ) (g : Dev Cert.RwkvRows.nD → PrngReg), Pre_RwkvRows m →
    θ_run (Cert.RwkvRows.defs (F := Bits)) (onTc (τ := Cert.RwkvRows.τ) (Cert.RwkvRows.main (F := Bits))) ⟨m, fun _ => 0, g⟩ (fun r => (∀ c : Dev Cert.RwkvRows.nD,
      r.2.mem ((c.tc : Thread Cert.RwkvRows.nD Cert.RwkvRows.τ).loc Cert.RwkvRows.main_arg0) = m ((c.tc : Thread Cert.RwkvRows.nD Cert.RwkvRows.τ).loc Cert.RwkvRows.main_arg0)
      ∧ r.2.mem ((c.tc : Thread Cert.RwkvRows.nD Cert.RwkvRows.τ).loc Cert.RwkvRows.main_arg1) = m ((c.tc : Thread Cert.RwkvRows.nD Cert.RwkvRows.τ).loc Cert.RwkvRows.main_arg1))
      ∧ r.2.sem = fun _ => 0)

def quiescent_RwkvRowsIdeal [hRwkvRowsIdeal : Cert.RwkvRowsIdeal.Facts] : Prop :=
  ∀ (m : (ℓ : Loc Cert.RwkvRowsIdeal.nD Cert.RwkvRowsIdeal.τ Cert.RwkvRowsIdeal.sig) → Buf (Elt Ideal) ℓ) (g : Dev Cert.RwkvRowsIdeal.nD → PrngReg), Pre_RwkvRowsIdeal m →
    θ_run (Cert.RwkvRowsIdeal.defs (F := Ideal)) (onTc (τ := Cert.RwkvRowsIdeal.τ) (Cert.RwkvRowsIdeal.main (F := Ideal))) ⟨m, fun _ => 0, g⟩ (fun r => (∀ c : Dev Cert.RwkvRowsIdeal.nD,
      r.2.mem ((c.tc : Thread Cert.RwkvRowsIdeal.nD Cert.RwkvRowsIdeal.τ).loc Cert.RwkvRowsIdeal.main_arg0) = m ((c.tc : Thread Cert.RwkvRowsIdeal.nD Cert.RwkvRowsIdeal.τ).loc Cert.RwkvRowsIdeal.main_arg0)
      ∧ r.2.mem ((c.tc : Thread Cert.RwkvRowsIdeal.nD Cert.RwkvRowsIdeal.τ).loc Cert.RwkvRowsIdeal.main_arg1) = m ((c.tc : Thread Cert.RwkvRowsIdeal.nD Cert.RwkvRowsIdeal.τ).loc Cert.RwkvRowsIdeal.main_arg1))
      ∧ r.2.sem = fun _ => 0)

def quiescent_RwkvRowsRefIdeal [hRwkvRowsRefIdeal : Cert.RwkvRowsRefIdeal.Facts] : Prop :=
  ∀ (m : (ℓ : Loc Cert.RwkvRowsRefIdeal.nD Cert.RwkvRowsRefIdeal.τ Cert.RwkvRowsRefIdeal.sig) → Buf (Elt Ideal) ℓ) (g : Dev Cert.RwkvRowsRefIdeal.nD → PrngReg), Pre_RwkvRowsRefIdeal m →
    θ_run (Cert.RwkvRowsRefIdeal.defs (F := Ideal)) (onTc (τ := Cert.RwkvRowsRefIdeal.τ) (Cert.RwkvRowsRefIdeal.main (F := Ideal))) ⟨m, fun _ => 0, g⟩ (fun r => (∀ c : Dev Cert.RwkvRowsRefIdeal.nD,
      r.2.mem ((c.tc : Thread Cert.RwkvRowsRefIdeal.nD Cert.RwkvRowsRefIdeal.τ).loc Cert.RwkvRowsRefIdeal.main_arg0) = m ((c.tc : Thread Cert.RwkvRowsRefIdeal.nD Cert.RwkvRowsRefIdeal.τ).loc Cert.RwkvRowsRefIdeal.main_arg0)
      ∧ r.2.mem ((c.tc : Thread Cert.RwkvRowsRefIdeal.nD Cert.RwkvRowsRefIdeal.τ).loc Cert.RwkvRowsRefIdeal.main_arg1) = m ((c.tc : Thread Cert.RwkvRowsRefIdeal.nD Cert.RwkvRowsRefIdeal.τ).loc Cert.RwkvRowsRefIdeal.main_arg1))
      ∧ r.2.sem = fun _ => 0)

def quiescent_DsaRows [hDsaRows : Cert.DsaRows.Facts] : Prop :=
  ∀ (m : (ℓ : Loc Cert.DsaRows.nD Cert.DsaRows.τ Cert.DsaRows.sig) → Buf (Elt Bits) ℓ) (g : Dev Cert.DsaRows.nD → PrngReg), Pre_DsaRows m →
    θ_run (Cert.DsaRows.defs (F := Bits)) (onTc (τ := Cert.DsaRows.τ) (Cert.DsaRows.main (F := Bits))) ⟨m, fun _ => 0, g⟩ (fun r => (∀ c : Dev Cert.DsaRows.nD,
      r.2.mem ((c.tc : Thread Cert.DsaRows.nD Cert.DsaRows.τ).loc Cert.DsaRows.main_arg0) = m ((c.tc : Thread Cert.DsaRows.nD Cert.DsaRows.τ).loc Cert.DsaRows.main_arg0)
      ∧ r.2.mem ((c.tc : Thread Cert.DsaRows.nD Cert.DsaRows.τ).loc Cert.DsaRows.main_arg1) = m ((c.tc : Thread Cert.DsaRows.nD Cert.DsaRows.τ).loc Cert.DsaRows.main_arg1))
      ∧ r.2.sem = fun _ => 0)

def quiescent_DsaRowsIdeal [hDsaRowsIdeal : Cert.DsaRowsIdeal.Facts] : Prop :=
  ∀ (m : (ℓ : Loc Cert.DsaRowsIdeal.nD Cert.DsaRowsIdeal.τ Cert.DsaRowsIdeal.sig) → Buf (Elt Ideal) ℓ) (g : Dev Cert.DsaRowsIdeal.nD → PrngReg), Pre_DsaRowsIdeal m →
    θ_run (Cert.DsaRowsIdeal.defs (F := Ideal)) (onTc (τ := Cert.DsaRowsIdeal.τ) (Cert.DsaRowsIdeal.main (F := Ideal))) ⟨m, fun _ => 0, g⟩ (fun r => (∀ c : Dev Cert.DsaRowsIdeal.nD,
      r.2.mem ((c.tc : Thread Cert.DsaRowsIdeal.nD Cert.DsaRowsIdeal.τ).loc Cert.DsaRowsIdeal.main_arg0) = m ((c.tc : Thread Cert.DsaRowsIdeal.nD Cert.DsaRowsIdeal.τ).loc Cert.DsaRowsIdeal.main_arg0)
      ∧ r.2.mem ((c.tc : Thread Cert.DsaRowsIdeal.nD Cert.DsaRowsIdeal.τ).loc Cert.DsaRowsIdeal.main_arg1) = m ((c.tc : Thread Cert.DsaRowsIdeal.nD Cert.DsaRowsIdeal.τ).loc Cert.DsaRowsIdeal.main_arg1))
      ∧ r.2.sem = fun _ => 0)

def quiescent_DsaRowsRefIdeal [hDsaRowsRefIdeal : Cert.DsaRowsRefIdeal.Facts] : Prop :=
  ∀ (m : (ℓ : Loc Cert.DsaRowsRefIdeal.nD Cert.DsaRowsRefIdeal.τ Cert.DsaRowsRefIdeal.sig) → Buf (Elt Ideal) ℓ) (g : Dev Cert.DsaRowsRefIdeal.nD → PrngReg), Pre_DsaRowsRefIdeal m →
    θ_run (Cert.DsaRowsRefIdeal.defs (F := Ideal)) (onTc (τ := Cert.DsaRowsRefIdeal.τ) (Cert.DsaRowsRefIdeal.main (F := Ideal))) ⟨m, fun _ => 0, g⟩ (fun r => (∀ c : Dev Cert.DsaRowsRefIdeal.nD,
      r.2.mem ((c.tc : Thread Cert.DsaRowsRefIdeal.nD Cert.DsaRowsRefIdeal.τ).loc Cert.DsaRowsRefIdeal.main_arg0) = m ((c.tc : Thread Cert.DsaRowsRefIdeal.nD Cert.DsaRowsRefIdeal.τ).loc Cert.DsaRowsRefIdeal.main_arg0)
      ∧ r.2.mem ((c.tc : Thread Cert.DsaRowsRefIdeal.nD Cert.DsaRowsRefIdeal.τ).loc Cert.DsaRowsRefIdeal.main_arg1) = m ((c.tc : Thread Cert.DsaRowsRefIdeal.nD Cert.DsaRowsRefIdeal.τ).loc Cert.DsaRowsRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2)
      ∧ r.2.mem ((c.tc : Thread Cert.Modulate.nD Cert.Modulate.τ).loc Cert.Modulate.main_arg3) = m ((c.tc : Thread Cert.Modulate.nD Cert.Modulate.τ).loc Cert.Modulate.main_arg3))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
      ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1)
      ∧ r.2.mem ((c.tc : Thread Cert.ModulateRefIdeal.nD Cert.ModulateRefIdeal.τ).loc Cert.ModulateRefIdeal.main_arg2) = m ((c.tc : Thread Cert.ModulateRefIdeal.nD Cert.ModulateRefIdeal.τ).loc Cert.ModulateRefIdeal.main_arg2)
      ∧ r.2.mem ((c.tc : Thread Cert.ModulateRefIdeal.nD Cert.ModulateRefIdeal.τ).loc Cert.ModulateRefIdeal.main_arg3) = m ((c.tc : Thread Cert.ModulateRefIdeal.nD Cert.ModulateRefIdeal.τ).loc Cert.ModulateRefIdeal.main_arg3))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4)
      ∧ r.2.mem ((c.tc : Thread Cert.Route.nD Cert.Route.τ).loc Cert.Route.main_arg5) = m ((c.tc : Thread Cert.Route.nD Cert.Route.τ).loc Cert.Route.main_arg5))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Queries_QueriesIdeal : Prop :=
  True

def algebraic_QueriesIdeal_QueriesRefIdeal [hQueriesIdeal : Cert.QueriesIdeal.Facts] [hQueriesRefIdeal : Cert.QueriesRefIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueriesRefIdeal.nD Cert.QueriesRefIdeal.τ Cert.QueriesRefIdeal.sig) → Buf (Elt Ideal) ℓ) (g' : Dev Cert.QueriesRefIdeal.nD → PrngReg), Pre_QueriesIdeal m →
    (∀ c : Dev Cert.QueriesIdeal.nD,
      m' ((c.tc : Thread Cert.QueriesRefIdeal.nD Cert.QueriesRefIdeal.τ).loc Cert.QueriesRefIdeal.main_arg0) = m ((c.tc : Thread Cert.QueriesIdeal.nD Cert.QueriesIdeal.τ).loc Cert.QueriesIdeal.main_arg0)
      ∧ m' ((c.tc : Thread Cert.QueriesRefIdeal.nD Cert.QueriesRefIdeal.τ).loc Cert.QueriesRefIdeal.main_arg1) = m ((c.tc : Thread Cert.QueriesIdeal.nD Cert.QueriesIdeal.τ).loc Cert.QueriesIdeal.main_arg1)) →
    ∃ (v0 : (c : Dev Cert.QueriesIdeal.nD) → Buf (Elt Ideal) ((c.tc : Thread Cert.QueriesIdeal.nD Cert.QueriesIdeal.τ).loc Cert.QueriesIdeal.main_v5)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v5) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ θ_run (Cert.QueriesRefIdeal.defs (F := Ideal)) (onTc (τ := Cert.QueriesRefIdeal.τ) (Cert.QueriesRefIdeal.main (F := Ideal))) ⟨m', fun _ => 0, g'⟩ (fun r => ∀ c : Dev Cert.QueriesRefIdeal.nD,
          r.2.mem ((c.tc : Thread Cert.QueriesRefIdeal.nD Cert.QueriesRefIdeal.τ).loc Cert.QueriesRefIdeal.main_v10) = v0 c
          ∧ r.2.mem ((c.tc : Thread Cert.QueriesRefIdeal.nD Cert.QueriesRefIdeal.τ).loc Cert.QueriesRefIdeal.main_arg0) = m' ((c.tc : Thread Cert.QueriesRefIdeal.nD Cert.QueriesRefIdeal.τ).loc Cert.QueriesRefIdeal.main_arg0)
          ∧ r.2.mem ((c.tc : Thread Cert.QueriesRefIdeal.nD Cert.QueriesRefIdeal.τ).loc Cert.QueriesRefIdeal.main_arg1) = m' ((c.tc : Thread Cert.QueriesRefIdeal.nD Cert.QueriesRefIdeal.τ).loc Cert.QueriesRefIdeal.main_arg1))

def preserves_MobaRows_MobaRowsIdeal : Prop :=
  True

def algebraic_MobaRowsIdeal_MobaRowsRefIdeal [hMobaRowsIdeal : Cert.MobaRowsIdeal.Facts] [hMobaRowsRefIdeal : Cert.MobaRowsRefIdeal.Facts] : Prop :=
  ∀ (m : (ℓ : Loc Cert.MobaRowsIdeal.nD Cert.MobaRowsIdeal.τ Cert.MobaRowsIdeal.sig) → Buf (Elt Ideal) ℓ) (g : Dev Cert.MobaRowsIdeal.nD → PrngReg)
    (m' : (ℓ : Loc Cert.MobaRowsRefIdeal.nD Cert.MobaRowsRefIdeal.τ Cert.MobaRowsRefIdeal.sig) → Buf (Elt Ideal) ℓ) (g' : Dev Cert.MobaRowsRefIdeal.nD → PrngReg), Pre_MobaRowsIdeal m →
    (∀ c : Dev Cert.MobaRowsIdeal.nD,
      m' ((c.tc : Thread Cert.MobaRowsRefIdeal.nD Cert.MobaRowsRefIdeal.τ).loc Cert.MobaRowsRefIdeal.main_arg0) = m ((c.tc : Thread Cert.MobaRowsIdeal.nD Cert.MobaRowsIdeal.τ).loc Cert.MobaRowsIdeal.main_arg0)
      ∧ m' ((c.tc : Thread Cert.MobaRowsRefIdeal.nD Cert.MobaRowsRefIdeal.τ).loc Cert.MobaRowsRefIdeal.main_arg1) = m ((c.tc : Thread Cert.MobaRowsIdeal.nD Cert.MobaRowsIdeal.τ).loc Cert.MobaRowsIdeal.main_arg1)) →
    ∃ (v0 : (c : Dev Cert.MobaRowsIdeal.nD) → Buf (Elt Ideal) ((c.tc : Thread Cert.MobaRowsIdeal.nD Cert.MobaRowsIdeal.τ).loc Cert.MobaRowsIdeal.main_v2)),
      θ_run (Cert.MobaRowsIdeal.defs (F := Ideal)) (onTc (τ := Cert.MobaRowsIdeal.τ) (Cert.MobaRowsIdeal.main (F := Ideal))) ⟨m, fun _ => 0, g⟩ (fun r => ∀ c : Dev Cert.MobaRowsIdeal.nD,
          r.2.mem ((c.tc : Thread Cert.MobaRowsIdeal.nD Cert.MobaRowsIdeal.τ).loc Cert.MobaRowsIdeal.main_v2) = v0 c
          ∧ r.2.mem ((c.tc : Thread Cert.MobaRowsIdeal.nD Cert.MobaRowsIdeal.τ).loc Cert.MobaRowsIdeal.main_arg0) = m ((c.tc : Thread Cert.MobaRowsIdeal.nD Cert.MobaRowsIdeal.τ).loc Cert.MobaRowsIdeal.main_arg0)
          ∧ r.2.mem ((c.tc : Thread Cert.MobaRowsIdeal.nD Cert.MobaRowsIdeal.τ).loc Cert.MobaRowsIdeal.main_arg1) = m ((c.tc : Thread Cert.MobaRowsIdeal.nD Cert.MobaRowsIdeal.τ).loc Cert.MobaRowsIdeal.main_arg1))
      ∧ θ_run (Cert.MobaRowsRefIdeal.defs (F := Ideal)) (onTc (τ := Cert.MobaRowsRefIdeal.τ) (Cert.MobaRowsRefIdeal.main (F := Ideal))) ⟨m', fun _ => 0, g'⟩ (fun r => ∀ c : Dev Cert.MobaRowsRefIdeal.nD,
          r.2.mem ((c.tc : Thread Cert.MobaRowsRefIdeal.nD Cert.MobaRowsRefIdeal.τ).loc Cert.MobaRowsRefIdeal.main_v3) = v0 c
          ∧ r.2.mem ((c.tc : Thread Cert.MobaRowsRefIdeal.nD Cert.MobaRowsRefIdeal.τ).loc Cert.MobaRowsRefIdeal.main_arg0) = m' ((c.tc : Thread Cert.MobaRowsRefIdeal.nD Cert.MobaRowsRefIdeal.τ).loc Cert.MobaRowsRefIdeal.main_arg0)
          ∧ r.2.mem ((c.tc : Thread Cert.MobaRowsRefIdeal.nD Cert.MobaRowsRefIdeal.τ).loc Cert.MobaRowsRefIdeal.main_arg1) = m' ((c.tc : Thread Cert.MobaRowsRefIdeal.nD Cert.MobaRowsRefIdeal.τ).loc Cert.MobaRowsRefIdeal.main_arg1))

def preserves_RwkvRows_RwkvRowsIdeal : Prop :=
  True

def algebraic_RwkvRowsIdeal_RwkvRowsRefIdeal [hRwkvRowsIdeal : Cert.RwkvRowsIdeal.Facts] [hRwkvRowsRefIdeal : Cert.RwkvRowsRefIdeal.Facts] : Prop :=
  ∀ (m : (ℓ : Loc Cert.RwkvRowsIdeal.nD Cert.RwkvRowsIdeal.τ Cert.RwkvRowsIdeal.sig) → Buf (Elt Ideal) ℓ) (g : Dev Cert.RwkvRowsIdeal.nD → PrngReg)
    (m' : (ℓ : Loc Cert.RwkvRowsRefIdeal.nD Cert.RwkvRowsRefIdeal.τ Cert.RwkvRowsRefIdeal.sig) → Buf (Elt Ideal) ℓ) (g' : Dev Cert.RwkvRowsRefIdeal.nD → PrngReg), Pre_RwkvRowsIdeal m →
    (∀ c : Dev Cert.RwkvRowsIdeal.nD,
      m' ((c.tc : Thread Cert.RwkvRowsRefIdeal.nD Cert.RwkvRowsRefIdeal.τ).loc Cert.RwkvRowsRefIdeal.main_arg0) = m ((c.tc : Thread Cert.RwkvRowsIdeal.nD Cert.RwkvRowsIdeal.τ).loc Cert.RwkvRowsIdeal.main_arg0)
      ∧ m' ((c.tc : Thread Cert.RwkvRowsRefIdeal.nD Cert.RwkvRowsRefIdeal.τ).loc Cert.RwkvRowsRefIdeal.main_arg1) = m ((c.tc : Thread Cert.RwkvRowsIdeal.nD Cert.RwkvRowsIdeal.τ).loc Cert.RwkvRowsIdeal.main_arg1)) →
    ∃ (v0 : (c : Dev Cert.RwkvRowsIdeal.nD) → Buf (Elt Ideal) ((c.tc : Thread Cert.RwkvRowsIdeal.nD Cert.RwkvRowsIdeal.τ).loc Cert.RwkvRowsIdeal.main_v2)),
      θ_run (Cert.RwkvRowsIdeal.defs (F := Ideal)) (onTc (τ := Cert.RwkvRowsIdeal.τ) (Cert.RwkvRowsIdeal.main (F := Ideal))) ⟨m, fun _ => 0, g⟩ (fun r => ∀ c : Dev Cert.RwkvRowsIdeal.nD,
          r.2.mem ((c.tc : Thread Cert.RwkvRowsIdeal.nD Cert.RwkvRowsIdeal.τ).loc Cert.RwkvRowsIdeal.main_v2) = v0 c
          ∧ r.2.mem ((c.tc : Thread Cert.RwkvRowsIdeal.nD Cert.RwkvRowsIdeal.τ).loc Cert.RwkvRowsIdeal.main_arg0) = m ((c.tc : Thread Cert.RwkvRowsIdeal.nD Cert.RwkvRowsIdeal.τ).loc Cert.RwkvRowsIdeal.main_arg0)
          ∧ r.2.mem ((c.tc : Thread Cert.RwkvRowsIdeal.nD Cert.RwkvRowsIdeal.τ).loc Cert.RwkvRowsIdeal.main_arg1) = m ((c.tc : Thread Cert.RwkvRowsIdeal.nD Cert.RwkvRowsIdeal.τ).loc Cert.RwkvRowsIdeal.main_arg1))
      ∧ θ_run (Cert.RwkvRowsRefIdeal.defs (F := Ideal)) (onTc (τ := Cert.RwkvRowsRefIdeal.τ) (Cert.RwkvRowsRefIdeal.main (F := Ideal))) ⟨m', fun _ => 0, g'⟩ (fun r => ∀ c : Dev Cert.RwkvRowsRefIdeal.nD,
          r.2.mem ((c.tc : Thread Cert.RwkvRowsRefIdeal.nD Cert.RwkvRowsRefIdeal.τ).loc Cert.RwkvRowsRefIdeal.main_v4) = v0 c
          ∧ r.2.mem ((c.tc : Thread Cert.RwkvRowsRefIdeal.nD Cert.RwkvRowsRefIdeal.τ).loc Cert.RwkvRowsRefIdeal.main_arg0) = m' ((c.tc : Thread Cert.RwkvRowsRefIdeal.nD Cert.RwkvRowsRefIdeal.τ).loc Cert.RwkvRowsRefIdeal.main_arg0)
          ∧ r.2.mem ((c.tc : Thread Cert.RwkvRowsRefIdeal.nD Cert.RwkvRowsRefIdeal.τ).loc Cert.RwkvRowsRefIdeal.main_arg1) = m' ((c.tc : Thread Cert.RwkvRowsRefIdeal.nD Cert.RwkvRowsRefIdeal.τ).loc Cert.RwkvRowsRefIdeal.main_arg1))

def preserves_DsaRows_DsaRowsIdeal : Prop :=
  True

def algebraic_DsaRowsIdeal_DsaRowsRefIdeal [hDsaRowsIdeal : Cert.DsaRowsIdeal.Facts] [hDsaRowsRefIdeal : Cert.DsaRowsRefIdeal.Facts] : Prop :=
  ∀ (m : (ℓ : Loc Cert.DsaRowsIdeal.nD Cert.DsaRowsIdeal.τ Cert.DsaRowsIdeal.sig) → Buf (Elt Ideal) ℓ) (g : Dev Cert.DsaRowsIdeal.nD → PrngReg)
    (m' : (ℓ : Loc Cert.DsaRowsRefIdeal.nD Cert.DsaRowsRefIdeal.τ Cert.DsaRowsRefIdeal.sig) → Buf (Elt Ideal) ℓ) (g' : Dev Cert.DsaRowsRefIdeal.nD → PrngReg), Pre_DsaRowsIdeal m →
    (∀ c : Dev Cert.DsaRowsIdeal.nD,
      m' ((c.tc : Thread Cert.DsaRowsRefIdeal.nD Cert.DsaRowsRefIdeal.τ).loc Cert.DsaRowsRefIdeal.main_arg0) = m ((c.tc : Thread Cert.DsaRowsIdeal.nD Cert.DsaRowsIdeal.τ).loc Cert.DsaRowsIdeal.main_arg0)
      ∧ m' ((c.tc : Thread Cert.DsaRowsRefIdeal.nD Cert.DsaRowsRefIdeal.τ).loc Cert.DsaRowsRefIdeal.main_arg1) = m ((c.tc : Thread Cert.DsaRowsIdeal.nD Cert.DsaRowsIdeal.τ).loc Cert.DsaRowsIdeal.main_arg1)) →
    ∃ (v0 : (c : Dev Cert.DsaRowsIdeal.nD) → Buf (Elt Ideal) ((c.tc : Thread Cert.DsaRowsIdeal.nD Cert.DsaRowsIdeal.τ).loc Cert.DsaRowsIdeal.main_v5)),
      θ_run (Cert.DsaRowsIdeal.defs (F := Ideal)) (onTc (τ := Cert.DsaRowsIdeal.τ) (Cert.DsaRowsIdeal.main (F := Ideal))) ⟨m, fun _ => 0, g⟩ (fun r => ∀ c : Dev Cert.DsaRowsIdeal.nD,
          r.2.mem ((c.tc : Thread Cert.DsaRowsIdeal.nD Cert.DsaRowsIdeal.τ).loc Cert.DsaRowsIdeal.main_v5) = v0 c
          ∧ r.2.mem ((c.tc : Thread Cert.DsaRowsIdeal.nD Cert.DsaRowsIdeal.τ).loc Cert.DsaRowsIdeal.main_arg0) = m ((c.tc : Thread Cert.DsaRowsIdeal.nD Cert.DsaRowsIdeal.τ).loc Cert.DsaRowsIdeal.main_arg0)
          ∧ r.2.mem ((c.tc : Thread Cert.DsaRowsIdeal.nD Cert.DsaRowsIdeal.τ).loc Cert.DsaRowsIdeal.main_arg1) = m ((c.tc : Thread Cert.DsaRowsIdeal.nD Cert.DsaRowsIdeal.τ).loc Cert.DsaRowsIdeal.main_arg1))
      ∧ θ_run (Cert.DsaRowsRefIdeal.defs (F := Ideal)) (onTc (τ := Cert.DsaRowsRefIdeal.τ) (Cert.DsaRowsRefIdeal.main (F := Ideal))) ⟨m', fun _ => 0, g'⟩ (fun r => ∀ c : Dev Cert.DsaRowsRefIdeal.nD,
          r.2.mem ((c.tc : Thread Cert.DsaRowsRefIdeal.nD Cert.DsaRowsRefIdeal.τ).loc Cert.DsaRowsRefIdeal.main_v11) = v0 c
          ∧ r.2.mem ((c.tc : Thread Cert.DsaRowsRefIdeal.nD Cert.DsaRowsRefIdeal.τ).loc Cert.DsaRowsRefIdeal.main_arg0) = m' ((c.tc : Thread Cert.DsaRowsRefIdeal.nD Cert.DsaRowsRefIdeal.τ).loc Cert.DsaRowsRefIdeal.main_arg0)
          ∧ r.2.mem ((c.tc : Thread Cert.DsaRowsRefIdeal.nD Cert.DsaRowsRefIdeal.τ).loc Cert.DsaRowsRefIdeal.main_arg1) = m' ((c.tc : Thread Cert.DsaRowsRefIdeal.nD Cert.DsaRowsRefIdeal.τ).loc Cert.DsaRowsRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v10) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v19) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)
      ∧ m' ((c.tc : Thread Cert.ModulateRefIdeal.nD Cert.ModulateRefIdeal.τ).loc Cert.ModulateRefIdeal.main_arg2) = m ((c.tc : Thread Cert.ModulateIdeal.nD Cert.ModulateIdeal.τ).loc Cert.ModulateIdeal.main_arg2)
      ∧ m' ((c.tc : Thread Cert.ModulateRefIdeal.nD Cert.ModulateRefIdeal.τ).loc Cert.ModulateRefIdeal.main_arg3) = m ((c.tc : Thread Cert.ModulateIdeal.nD Cert.ModulateIdeal.τ).loc Cert.ModulateIdeal.main_arg3)) →
    ∃ (v0 : (c : Dev Cert.ModulateIdeal.nD) → Buf (Elt Ideal) ((c.tc : Thread Cert.ModulateIdeal.nD Cert.ModulateIdeal.τ).loc Cert.ModulateIdeal.main_v1)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v1) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
          ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v19) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1)
          ∧ r.2.mem ((c.tc : Thread Cert.ModulateRefIdeal.nD Cert.ModulateRefIdeal.τ).loc Cert.ModulateRefIdeal.main_arg2) = m' ((c.tc : Thread Cert.ModulateRefIdeal.nD Cert.ModulateRefIdeal.τ).loc Cert.ModulateRefIdeal.main_arg2)
          ∧ r.2.mem ((c.tc : Thread Cert.ModulateRefIdeal.nD Cert.ModulateRefIdeal.τ).loc Cert.ModulateRefIdeal.main_arg3) = m' ((c.tc : Thread Cert.ModulateRefIdeal.nD Cert.ModulateRefIdeal.τ).loc Cert.ModulateRefIdeal.main_arg3))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)
      ∧ m' ((c.tc : Thread Cert.RouteRefIdeal.nD Cert.RouteRefIdeal.τ).loc Cert.RouteRefIdeal.main_arg5) = m ((c.tc : Thread Cert.RouteIdeal.nD Cert.RouteIdeal.τ).loc Cert.RouteIdeal.main_arg5)) →
    ∃ (v0 : (c : Dev Cert.RouteIdeal.nD) → Buf (Elt Ideal) ((c.tc : Thread Cert.RouteIdeal.nD Cert.RouteIdeal.τ).loc Cert.RouteIdeal.main_v4_0)) (v1 : (c : Dev Cert.RouteIdeal.nD) → Buf (Elt Ideal) ((c.tc : Thread Cert.RouteIdeal.nD Cert.RouteIdeal.τ).loc Cert.RouteIdeal.main_v4_1)) (v2 : (c : Dev Cert.RouteIdeal.nD) → Buf (Elt Ideal) ((c.tc : Thread Cert.RouteIdeal.nD Cert.RouteIdeal.τ).loc Cert.RouteIdeal.main_v4_2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v4_0) = v0 c
          ∧ r.2.mem ((c.tc : Thread Cert.RouteIdeal.nD Cert.RouteIdeal.τ).loc Cert.RouteIdeal.main_v4_1) = v1 c
          ∧ r.2.mem ((c.tc : Thread Cert.RouteIdeal.nD Cert.RouteIdeal.τ).loc Cert.RouteIdeal.main_v4_2) = v2 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
          ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v25) = v0 c
          ∧ r.2.mem ((c.tc : Thread Cert.RouteRefIdeal.nD Cert.RouteRefIdeal.τ).loc Cert.RouteRefIdeal.main_v28) = v1 c
          ∧ r.2.mem ((c.tc : Thread Cert.RouteRefIdeal.nD Cert.RouteRefIdeal.τ).loc Cert.RouteRefIdeal.main_v31) = v2 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4)
          ∧ r.2.mem ((c.tc : Thread Cert.RouteRefIdeal.nD Cert.RouteRefIdeal.τ).loc Cert.RouteRefIdeal.main_arg5) = m' ((c.tc : Thread Cert.RouteRefIdeal.nD Cert.RouteRefIdeal.τ).loc Cert.RouteRefIdeal.main_arg5))

def Claim : Prop :=
  ∃ (hKernel : Cert.Kernel.Facts) (hKernelIdeal : Cert.KernelIdeal.Facts) (hReferenceIdeal : Cert.ReferenceIdeal.Facts) (hQueries : Cert.Queries.Facts) (hQueriesIdeal : Cert.QueriesIdeal.Facts) (hQueriesRefIdeal : Cert.QueriesRefIdeal.Facts) (hMobaRows : Cert.MobaRows.Facts) (hMobaRowsIdeal : Cert.MobaRowsIdeal.Facts) (hMobaRowsRefIdeal : Cert.MobaRowsRefIdeal.Facts) (hRwkvRows : Cert.RwkvRows.Facts) (hRwkvRowsIdeal : Cert.RwkvRowsIdeal.Facts) (hRwkvRowsRefIdeal : Cert.RwkvRowsRefIdeal.Facts) (hDsaRows : Cert.DsaRows.Facts) (hDsaRowsIdeal : Cert.DsaRowsIdeal.Facts) (hDsaRowsRefIdeal : Cert.DsaRowsRefIdeal.Facts) (hGates : Cert.Gates.Facts) (hGatesIdeal : Cert.GatesIdeal.Facts) (hGatesRefIdeal : Cert.GatesRefIdeal.Facts) (hMerge : Cert.Merge.Facts) (hMergeIdeal : Cert.MergeIdeal.Facts) (hMergeRefIdeal : Cert.MergeRefIdeal.Facts) (hModulate : Cert.Modulate.Facts) (hModulateIdeal : Cert.ModulateIdeal.Facts) (hModulateRefIdeal : Cert.ModulateRefIdeal.Facts) (hFinalNorm : Cert.FinalNorm.Facts) (hFinalNormIdeal : Cert.FinalNormIdeal.Facts) (hFinalNormRefIdeal : Cert.FinalNormRefIdeal.Facts) (hRoute : Cert.Route.Facts) (hRouteIdeal : Cert.RouteIdeal.Facts) (hRouteRefIdeal : Cert.RouteRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Queries (hQueries := hQueries)
    ∧ quiescent_QueriesIdeal (hQueriesIdeal := hQueriesIdeal)
    ∧ quiescent_QueriesRefIdeal (hQueriesRefIdeal := hQueriesRefIdeal)
    ∧ quiescent_MobaRows (hMobaRows := hMobaRows)
    ∧ quiescent_MobaRowsIdeal (hMobaRowsIdeal := hMobaRowsIdeal)
    ∧ quiescent_MobaRowsRefIdeal (hMobaRowsRefIdeal := hMobaRowsRefIdeal)
    ∧ quiescent_RwkvRows (hRwkvRows := hRwkvRows)
    ∧ quiescent_RwkvRowsIdeal (hRwkvRowsIdeal := hRwkvRowsIdeal)
    ∧ quiescent_RwkvRowsRefIdeal (hRwkvRowsRefIdeal := hRwkvRowsRefIdeal)
    ∧ quiescent_DsaRows (hDsaRows := hDsaRows)
    ∧ quiescent_DsaRowsIdeal (hDsaRowsIdeal := hDsaRowsIdeal)
    ∧ quiescent_DsaRowsRefIdeal (hDsaRowsRefIdeal := hDsaRowsRefIdeal)
    ∧ quiescent_Gates (hGates := hGates)
    ∧ quiescent_GatesIdeal (hGatesIdeal := hGatesIdeal)
    ∧ quiescent_GatesRefIdeal (hGatesRefIdeal := hGatesRefIdeal)
    ∧ quiescent_Merge (hMerge := hMerge)
    ∧ quiescent_MergeIdeal (hMergeIdeal := hMergeIdeal)
    ∧ quiescent_MergeRefIdeal (hMergeRefIdeal := hMergeRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_Route (hRoute := hRoute)
    ∧ quiescent_RouteIdeal (hRouteIdeal := hRouteIdeal)
    ∧ quiescent_RouteRefIdeal (hRouteRefIdeal := hRouteRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Queries_QueriesIdeal
    ∧ algebraic_QueriesIdeal_QueriesRefIdeal (hQueriesIdeal := hQueriesIdeal) (hQueriesRefIdeal := hQueriesRefIdeal)
    ∧ preserves_MobaRows_MobaRowsIdeal
    ∧ algebraic_MobaRowsIdeal_MobaRowsRefIdeal (hMobaRowsIdeal := hMobaRowsIdeal) (hMobaRowsRefIdeal := hMobaRowsRefIdeal)
    ∧ preserves_RwkvRows_RwkvRowsIdeal
    ∧ algebraic_RwkvRowsIdeal_RwkvRowsRefIdeal (hRwkvRowsIdeal := hRwkvRowsIdeal) (hRwkvRowsRefIdeal := hRwkvRowsRefIdeal)
    ∧ preserves_DsaRows_DsaRowsIdeal
    ∧ algebraic_DsaRowsIdeal_DsaRowsRefIdeal (hDsaRowsIdeal := hDsaRowsIdeal) (hDsaRowsRefIdeal := hDsaRowsRefIdeal)
    ∧ preserves_Gates_GatesIdeal
    ∧ algebraic_GatesIdeal_GatesRefIdeal (hGatesIdeal := hGatesIdeal) (hGatesRefIdeal := hGatesRefIdeal)
    ∧ preserves_Merge_MergeIdeal
    ∧ algebraic_MergeIdeal_MergeRefIdeal (hMergeIdeal := hMergeIdeal) (hMergeRefIdeal := hMergeRefIdeal)
    ∧ preserves_Modulate_ModulateIdeal
    ∧ algebraic_ModulateIdeal_ModulateRefIdeal (hModulateIdeal := hModulateIdeal) (hModulateRefIdeal := hModulateRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_Route_RouteIdeal
    ∧ algebraic_RouteIdeal_RouteRefIdeal (hRouteIdeal := hRouteIdeal) (hRouteRefIdeal := hRouteRefIdeal)
-- ==== Pre_finite.lean ====
abbrev S4x4096x1536 : Shape := ⟨3, ![4, 4096, 1536]⟩
abbrev S4x4096x1024 : Shape := ⟨3, ![4, 4096, 1024]⟩
abbrev S4x16x512 : Shape := ⟨3, ![4, 16, 512]⟩
abbrev S_ : Shape := ⟨0, ![]⟩

class Facts : Prop where
  bcast_S_S4x4096x1536 : S_.BroadcastsInDim S4x4096x1536 (![] : Fin 0 → Fin S4x4096x1536.rank)
  reducesTo_S4x4096x1536_S_d0_1_2 : S4x4096x1536.ReducesTo [0, 1, 2] S_
  h_S_ : 0 < S_.numel
  bitsLt_bf16_f32 : FTy.bits .bf16 < FTy.bits .f32
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S4x16x512 : S_.BroadcastsInDim S4x16x512 (![] : Fin 0 → Fin S4x16x512.rank)
  reducesTo_S4x16x512_S_d0_1_2 : S4x16x512.ReducesTo [0, 1, 2] S_

variable [Facts]

def fn {F : FTy → Type} [FloatOps F] (main_arg0 : FVec F S4x4096x1536 .f32) (main_arg1 : FVec F S4x4096x1024 .bf16) (main_arg2 : FVec F S4x16x512 .f32) : IVec S_ 1 :=
  let main_v0 : FVec F S4x4096x1536 .f32 := Host.absf main_arg0
  let main_cst : FVec F S_ .f32 := constant S_ .f32 0x7F800000#32
  let main_v1 : FVec F S4x4096x1536 .f32 := broadcastInDim S4x4096x1536 ![] bcast_S_S4x4096x1536 main_cst
  let main_v2 : IVec S4x4096x1536 1 := cmpf .olt main_v0 main_v1
  let main_c : IVec S_ 1 := constantI S_ 1 1#1
  let main_v3 : IVec S_ 1 := (fun x v => Host.reduce IntOp.andi x v reducesTo_S4x4096x1536_S_d0_1_2 h_S_) main_v2 main_c
  let main_v4 : FVec F S4x4096x1024 .f32 := (extf .f32 · bitsLt_bf16_f32) main_arg1
  let main_v5 : FVec F S4x4096x1024 .f32 := Host.absf main_v4
  let main_cst_0 : FVec F S_ .f32 := constant S_ .f32 0x7F800000#32
  let main_v6 : FVec F S4x4096x1024 .f32 := broadcastInDim S4x4096x1024 ![] bcast_S_S4x4096x1024 main_cst_0
  let main_v7 : IVec S4x4096x1024 1 := cmpf .olt main_v5 main_v6
  let main_c_1 : IVec S_ 1 := constantI S_ 1 1#1
  let main_v8 : IVec S_ 1 := (fun x v => Host.reduce IntOp.andi x v reducesTo_S4x4096x1024_S_d0_1_2 h_S_) main_v7 main_c_1
  let main_v9 : IVec S_ 1 := andi main_v3 main_v8
  let main_v10 : FVec F S4x16x512 .f32 := Host.absf main_arg2
  let main_cst_2 : FVec F S_ .f32 := constant S_ .f32 0x7F800000#32
  let main_v11 : FVec F S4x16x512 .f32 := broadcastInDim S4x16x512 ![] bcast_S_S4x16x512 main_cst_2
  let main_v12 : IVec S4x16x512 1 := cmpf .olt main_v10 main_v11
  let main_c_3 : IVec S_ 1 := constantI S_ 1 1#1
  let main_v13 : IVec S_ 1 := (fun x v => Host.reduce IntOp.andi x v reducesTo_S4x16x512_S_d0_1_2 h_S_) main_v12 main_c_3
  let main_v14 : IVec S_ 1 := andi main_v9 main_v13
  main_v14
-- ==== Kernel.lean ====
abbrev S4x4096x1536 : Shape := ⟨3, ![4, 4096, 1536]⟩
abbrev S4x4096x1024 : Shape := ⟨3, ![4, 4096, 1024]⟩
abbrev S4x16x512 : Shape := ⟨3, ![4, 16, 512]⟩
abbrev S4x4096x512 : Shape := ⟨3, ![4, 4096, 512]⟩
abbrev S1x128x128 : Shape := ⟨3, ![1, 128, 128]⟩
abbrev S1x4096x128 : Shape := ⟨3, ![1, 4096, 128]⟩
abbrev S1x16x128 : Shape := ⟨3, ![1, 16, 128]⟩
abbrev S128x128 : Shape := ⟨2, ![128, 128]⟩
abbrev S1x512x128 : Shape := ⟨3, ![1, 512, 128]⟩
abbrev S512x128 : Shape := ⟨2, ![512, 128]⟩
abbrev S16x128 : Shape := ⟨2, ![16, 128]⟩
abbrev S1x128 : Shape := ⟨2, ![1, 128]⟩
abbrev S128x1 : Shape := ⟨2, ![128, 1]⟩
abbrev S1x512 : Shape := ⟨2, ![1, 512]⟩
abbrev S128x512 : Shape := ⟨2, ![128, 512]⟩
abbrev S128x16 : Shape := ⟨2, ![128, 16]⟩
abbrev S16x512 : Shape := ⟨2, ![16, 512]⟩
abbrev S128 : Shape := ⟨1, ![128]⟩
abbrev S1x1024x128 : Shape := ⟨3, ![1, 1024, 128]⟩
abbrev S1024x128 : Shape := ⟨2, ![1024, 128]⟩
abbrev S1x1024 : Shape := ⟨2, ![1, 1024]⟩
abbrev S128x1024 : Shape := ⟨2, ![128, 1024]⟩
abbrev S16x1024 : Shape := ⟨2, ![16, 1024]⟩
abbrev S1x1536x128 : Shape := ⟨3, ![1, 1536, 128]⟩
abbrev S1536x128 : Shape := ⟨2, ![1536, 128]⟩
abbrev S1x1536 : Shape := ⟨2, ![1, 1536]⟩
abbrev S128x1536 : Shape := ⟨2, ![128, 1536]⟩
abbrev S16x1536 : Shape := ⟨2, ![16, 1536]⟩
abbrev S1x2048x128 : Shape := ⟨3, ![1, 2048, 128]⟩
abbrev S2048x128 : Shape := ⟨2, ![2048, 128]⟩
abbrev S1x2048 : Shape := ⟨2, ![1, 2048]⟩
abbrev S128x2048 : Shape := ⟨2, ![128, 2048]⟩
abbrev S16x2048 : Shape := ⟨2, ![16, 2048]⟩
abbrev S1x2560x128 : Shape := ⟨3, ![1, 2560, 128]⟩
abbrev S2560x128 : Shape := ⟨2, ![2560, 128]⟩
abbrev S1x2560 : Shape := ⟨2, ![1, 2560]⟩
abbrev S128x2560 : Shape := ⟨2, ![128, 2560]⟩
abbrev S16x2560 : Shape := ⟨2, ![16, 2560]⟩
abbrev S1x3072x128 : Shape := ⟨3, ![1, 3072, 128]⟩
abbrev S3072x128 : Shape := ⟨2, ![3072, 128]⟩
abbrev S1x3072 : Shape := ⟨2, ![1, 3072]⟩
abbrev S128x3072 : Shape := ⟨2, ![128, 3072]⟩
abbrev S16x3072 : Shape := ⟨2, ![16, 3072]⟩
abbrev S1x3584x128 : Shape := ⟨3, ![1, 3584, 128]⟩
abbrev S3584x128 : Shape := ⟨2, ![3584, 128]⟩
abbrev S1x3584 : Shape := ⟨2, ![1, 3584]⟩
abbrev S128x3584 : Shape := ⟨2, ![128, 3584]⟩
abbrev S16x3584 : Shape := ⟨2, ![16, 3584]⟩
abbrev S4096x128 : Shape := ⟨2, ![4096, 128]⟩
abbrev S1x4096 : Shape := ⟨2, ![1, 4096]⟩
abbrev S128x4096 : Shape := ⟨2, ![128, 4096]⟩
abbrev S16x4096 : Shape := ⟨2, ![16, 4096]⟩

abbrev nBuf : Space → Nat
  | .hbm => 4
  | .vmem => 10
  | .smem => 0
  | _ => 0

abbrev bufTy : (tb : Table) → Fin (tcTables nBuf tb) → BufTy
  | .hbm, ⟨0, _⟩ => ⟨S4x4096x1536, .f32⟩
  | .hbm, ⟨1, _⟩ => ⟨S4x4096x1024, .bf16⟩
  | .hbm, ⟨2, _⟩ => ⟨S4x16x512, .f32⟩
  | .hbm, ⟨3, _⟩ => ⟨S4x4096x512, .f32⟩
  | .local _ .vmem, ⟨0, _⟩ => ⟨S1x128x128, .f32⟩
  | .local _ .vmem, ⟨1, _⟩ => ⟨S1x128x128, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x16x128, .f32⟩
  | .local _ .vmem, ⟨7, _⟩ => ⟨S1x16x128, .f32⟩
  | .local _ .vmem, ⟨8, _⟩ => ⟨S1x128x128, .f32⟩
  | .local _ .vmem, ⟨9, _⟩ => ⟨S1x128x128, .f32⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 32], ![false, false, false]⟩

def k0_cond1 (i : grid0.Coords) : BitVec 1 :=
  let c0_i32_1 : BitVec 32 := 0#32
  let arg2 : BitVec 32 := BitVec.ofNat 32 (i 2).val
  let c1_i32 : BitVec 32 := 1#32
  let v2 : BitVec 32 := Scalar.addi arg2 c1_i32
  let c128_i32_0 : BitVec 32 := 128#32
  let v3 : BitVec 32 := Scalar.muli v2 c128_i32_0
  let v4 : BitVec 32 := Scalar.addi c0_i32_1 v3
  let c1_i32_2 : BitVec 32 := 1#32
  let v5 : BitVec 32 := Scalar.subi v4 c1_i32_2
  let c0_i32_3 : BitVec 32 := 0#32
  let v6 : BitVec 1 := Scalar.cmpi .sge v5 c0_i32_3
  let c512_i32 : BitVec 32 := 512#32
  let v7 : BitVec 1 := Scalar.cmpi .slt v5 c512_i32
  let v8 : BitVec 1 := Scalar.andi v6 v7
  let v9 : BitVec 32 := Scalar.extui v8
  let c0_i32_4 : BitVec 32 := 0#32
  let v10 : BitVec 1 := Scalar.cmpi .ne v9 c0_i32_4
  v10

def k0_cond2 (i : grid0.Coords) : BitVec 1 :=
  let c0_i32_1 : BitVec 32 := 0#32
  let arg2 : BitVec 32 := BitVec.ofNat 32 (i 2).val
  let c1_i32 : BitVec 32 := 1#32
  let v2 : BitVec 32 := Scalar.addi arg2 c1_i32
  let c128_i32_0 : BitVec 32 := 128#32
  let v3 : BitVec 32 := Scalar.muli v2 c128_i32_0
  let v4 : BitVec 32 := Scalar.addi c0_i32_1 v3
  let c1_i32_2 : BitVec 32 := 1#32
  let v5 : BitVec 32 := Scalar.subi v4 c1_i32_2
  let c512_i32_5 : BitVec 32 := 512#32
  let v11 : BitVec 1 := Scalar.cmpi .sge v5 c512_i32_5
  let c1024_i32 : BitVec 32 := 1024#32
  let v12 : BitVec 1 := Scalar.cmpi .slt v5 c1024_i32
  let v13 : BitVec 1 := Scalar.andi v11 v12
  let v14 : BitVec 32 := Scalar.extui v13
  let c0_i32_6 : BitVec 32 := 0#32
  let v15 : BitVec 1 := Scalar.cmpi .ne v14 c0_i32_6
  v15

def k0_cond3 (i : grid0.Coords) : BitVec 1 :=
  let c0_i32_1 : BitVec 32 := 0#32
  let arg2 : BitVec 32 := BitVec.ofNat 32 (i 2).val
  let c1_i32 : BitVec 32 := 1#32
  let v2 : BitVec 32 := Scalar.addi arg2 c1_i32
  let c128_i32_0 : BitVec 32 := 128#32
  let v3 : BitVec 32 := Scalar.muli v2 c128_i32_0
  let v4 : BitVec 32 := Scalar.addi c0_i32_1 v3
  let c1_i32_2 : BitVec 32 := 1#32
  let v5 : BitVec 32 := Scalar.subi v4 c1_i32_2
  let c1024_i32_7 : BitVec 32 := 1024#32
  let v16 : BitVec 1 := Scalar.cmpi .sge v5 c1024_i32_7
  let c1536_i32 : BitVec 32 := 1536#32
  let v17 : BitVec 1 := Scalar.cmpi .slt v5 c1536_i32
  let v18 : BitVec 1 := Scalar.andi v16 v17
  let v19 : BitVec 32 := Scalar.extui v18
  let c0_i32_8 : BitVec 32 := 0#32
  let v20 : BitVec 1 := Scalar.cmpi .ne v19 c0_i32_8
  v20

def k0_cond4 (i : grid0.Coords) : BitVec 1 :=
  let c0_i32_1 : BitVec 32 := 0#32
  let arg2 : BitVec 32 := BitVec.ofNat 32 (i 2).val
  let c1_i32 : BitVec 32 := 1#32
  let v2 : BitVec 32 := Scalar.addi arg2 c1_i32
  let c128_i32_0 : BitVec 32 := 128#32
  let v3 : BitVec 32 := Scalar.muli v2 c128_i32_0
  let v4 : BitVec 32 := Scalar.addi c0_i32_1 v3
  let c1_i32_2 : BitVec 32 := 1#32
  let v5 : BitVec 32 := Scalar.subi v4 c1_i32_2
  let c1536_i32_9 : BitVec 32 := 1536#32
  let v21 : BitVec 1 := Scalar.cmpi .sge v5 c1536_i32_9
  let c2048_i32 : BitVec 32 := 2048#32
  let v22 : BitVec 1 := Scalar.cmpi .slt v5 c2048_i32
  let v23 : BitVec 1 := Scalar.andi v21 v22
  let v24 : BitVec 32 := Scalar.extui v23
  let c0_i32_10 : BitVec 32 := 0#32
  let v25 : BitVec 1 := Scalar.cmpi .ne v24 c0_i32_10
  v25

def k0_cond5 (i : grid0.Coords) : BitVec 1 :=
  let c0_i32_1 : BitVec 32 := 0#32
  let arg2 : BitVec 32 := BitVec.ofNat 32 (i 2).val
  let c1_i32 : BitVec 32 := 1#32
  let v2 : BitVec 32 := Scalar.addi arg2 c1_i32
  let c128_i32_0 : BitVec 32 := 128#32
  let v3 : BitVec 32 := Scalar.muli v2 c128_i32_0
  let v4 : BitVec 32 := Scalar.addi c0_i32_1 v3
  let c1_i32_2 : BitVec 32 := 1#32
  let v5 : BitVec 32 := Scalar.subi v4 c1_i32_2
  let c2048_i32_11 : BitVec 32 := 2048#32
  let v26 : BitVec 1 := Scalar.cmpi .sge v5 c2048_i32_11
  let c2560_i32 : BitVec 32 := 2560#32
  let v27 : BitVec 1 := Scalar.cmpi .slt v5 c2560_i32
  let v28 : BitVec 1 := Scalar.andi v26 v27
  let v29 : BitVec 32 := Scalar.extui v28
  let c0_i32_12 : BitVec 32 := 0#32
  let v30 : BitVec 1 := Scalar.cmpi .ne v29 c0_i32_12
  v30

def k0_cond6 (i : grid0.Coords) : BitVec 1 :=
  let c0_i32_1 : BitVec 32 := 0#32
  let arg2 : BitVec 32 := BitVec.ofNat 32 (i 2).val
  let c1_i32 : BitVec 32 := 1#32
  let v2 : BitVec 32 := Scalar.addi arg2 c1_i32
  let c128_i32_0 : BitVec 32 := 128#32
  let v3 : BitVec 32 := Scalar.muli v2 c128_i32_0
  let v4 : BitVec 32 := Scalar.addi c0_i32_1 v3
  let c1_i32_2 : BitVec 32 := 1#32
  let v5 : BitVec 32 := Scalar.subi v4 c1_i32_2
  let c2560_i32_13 : BitVec 32 := 2560#32
  let v31 : BitVec 1 := Scalar.cmpi .sge v5 c2560_i32_13
  let c3072_i32 : BitVec 32 := 3072#32
  let v32 : BitVec 1 := Scalar.cmpi .slt v5 c3072_i32
  let v33 : BitVec 1 := Scalar.andi v31 v32
  let v34 : BitVec 32 := Scalar.extui v33
  let c0_i32_14 : BitVec 32 := 0#32
  let v35 : BitVec 1 := Scalar.cmpi .ne v34 c0_i32_14
  v35

def k0_cond7 (i : grid0.Coords) : BitVec 1 :=
  let c0_i32_1 : BitVec 32 := 0#32
  let arg2 : BitVec 32 := BitVec.ofNat 32 (i 2).val
  let c1_i32 : BitVec 32 := 1#32
  let v2 : BitVec 32 := Scalar.addi arg2 c1_i32
  let c128_i32_0 : BitVec 32 := 128#32
  let v3 : BitVec 32 := Scalar.muli v2 c128_i32_0
  let v4 : BitVec 32 := Scalar.addi c0_i32_1 v3
  let c1_i32_2 : BitVec 32 := 1#32
  let v5 : BitVec 32 := Scalar.subi v4 c1_i32_2
  let c3072_i32_15 : BitVec 32 := 3072#32
  let v36 : BitVec 1 := Scalar.cmpi .sge v5 c3072_i32_15
  let c3584_i32 : BitVec 32 := 3584#32
  let v37 : BitVec 1 := Scalar.cmpi .slt v5 c3584_i32
  let v38 : BitVec 1 := Scalar.andi v36 v37
  let v39 : BitVec 32 := Scalar.extui v38
  let c0_i32_16 : BitVec 32 := 0#32
  let v40 : BitVec 1 := Scalar.cmpi .ne v39 c0_i32_16
  v40

def k0_cond8 (i : grid0.Coords) : BitVec 1 :=
  let c0_i32_1 : BitVec 32 := 0#32
  let arg2 : BitVec 32 := BitVec.ofNat 32 (i 2).val
  let c1_i32 : BitVec 32 := 1#32
  let v2 : BitVec 32 := Scalar.addi arg2 c1_i32
  let c128_i32_0 : BitVec 32 := 128#32
  let v3 : BitVec 32 := Scalar.muli v2 c128_i32_0
  let v4 : BitVec 32 := Scalar.addi c0_i32_1 v3
  let c1_i32_2 : BitVec 32 := 1#32
  let v5 : BitVec 32 := Scalar.subi v4 c1_i32_2
  let c3584_i32_17 : BitVec 32 := 3584#32
  let v41 : BitVec 1 := Scalar.cmpi .sge v5 c3584_i32_17
  let c4096_i32 : BitVec 32 := 4096#32
  let v42 : BitVec 1 := Scalar.cmpi .slt v5 c4096_i32
  let v43 : BitVec 1 := Scalar.andi v41 v42
  let v44 : BitVec 32 := Scalar.extui v43
  let c0_i32_18 : BitVec 32 := 0#32
  let v45 : BitVec 1 := Scalar.cmpi .ne v44 c0_i32_18
  v45

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x1536 : Shape := ⟨3, ![4, 4096, 1536]⟩
abbrev S4x4096x1024 : Shape := ⟨3, ![4, 4096, 1024]⟩
abbrev S4x16x512 : Shape := ⟨3, ![4, 16, 512]⟩
abbrev S4x4096x512 : Shape := ⟨3, ![4, 4096, 512]⟩
abbrev S4x4096x8x64 : Shape := ⟨4, ![4, 4096, 8, 64]⟩
abbrev S4x16x256x8x64 : Shape := ⟨5, ![4, 16, 256, 8, 64]⟩
abbrev S4x8x16x256x64 : Shape := ⟨5, ![4, 8, 16, 256, 64]⟩
abbrev S4x16x8x64 : Shape := ⟨4, ![4, 16, 8, 64]⟩
abbrev S4x8x16x64 : Shape := ⟨4, ![4, 8, 16, 64]⟩
abbrev S4 : Shape := ⟨1, ![4]⟩
abbrev S4x1x1x1 : Shape := ⟨4, ![4, 1, 1, 1]⟩
abbrev S8 : Shape := ⟨1, ![8]⟩
abbrev S1x8x1x1 : Shape := ⟨4, ![1, 8, 1, 1]⟩
abbrev S4096 : Shape := ⟨1, ![4096]⟩
abbrev S_ : Shape := ⟨0, ![]⟩
abbrev S4x8x4096x16 : Shape := ⟨4, ![4, 8, 4096, 16]⟩
abbrev S16 : Shape := ⟨1, ![16]⟩
abbrev S1x16 : Shape := ⟨2, ![1, 16]⟩
abbrev S4096x1 : Shape := ⟨2, ![4096, 1]⟩
abbrev S4096x16 : Shape := ⟨2, ![4096, 16]⟩
abbrev S1x1x4096x16 : Shape := ⟨4, ![1, 1, 4096, 16]⟩
abbrev S4x8x4096x3 : Shape := ⟨4, ![4, 8, 4096, 3]⟩
abbrev S1x1x4096x1 : Shape := ⟨4, ![1, 1, 4096, 1]⟩
abbrev S4x8x4096x1 : Shape := ⟨4, ![4, 8, 4096, 1]⟩
abbrev S4x8x4096x4 : Shape := ⟨4, ![4, 8, 4096, 4]⟩
abbrev S4x8x4096x4x1 : Shape := ⟨5, ![4, 8, 4096, 4, 1]⟩
abbrev S4x8x4096x4x3 : Shape := ⟨5, ![4, 8, 4096, 4, 3]⟩
abbrev S4x8x4096x4x256x64 : Shape := ⟨6, ![4, 8, 4096, 4, 256, 64]⟩
abbrev S4x8x4096x4x256 : Shape := ⟨5, ![4, 8, 4096, 4, 256]⟩
abbrev S4x8x4096x1x1 : Shape := ⟨5, ![4, 8, 4096, 1, 1]⟩
abbrev S256 : Shape := ⟨1, ![256]⟩
abbrev S1x1x1x1x256 : Shape := ⟨5, ![1, 1, 1, 1, 256]⟩
abbrev S4x8x4096x1x256 : Shape := ⟨5, ![4, 8, 4096, 1, 256]⟩
abbrev S4x8x4096x3x1 : Shape := ⟨5, ![4, 8, 4096, 3, 1]⟩
abbrev S4x8x4096x3x256 : Shape := ⟨5, ![4, 8, 4096, 3, 256]⟩
abbrev S1x1x4096x1x1 : Shape := ⟨5, ![1, 1, 4096, 1, 1]⟩
abbrev S4x8x4096x1024 : Shape := ⟨4, ![4, 8, 4096, 1024]⟩
abbrev S4x8x4096 : Shape := ⟨3, ![4, 8, 4096]⟩

abbrev nBuf : Space → Nat
  | .hbm => 156
  | .vmem => 0
  | .smem => 0
  | _ => 0

abbrev hbmTy0_0 (i : Nat) : BufTy := match i % 128 with
  | 0 => ⟨S4x4096x1536, .f32⟩
  | 1 => ⟨S4x4096x1024, .bf16⟩
  | 2 => ⟨S4x16x512, .f32⟩
  | 3 => ⟨S4x4096x512, .f32⟩
  | 4 => ⟨S4x4096x8x64, .f32⟩
  | 5 => ⟨S4x4096x1024, .f32⟩
  | 6 => ⟨S4x4096x512, .f32⟩
  | 7 => ⟨S4x16x256x8x64, .f32⟩
  | 8 => ⟨S4x8x16x256x64, .f32⟩
  | 9 => ⟨S4x4096x512, .f32⟩
  | 10 => ⟨S4x16x256x8x64, .f32⟩
  | 11 => ⟨S4x8x16x256x64, .f32⟩
  | 12 => ⟨S4x16x8x64, .f32⟩
  | 13 => ⟨S4x8x16x64, .f32⟩
  | 14 => ⟨S4, .i32⟩
  | 15 => ⟨S4x1x1x1, .i32⟩
  | 16 => ⟨S8, .i32⟩
  | 17 => ⟨S1x8x1x1, .i32⟩
  | 18 => ⟨S4096, .i32⟩
  | 19 => ⟨S_, .i32⟩
  | 20 => ⟨S_, .i32⟩
  | 21 => ⟨S4096, .i32⟩
  | 22 => ⟨S4096, .i32⟩
  | 23 => ⟨S4096, .i32⟩
  | 24 => ⟨S_, .i32⟩
  | 25 => ⟨S4096, .i32⟩
  | 26 => ⟨S4096, .i1⟩
  | 27 => ⟨S4096, .i32⟩
  | 28 => ⟨S4096, .i32⟩
  | 29 => ⟨S_, .i32⟩
  | 30 => ⟨S4096, .i32⟩
  | 31 => ⟨S4096, .i1⟩
  | 32 => ⟨S4096, .i1⟩
  | 33 => ⟨S_, .i32⟩
  | 34 => ⟨S4096, .i32⟩
  | 35 => ⟨S4096, .i32⟩
  | 36 => ⟨S4096, .i32⟩
  | 37 => ⟨S4x8x4096x16, .f32⟩
  | 38 => ⟨S16, .i32⟩
  | 39 => ⟨S1x16, .i32⟩
  | 40 => ⟨S4096x1, .i32⟩
  | 41 => ⟨S4096x16, .i32⟩
  | 42 => ⟨S4096x16, .i32⟩
  | 43 => ⟨S4096x16, .i1⟩
  | 44 => ⟨S1x1x4096x16, .i1⟩
  | 45 => ⟨S_, .f32⟩
  | 46 => ⟨S_, .f32⟩
  | 47 => ⟨S4x8x4096x16, .i1⟩
  | 48 => ⟨S4x8x4096x16, .f32⟩
  | 49 => ⟨S4x8x4096x16, .f32⟩
  | 50 => ⟨S4x8x4096x3, .f32⟩
  | 51 => ⟨S4x8x4096x3, .i32⟩
  | 52 => ⟨S1x1x4096x1, .i32⟩
  | 53 => ⟨S4x8x4096x3, .i32⟩
  | 54 => ⟨S4x8x4096x3, .i1⟩
  | 55 => ⟨S1x1x4096x1, .i32⟩
  | 56 => ⟨S4x8x4096x1, .i32⟩
  | 57 => ⟨S4x8x4096x4, .i32⟩
  | 58 => ⟨S_, .i32⟩
  | 59 => ⟨S4x1x1x1, .i32⟩
  | 60 => ⟨S4x1x1x1, .i1⟩
  | 61 => ⟨S_, .i32⟩
  | 62 => ⟨S4x1x1x1, .i32⟩
  | 63 => ⟨S4x1x1x1, .i32⟩
  | 64 => ⟨S4x1x1x1, .i32⟩
  | 65 => ⟨S_, .i32⟩
  | 66 => ⟨S1x8x1x1, .i32⟩
  | 67 => ⟨S1x8x1x1, .i1⟩
  | 68 => ⟨S_, .i32⟩
  | 69 => ⟨S1x8x1x1, .i32⟩
  | 70 => ⟨S1x8x1x1, .i32⟩
  | 71 => ⟨S1x8x1x1, .i32⟩
  | 72 => ⟨S_, .i32⟩
  | 73 => ⟨S4x8x4096x4, .i32⟩
  | 74 => ⟨S4x8x4096x4, .i1⟩
  | 75 => ⟨S_, .i32⟩
  | 76 => ⟨S4x8x4096x4, .i32⟩
  | 77 => ⟨S4x8x4096x4, .i32⟩
  | 78 => ⟨S4x8x4096x4, .i32⟩
  | 79 => ⟨S4x8x4096x4, .i32⟩
  | 80 => ⟨S4x8x4096x4, .i32⟩
  | 81 => ⟨S4x8x4096x4x1, .i32⟩
  | 82 => ⟨S4x8x4096x4x1, .i32⟩
  | 83 => ⟨S4x8x4096x4x1, .i32⟩
  | 84 => ⟨S4x8x4096x4x3, .i32⟩
  | 85 => ⟨S4x8x4096x4x256x64, .f32⟩
  | 86 => ⟨S_, .i32⟩
  | 87 => ⟨S4x1x1x1, .i32⟩
  | 88 => ⟨S4x1x1x1, .i1⟩
  | 89 => ⟨S_, .i32⟩
  | 90 => ⟨S4x1x1x1, .i32⟩
  | 91 => ⟨S4x1x1x1, .i32⟩
  | 92 => ⟨S4x1x1x1, .i32⟩
  | 93 => ⟨S_, .i32⟩
  | 94 => ⟨S1x8x1x1, .i32⟩
  | 95 => ⟨S1x8x1x1, .i1⟩
  | 96 => ⟨S_, .i32⟩
  | 97 => ⟨S1x8x1x1, .i32⟩
  | 98 => ⟨S1x8x1x1, .i32⟩
  | 99 => ⟨S1x8x1x1, .i32⟩
  | 100 => ⟨S_, .i32⟩
  | 101 => ⟨S4x8x4096x4, .i32⟩
  | 102 => ⟨S4x8x4096x4, .i1⟩
  | 103 => ⟨S_, .i32⟩
  | 104 => ⟨S4x8x4096x4, .i32⟩
  | 105 => ⟨S4x8x4096x4, .i32⟩
  | 106 => ⟨S4x8x4096x4, .i32⟩
  | 107 => ⟨S4x8x4096x4, .i32⟩
  | 108 => ⟨S4x8x4096x4, .i32⟩
  | 109 => ⟨S4x8x4096x4x1, .i32⟩
  | 110 => ⟨S4x8x4096x4x1, .i32⟩
  | 111 => ⟨S4x8x4096x4x1, .i32⟩
  | 112 => ⟨S4x8x4096x4x3, .i32⟩
  | 113 => ⟨S4x8x4096x4x256x64, .f32⟩
  | 114 => ⟨S4x8x4096x4x256, .f32⟩
  | 115 => ⟨S_, .f32⟩
  | 116 => ⟨S4x8x4096x4x256, .f32⟩
  | 117 => ⟨S4x8x4096x4x256, .f32⟩
  | 118 => ⟨S4x8x4096x1, .i32⟩
  | 119 => ⟨S4x8x4096x1x1, .i32⟩
  | 120 => ⟨S_, .i32⟩
  | 121 => ⟨S4x8x4096x1x1, .i32⟩
  | 122 => ⟨S4x8x4096x1x1, .i32⟩
  | 123 => ⟨S256, .i32⟩
  | 124 => ⟨S1x1x1x1x256, .i32⟩
  | 125 => ⟨S4x8x4096x1x256, .i32⟩
  | 126 => ⟨S4x8x4096x1x256, .i32⟩
  | 127 => ⟨S4x8x4096x1x256, .i32⟩
  | _ => ⟨S4x4096x1536, .f32⟩

abbrev hbmTy0_1 (i : Nat) : BufTy := match i % 128 with
  | 0 => ⟨S4x8x4096x3x1, .i1⟩
  | 1 => ⟨S4x8x4096x3x256, .i1⟩
  | 2 => ⟨S1x1x4096x1x1, .i32⟩
  | 3 => ⟨S4x8x4096x1x256, .i32⟩
  | 4 => ⟨S4x8x4096x1x256, .i1⟩
  | 5 => ⟨S4x8x4096x4x256, .i1⟩
  | 6 => ⟨S_, .f32⟩
  | 7 => ⟨S_, .f32⟩
  | 8 => ⟨S4x8x4096x4x256, .f32⟩
  | 9 => ⟨S4x8x4096x4x256, .f32⟩
  | 10 => ⟨S4x8x4096x1024, .f32⟩
  | 11 => ⟨S_, .f32⟩
  | 12 => ⟨S4x8x4096, .f32⟩
  | 13 => ⟨S_, .f32⟩
  | 14 => ⟨S4x8x4096, .f32⟩
  | 15 => ⟨S4x8x4096, .f32⟩
  | 16 => ⟨S4x8x4096x1, .f32⟩
  | 17 => ⟨S4x8x4096x1024, .f32⟩
  | 18 => ⟨S4x8x4096x1024, .f32⟩
  | 19 => ⟨S4x8x4096x1024, .f32⟩
  | 20 => ⟨S_, .f32⟩
  | 21 => ⟨S4x8x4096, .f32⟩
  | 22 => ⟨S4x8x4096x1, .f32⟩
  | 23 => ⟨S4x8x4096x1024, .f32⟩
  | 24 => ⟨S4x8x4096x1024, .f32⟩
  | 25 => ⟨S4x8x4096x4x256, .f32⟩
  | 26 => ⟨S4x4096x8x64, .f32⟩
  | 27 => ⟨S4x4096x512, .f32⟩
  | _ => ⟨S4x4096x1536, .f32⟩

abbrev hbmTy (i : Nat) : BufTy := match i / 128 with
  | 0 => hbmTy0_0 i
  | 1 => hbmTy0_1 i
  | _ => ⟨S4x4096x1536, .f32⟩

abbrev bufTy : (tb : Table) → Fin (tcTables nBuf tb) → BufTy
  | .hbm, ⟨i, _⟩ => hbmTy i
  | _, _ => ⟨S4x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_values : Ref sig .tc := ⟨.hbm, 50, rfl⟩
abbrev main_indices : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_0 : Ref sig .tc := ⟨.hbm, 58, rfl⟩
abbrev main_v32 : Ref sig .tc := ⟨.hbm, 59, rfl⟩
abbrev main_v33 : Ref sig .tc := ⟨.hbm, 60, rfl⟩
abbrev main_c_1 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_2 : Ref sig .tc := ⟨.hbm, 65, rfl⟩
abbrev main_v37 : Ref sig .tc := ⟨.hbm, 66, rfl⟩
abbrev main_v38 : Ref sig .tc := ⟨.hbm, 67, rfl⟩
abbrev main_c_3 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_4 : Ref sig .tc := ⟨.hbm, 72, rfl⟩
abbrev main_v42 : Ref sig .tc := ⟨.hbm, 73, rfl⟩
abbrev main_v43 : Ref sig .tc := ⟨.hbm, 74, rfl⟩
abbrev main_c_5 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_6 : Ref sig .tc := ⟨.hbm, 86, rfl⟩
abbrev main_v54 : Ref sig .tc := ⟨.hbm, 87, rfl⟩
abbrev main_v55 : Ref sig .tc := ⟨.hbm, 88, rfl⟩
abbrev main_c_7 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_8 : Ref sig .tc := ⟨.hbm, 93, rfl⟩
abbrev main_v59 : Ref sig .tc := ⟨.hbm, 94, rfl⟩
abbrev main_v60 : Ref sig .tc := ⟨.hbm, 95, rfl⟩
abbrev main_c_9 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_10 : Ref sig .tc := ⟨.hbm, 100, rfl⟩
abbrev main_v64 : Ref sig .tc := ⟨.hbm, 101, rfl⟩
abbrev main_v65 : Ref sig .tc := ⟨.hbm, 102, rfl⟩
abbrev main_c_11 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_12 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_13 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_14 : Ref sig .tc := ⟨.hbm, 134, rfl⟩
abbrev main_call2_v0 : Ref sig .tc := ⟨.hbm, 135, rfl⟩
abbrev main_call2_v1 : Ref sig .tc := ⟨.hbm, 136, rfl⟩
abbrev main_v94 : Ref sig .tc := ⟨.hbm, 137, rfl⟩
abbrev main_v95 : Ref sig .tc := ⟨.hbm, 138, rfl⟩
abbrev main_cst_15 : Ref sig .tc := ⟨.hbm, 139, rfl⟩
abbrev main_v96 : Ref sig .tc := ⟨.hbm, 140, rfl⟩
abbrev main_cst_16 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_17 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩

abbrev nD : Nat := 1
abbrev τ : Topo := Topo.v7x

variable {F : FTy → Type} [FloatOps F]
-- ==== Queries.lean ====
abbrev S16384x1024 : Shape := ⟨2, ![16384, 1024]⟩
abbrev S1024x8136 : Shape := ⟨2, ![1024, 8136]⟩
abbrev S1024x512 : Shape := ⟨2, ![1024, 512]⟩
abbrev S1024x1536 : Shape := ⟨2, ![1024, 1536]⟩
abbrev S16384x1536 : Shape := ⟨2, ![16384, 1536]⟩
abbrev S512x1024 : Shape := ⟨2, ![512, 1024]⟩
abbrev S512x512 : Shape := ⟨2, ![512, 512]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x8136, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x1536, .f32⟩
  | .hbm, ⟨6, _⟩ => ⟨S1024x1536, .bf16⟩
  | .hbm, ⟨7, _⟩ => ⟨S16384x1536, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueriesRefIdeal.lean ====
abbrev S16384x1024 : Shape := ⟨2, ![16384, 1024]⟩
abbrev S1024x8136 : Shape := ⟨2, ![1024, 8136]⟩
abbrev S16384x8136 : Shape := ⟨2, ![16384, 8136]⟩
abbrev S16384x512 : Shape := ⟨2, ![16384, 512]⟩
abbrev S16384x2176 : Shape := ⟨2, ![16384, 2176]⟩
abbrev S16384x8 : Shape := ⟨2, ![16384, 8]⟩
abbrev S16384x320 : Shape := ⟨2, ![16384, 320]⟩
abbrev S16384x3072 : Shape := ⟨2, ![16384, 3072]⟩
abbrev S16384x1536 : Shape := ⟨2, ![16384, 1536]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x8136, .f32⟩
  | .hbm, ⟨2, _⟩ => ⟨S16384x1024, .f32⟩
  | .hbm, ⟨3, _⟩ => ⟨S16384x8136, .f32⟩
  | .hbm, ⟨4, _⟩ => ⟨S16384x512, .f32⟩
  | .hbm, ⟨5, _⟩ => ⟨S16384x1024, .f32⟩
  | .hbm, ⟨6, _⟩ => ⟨S16384x2176, .f32⟩
  | .hbm, ⟨7, _⟩ => ⟨S16384x512, .f32⟩
  | .hbm, ⟨8, _⟩ => ⟨S16384x512, .f32⟩
  | .hbm, ⟨9, _⟩ => ⟨S16384x8, .f32⟩
  | .hbm, ⟨10, _⟩ => ⟨S16384x320, .f32⟩
  | .hbm, ⟨11, _⟩ => ⟨S16384x3072, .f32⟩
  | .hbm, ⟨12, _⟩ => ⟨S16384x1536, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== MobaRows.lean ====
abbrev S16384x1024 : Shape := ⟨2, ![16384, 1024]⟩
abbrev S1024x8136 : Shape := ⟨2, ![1024, 8136]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x8136, .f32⟩
  | .hbm, ⟨2, _⟩ => ⟨S1024x1024, .f32⟩
  | .hbm, ⟨3, _⟩ => ⟨S1024x1024, .bf16⟩
  | .hbm, ⟨4, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MobaRowsRefIdeal.lean ====
abbrev S16384x1024 : Shape := ⟨2, ![16384, 1024]⟩
abbrev S1024x8136 : Shape := ⟨2, ![1024, 8136]⟩
abbrev S16384x8136 : Shape := ⟨2, ![16384, 8136]⟩
abbrev S16384x512 : Shape := ⟨2, ![16384, 512]⟩
abbrev S16384x2176 : Shape := ⟨2, ![16384, 2176]⟩
abbrev S16384x8 : Shape := ⟨2, ![16384, 8]⟩
abbrev S16384x320 : Shape := ⟨2, ![16384, 320]⟩
abbrev S16384x3072 : Shape := ⟨2, ![16384, 3072]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x8136, .f32⟩
  | .hbm, ⟨2, _⟩ => ⟨S16384x1024, .f32⟩
  | .hbm, ⟨3, _⟩ => ⟨S16384x8136, .f32⟩
  | .hbm, ⟨4, _⟩ => ⟨S16384x512, .f32⟩
  | .hbm, ⟨5, _⟩ => ⟨S16384x1024, .f32⟩
  | .hbm, ⟨6, _⟩ => ⟨S16384x2176, .f32⟩
  | .hbm, ⟨7, _⟩ => ⟨S16384x512, .f32⟩
  | .hbm, ⟨8, _⟩ => ⟨S16384x512, .f32⟩
  | .hbm, ⟨9, _⟩ => ⟨S16384x8, .f32⟩
  | .hbm, ⟨10, _⟩ => ⟨S16384x320, .f32⟩
  | .hbm, ⟨11, _⟩ => ⟨S16384x3072, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== RwkvRows.lean ====
abbrev S16384x1024 : Shape := ⟨2, ![16384, 1024]⟩
abbrev S1024x8136 : Shape := ⟨2, ![1024, 8136]⟩
abbrev S1024x2176 : Shape := ⟨2, ![1024, 2176]⟩
abbrev S16384x2176 : Shape := ⟨2, ![16384, 2176]⟩
abbrev S512x1024 : Shape := ⟨2, ![512, 1024]⟩
abbrev S512x2176 : Shape := ⟨2, ![512, 2176]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x8136, .f32⟩
  | .hbm, ⟨2, _⟩ => ⟨S1024x2176, .f32⟩
  | .hbm, ⟨3, _⟩ => ⟨S1024x2176, .bf16⟩
  | .hbm, ⟨4, _⟩ => ⟨S16384x2176, .f32⟩
  | .local _ .vmem, ⟨0, _⟩ => ⟨S512x1024, .bf16⟩
  | .local _ .vmem, ⟨1, _⟩ => ⟨S512x1024, .bf16⟩
  | .local _ .vmem, ⟨2, _⟩ => ⟨S1024x2176, .bf16⟩
  | .local _ .vmem, ⟨3, _⟩ => ⟨S512x2176, .f32⟩
  | .local _ .vmem, ⟨4, _⟩ => ⟨S512x2176, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RwkvRowsRefIdeal.lean ====
abbrev S16384x1024 : Shape := ⟨2, ![16384, 1024]⟩
abbrev S1024x8136 : Shape := ⟨2, ![1024, 8136]⟩
abbrev S16384x8136 : Shape := ⟨2, ![16384, 8136]⟩
abbrev S16384x512 : Shape := ⟨2, ![16384, 512]⟩
abbrev S16384x2176 : Shape := ⟨2, ![16384, 2176]⟩
abbrev S16384x8 : Shape := ⟨2, ![16384, 8]⟩
abbrev S16384x320 : Shape := ⟨2, ![16384, 320]⟩
abbrev S16384x3072 : Shape := ⟨2, ![16384, 3072]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x8136, .f32⟩
  | .hbm, ⟨2, _⟩ => ⟨S16384x1024, .f32⟩
  | .hbm, ⟨3, _⟩ => ⟨S16384x8136, .f32⟩
  | .hbm, ⟨4, _⟩ => ⟨S16384x512, .f32⟩
  | .hbm, ⟨5, _⟩ => ⟨S16384x1024, .f32⟩
  | .hbm, ⟨6, _⟩ => ⟨S16384x2176, .f32⟩
  | .hbm, ⟨7, _⟩ => ⟨S16384x512, .f32⟩
  | .hbm, ⟨8, _⟩ => ⟨S16384x512, .f32⟩
  | .hbm, ⟨9, _⟩ => ⟨S16384x8, .f32⟩
  | .hbm, ⟨10, _⟩ => ⟨S16384x320, .f32⟩
  | .hbm, ⟨11, _⟩ => ⟨S16384x3072, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== DsaRows.lean ====
abbrev S16384x1024 : Shape := ⟨2, ![16384, 1024]⟩
abbrev S1024x8136 : Shape := ⟨2, ![1024, 8136]⟩
abbrev S1024x320 : Shape := ⟨2, ![1024, 320]⟩
abbrev S1024x8 : Shape := ⟨2, ![1024, 8]⟩
abbrev S1024x328 : Shape := ⟨2, ![1024, 328]⟩
abbrev S_ : Shape := ⟨0, ![]⟩
abbrev S1024x384 : Shape := ⟨2, ![1024, 384]⟩
abbrev S16384x384 : Shape := ⟨2, ![16384, 384]⟩
abbrev S512x1024 : Shape := ⟨2, ![512, 1024]⟩
abbrev S512x384 : Shape := ⟨2, ![512, 384]⟩

abbrev nBuf : Space → Nat
  | .hbm => 10
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x8136, .f32⟩
  | .hbm, ⟨2, _⟩ => ⟨S1024x320, .f32⟩
  | .hbm, ⟨3, _⟩ => ⟨S1024x8, .f32⟩
  | .hbm, ⟨4, _⟩ => ⟨S1024x328, .f32⟩
  | .hbm, ⟨5, _⟩ => ⟨S_, .i32⟩
  | .hbm, ⟨6, _⟩ => ⟨S_, .f32⟩
  | .hbm, ⟨7, _⟩ => ⟨S1024x384, .f32⟩
  | .hbm, ⟨8, _⟩ => ⟨S1024x384, .bf16⟩
  | .hbm, ⟨9, _⟩ => ⟨S16384x384, .f32⟩
  | .local _ .vmem, ⟨0, _⟩ => ⟨S512x1024, .bf16⟩
  | .local _ .vmem, ⟨1, _⟩ => ⟨S512x1024, .bf16⟩
  | .local _ .vmem, ⟨2, _⟩ => ⟨S1024x384, .bf16⟩
  | .local _ .vmem, ⟨3, _⟩ => ⟨S512x384, .f32⟩
  | .local _ .vmem, ⟨4, _⟩ => ⟨S512x384, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DsaRowsRefIdeal.lean ====
abbrev S16384x1024 : Shape := ⟨2, ![16384, 1024]⟩
abbrev S1024x8136 : Shape := ⟨2, ![1024, 8136]⟩
abbrev S16384x8136 : Shape := ⟨2, ![16384, 8136]⟩
abbrev S16384x512 : Shape := ⟨2, ![16384, 512]⟩
abbrev S16384x2176 : Shape := ⟨2, ![16384, 2176]⟩
abbrev S16384x8 : Shape := ⟨2, ![16384, 8]⟩
abbrev S16384x320 : Shape := ⟨2, ![16384, 320]⟩
abbrev S16384x3072 : Shape := ⟨2, ![16384, 3072]⟩
abbrev S_ : Shape := ⟨0, ![]⟩
abbrev S16384x56 : Shape := ⟨2, ![16384, 56]⟩
abbrev S16384x384 : Shape := ⟨2, ![16384, 384]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x8136, .f32⟩
  | .hbm, ⟨2, _⟩ => ⟨S16384x1024, .f32⟩
  | .hbm, ⟨3, _⟩ => ⟨S16384x8136, .f32⟩
  | .hbm, ⟨4, _⟩ => ⟨S16384x512, .f32⟩
  | .hbm, ⟨5, _⟩ => ⟨S16384x1024, .f32⟩
  | .hbm, ⟨6, _⟩ => ⟨S16384x2176, .f32⟩
  | .hbm, ⟨7, _⟩ => ⟨S16384x512, .f32⟩
  | .hbm, ⟨8, _⟩ => ⟨S16384x512, .f32⟩
  | .hbm, ⟨9, _⟩ => ⟨S16384x8, .f32⟩
  | .hbm, ⟨10, _⟩ => ⟨S16384x320, .f32⟩
  | .hbm, ⟨11, _⟩ => ⟨S16384x3072, .f32⟩
  | .hbm, ⟨12, _⟩ => ⟨S_, .f32⟩
  | .hbm, ⟨13, _⟩ => ⟨S16384x56, .f32⟩
  | .hbm, ⟨14, _⟩ => ⟨S16384x384, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Gates.lean ====
abbrev S16384x1024 : Shape := ⟨2, ![16384, 1024]⟩
abbrev S1024x8136 : Shape := ⟨2, ![1024, 8136]⟩
abbrev S1024x3072 : Shape := ⟨2, ![1024, 3072]⟩
abbrev S16384x3072 : Shape := ⟨2, ![16384, 3072]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x8136, .f32⟩
  | .hbm, ⟨2, _⟩ => ⟨S1024x3072, .f32⟩
  | .hbm, ⟨3, _⟩ => ⟨S1024x3072, .bf16⟩
  | .hbm, ⟨4, _⟩ => ⟨S16384x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S16384x1024 : Shape := ⟨2, ![16384, 1024]⟩
abbrev S1024x8136 : Shape := ⟨2, ![1024, 8136]⟩
abbrev S16384x8136 : Shape := ⟨2, ![16384, 8136]⟩
abbrev S16384x512 : Shape := ⟨2, ![16384, 512]⟩
abbrev S16384x2176 : Shape := ⟨2, ![16384, 2176]⟩
abbrev S16384x8 : Shape := ⟨2, ![16384, 8]⟩
abbrev S16384x320 : Shape := ⟨2, ![16384, 320]⟩
abbrev S16384x3072 : Shape := ⟨2, ![16384, 3072]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x8136, .f32⟩
  | .hbm, ⟨2, _⟩ => ⟨S16384x1024, .f32⟩
  | .hbm, ⟨3, _⟩ => ⟨S16384x8136, .f32⟩
  | .hbm, ⟨4, _⟩ => ⟨S16384x512, .f32⟩
  | .hbm, ⟨5, _⟩ => ⟨S16384x1024, .f32⟩
  | .hbm, ⟨6, _⟩ => ⟨S16384x2176, .f32⟩
  | .hbm, ⟨7, _⟩ => ⟨S16384x512, .f32⟩
  | .hbm, ⟨8, _⟩ => ⟨S16384x512, .f32⟩
  | .hbm, ⟨9, _⟩ => ⟨S16384x8, .f32⟩
  | .hbm, ⟨10, _⟩ => ⟨S16384x320, .f32⟩
  | .hbm, ⟨11, _⟩ => ⟨S16384x3072, .f32⟩
  | .hbm, ⟨12, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Merge.lean ====
abbrev S4x4096x512 : Shape := ⟨3, ![4, 4096, 512]⟩
abbrev S4x4096x3072 : Shape := ⟨3, ![4, 4096, 3072]⟩
abbrev S4x4096x1024 : Shape := ⟨3, ![4, 4096, 1024]⟩
abbrev S4x1x1024 : Shape := ⟨3, ![4, 1, 1024]⟩
abbrev S3x512x1024 : Shape := ⟨3, ![3, 512, 1024]⟩
abbrev S1024x1024 : Shape := ⟨2, ![1024, 1024]⟩
abbrev S1x256x512 : Shape := ⟨3, ![1, 256, 512]⟩
abbrev S1x256x3072 : Shape := ⟨3, ![1, 256, 3072]⟩
abbrev S1x256x1024 : Shape := ⟨3, ![1, 256, 1024]⟩
abbrev S1x1x1024 : Shape := ⟨3, ![1, 1, 1024]⟩
abbrev S256x512 : Shape := ⟨2, ![256, 512]⟩
abbrev S1x512x1024 : Shape := ⟨3, ![1, 512, 1024]⟩
abbrev S512x1024 : Shape := ⟨2, ![512, 1024]⟩
abbrev S256x1024 : Shape := ⟨2, ![256, 1024]⟩
abbrev S1x1024 : Shape := ⟨2, ![1, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x3072, .bf16⟩
  | .hbm, ⟨4, _⟩ => ⟨S4x4096x1024, .f32⟩
  | .hbm, ⟨5, _⟩ => ⟨S4x1x1024, .f32⟩
  | .hbm, ⟨6, _⟩ => ⟨S3x512x1024, .f32⟩
  | .hbm, ⟨7, _⟩ => ⟨S1024x1024, .f32⟩
  | .hbm, ⟨8, _⟩ => ⟨S3x512x1024, .bf16⟩
  | .hbm, ⟨9, _⟩ => ⟨S1024x1024, .bf16⟩
  | .hbm, ⟨10, _⟩ => ⟨S4x4096x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x3072, .bf16⟩
  | .local _ .vmem, ⟨7, _⟩ => ⟨S1x256x3072, .bf16⟩
  | .local _ .vmem, ⟨8, _⟩ => ⟨S1x256x1024, .f32⟩
  | .local _ .vmem, ⟨9, _⟩ => ⟨S1x256x1024, .f32⟩
  | .local _ .vmem, ⟨10, _⟩ => ⟨S1x1x1024, .f32⟩
  | .local _ .vmem, ⟨11, _⟩ => ⟨S1x1x1024, .f32⟩
  | .local _ .vmem, ⟨12, _⟩ => ⟨S3x512x1024, .bf16⟩
  | .local _ .vmem, ⟨13, _⟩ => ⟨S1024x1024, .bf16⟩
  | .local _ .vmem, ⟨14, _⟩ => ⟨S1x256x1024, .f32⟩
  | .local _ .vmem, ⟨15, _⟩ => ⟨S1x256x1024, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S4x4096x512 : Shape := ⟨3, ![4, 4096, 512]⟩
abbrev S4x4096x3072 : Shape := ⟨3, ![4, 4096, 3072]⟩
abbrev S4x4096x1024 : Shape := ⟨3, ![4, 4096, 1024]⟩
abbrev S4x1x1024 : Shape := ⟨3, ![4, 1, 1024]⟩
abbrev S3x512x1024 : Shape := ⟨3, ![3, 512, 1024]⟩
abbrev S1024x1024 : Shape := ⟨2, ![1024, 1024]⟩
abbrev S1x4x4096x512 : Shape := ⟨4, ![1, 4, 4096, 512]⟩
abbrev S3x4x4096x512 : Shape := ⟨4, ![3, 4, 4096, 512]⟩
abbrev S3x4x4096x1024 : Shape := ⟨4, ![3, 4, 4096, 1024]⟩
abbrev S4x4096x3x1024 : Shape := ⟨4, ![4, 4096, 3, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x3072, .bf16⟩
  | .hbm, ⟨4, _⟩ => ⟨S4x4096x1024, .f32⟩
  | .hbm, ⟨5, _⟩ => ⟨S4x1x1024, .f32⟩
  | .hbm, ⟨6, _⟩ => ⟨S3x512x1024, .f32⟩
  | .hbm, ⟨7, _⟩ => ⟨S1024x1024, .f32⟩
  | .hbm, ⟨8, _⟩ => ⟨S1x4x4096x512, .f32⟩
  | .hbm, ⟨9, _⟩ => ⟨S1x4x4096x512, .f32⟩
  | .hbm, ⟨10, _⟩ => ⟨S1x4x4096x512, .f32⟩
  | .hbm, ⟨11, _⟩ => ⟨S3x4x4096x512, .f32⟩
  | .hbm, ⟨12, _⟩ => ⟨S3x4x4096x1024, .f32⟩
  | .hbm, ⟨13, _⟩ => ⟨S4x4096x3072, .f32⟩
  | .hbm, ⟨14, _⟩ => ⟨S4x4096x3x1024, .f32⟩
  | .hbm, ⟨15, _⟩ => ⟨S4x4096x3x1024, .f32⟩
  | .hbm, ⟨16, _⟩ => ⟨S4x4096x3x1024, .f32⟩
  | .hbm, ⟨17, _⟩ => ⟨S_, .f32⟩
  | .hbm, ⟨18, _⟩ => ⟨S4x4096x3x1024, .f32⟩
  | .hbm, ⟨19, _⟩ => ⟨S4x4096x3x1024, .f32⟩
  | .hbm, ⟨20, _⟩ => ⟨S_, .f32⟩
  | .hbm, ⟨21, _⟩ => ⟨S4x4096x3x1024, .f32⟩
  | .hbm, ⟨22, _⟩ => ⟨S4x4096x3x1024, .f32⟩
  | .hbm, ⟨23, _⟩ => ⟨S3x4x4096x1024, .f32⟩
  | .hbm, ⟨24, _⟩ => ⟨S3x4x4096x1024, .f32⟩
  | .hbm, ⟨25, _⟩ => ⟨S_, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Modulate.lean ====
abbrev S4x4096x1024 : Shape := ⟨3, ![4, 4096, 1024]⟩
abbrev S4x1x1024 : Shape := ⟨3, ![4, 1, 1024]⟩
abbrev S1024 : Shape := ⟨1, ![1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1x1024, .f32⟩
  | .hbm, ⟨5, _⟩ => ⟨S4x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x512x1024, .bf16⟩
  | .local _ .vmem, ⟨8, _⟩ => ⟨S1x512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ModulateRefIdeal.lean ====
abbrev S4x4096x1024 : Shape := ⟨3, ![4, 4096, 1024]⟩
abbrev S4x1x1024 : Shape := ⟨3, ![4, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x1x1024, .f32⟩
  | .hbm, ⟨22, _⟩ => ⟨S4x1x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== FinalNorm.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Route.lean ====
abbrev S4x4096x1024 : Shape := ⟨3, ![4, 4096, 1024]⟩
abbrev S4x1x1024 : Shape := ⟨3, ![4, 1, 1024]⟩
abbrev S1024 : Shape := ⟨1, ![1024]⟩
abbrev S1024x2048 : Shape := ⟨2, ![1024, 2048]⟩
abbrev S8x2x128x128 : Shape := ⟨4, ![8, 2, 128, 128]⟩
abbrev S16x128x128 : Shape := ⟨3, ![16, 128, 128]⟩
abbrev S1x1024 : Shape := ⟨2, ![1, 1024]⟩
abbrev S1024x16384 : Shape := ⟨2, ![1024, 16384]⟩
abbrev S8x128x16384 : Shape := ⟨3, ![8, 128, 16384]⟩
abbrev S8x8x16384 : Shape := ⟨3, ![8, 8, 16384]⟩
abbrev S1x256x1024 : Shape := ⟨3, ![1, 256, 1024]⟩
abbrev S1x1x1024 : Shape := ⟨3, ![1, 1, 1024]⟩
abbrev S1024x256 : Shape := ⟨2, ![1024, 256]⟩
abbrev S8x128x256 : Shape := ⟨3, ![8, 128, 256]⟩
abbrev S8x8x256 : Shape := ⟨3, ![8, 8, 256]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x256 : Shape := ⟨2, ![1, 256]⟩
abbrev S16x256 : Shape := ⟨2, ![16, 256]⟩
abbrev S8x1 : Shape := ⟨2, ![8, 1]⟩
abbrev S8x256 : Shape := ⟨2, ![8, 256]⟩
abbrev S80x256 : Shape := ⟨2, ![80, 256]⟩
abbrev S1x128x256 : Shape := ⟨3, ![1, 128, 256]⟩
abbrev S5x256 : Shape := ⟨2, ![5, 256]⟩
abbrev S1x8x256 : Shape := ⟨3, ![1, 8, 256]⟩

abbrev nBuf : Space → Nat
  | .hbm => 15
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x2048, .f32⟩
  | .hbm, ⟨5, _⟩ => ⟨S8x2x128x128, .f32⟩
  | .hbm, ⟨6, _⟩ => ⟨S1024x2048, .bf16⟩
  | .hbm, ⟨7, _⟩ => ⟨S16x128x128, .f32⟩
  | .hbm, ⟨8, _⟩ => ⟨S16x128x128, .bf16⟩
  | .hbm, ⟨9, _⟩ => ⟨S1x1024, .f32⟩
  | .hbm, ⟨10, _⟩ => ⟨S1024x16384, .bf16⟩
  | .hbm, ⟨11, _⟩ => ⟨S8x128x16384, .f32⟩
  | .hbm, ⟨12, _⟩ => ⟨S8x128x16384, .f32⟩
  | .hbm, ⟨13, _⟩ => ⟨S8x128x16384, .f32⟩
  | .hbm, ⟨14, _⟩ => ⟨S8x8x16384, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2048, .bf16⟩
  | .local _ .vmem, ⟨8, _⟩ => ⟨S16x128x128, .bf16⟩
  | .local _ .vmem, ⟨9, _⟩ => ⟨S1024x256, .bf16⟩
  | .local _ .vmem, ⟨10, _⟩ => ⟨S1024x256, .bf16⟩
  | .local _ .vmem, ⟨11, _⟩ => ⟨S8x128x256, .f32⟩
  | .local _ .vmem, ⟨12, _⟩ => ⟨S8x128x256, .f32⟩
  | .local _ .vmem, ⟨13, _⟩ => ⟨S8x128x256, .f32⟩
  | .local _ .vmem, ⟨14, _⟩ => ⟨S8x128x256, .f32⟩
  | .local _ .vmem, ⟨15, _⟩ => ⟨S8x128x256, .f32⟩
  | .local _ .vmem, ⟨16, _⟩ => ⟨S8x128x256, .f32⟩
  | .local _ .vmem, ⟨17, _⟩ => ⟨S8x8x256, .f32⟩
  | .local _ .vmem, ⟨18, _⟩ => ⟨S8x8x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RouteRefIdeal.lean ====
abbrev S4x4096x1024 : Shape := ⟨3, ![4, 4096, 1024]⟩
abbrev S4x1x1024 : Shape := ⟨3, ![4, 1, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S16384x2048 : Shape := ⟨2, ![16384, 2048]⟩
abbrev S16384x8x2x128 : Shape := ⟨4, ![16384, 8, 2, 128]⟩
abbrev S8x2x128x16384 : Shape := ⟨4, ![8, 2, 128, 16384]⟩
abbrev S1024x16384 : Shape := ⟨2, ![1024, 16384]⟩
abbrev S16384x8x1x128 : Shape := ⟨4, ![16384, 8, 1, 128]⟩
abbrev S16384x8x128 : Shape := ⟨3, ![16384, 8, 128]⟩
abbrev S8x128x16384 : Shape := ⟨3, ![8, 128, 16384]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x2048, .f32⟩
  | .hbm, ⟨5, _⟩ => ⟨S8x2x128x128, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S16384x1024, .f32⟩
  | .hbm, ⟨30, _⟩ => ⟨S16384x2048, .f32⟩
  | .hbm, ⟨31, _⟩ => ⟨S16384x8x2x128, .f32⟩
  | .hbm, ⟨32, _⟩ => ⟨S8x2x128x16384, .f32⟩
  | .hbm, ⟨33, _⟩ => ⟨S16384x8x2x128, .f32⟩
  | .hbm, ⟨34, _⟩ => ⟨S1024x16384, .f32⟩
  | .hbm, ⟨35, _⟩ => ⟨S1024x16384, .bf16⟩
  | .hbm, ⟨36, _⟩ => ⟨S16384x8x1x128, .f32⟩
  | .hbm, ⟨37, _⟩ => ⟨S16384x8x128, .f32⟩
  | .hbm, ⟨38, _⟩ => ⟨S8x128x16384, .f32⟩
  | .hbm, ⟨39, _⟩ => ⟨S16384x8x1x128, .f32⟩
  | .hbm, ⟨40, _⟩ => ⟨S16384x8x128, .f32⟩
  | .hbm, ⟨41, _⟩ => ⟨S8x128x16384, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.Body.lean ====
/-
  THE BODY, ONCE FOR EVERY PREFIX LENGTH. The kernel compiles its body eight times, one for each length `L` of the visible prefix of
  keys (512, 1024, …, 4096). The eight texts differ in `L` alone. Here that text is written once with `L` a variable.
-/
module

public import proofs.«01_k».proof.Proof.Gen.KernelIdeal.Value

@[expose] public section

noncomputable section

namespace Cert.KernelIdeal.Hand

open Cert.KernelIdeal Cert.KernelIdeal.Gen Idealize.ShloMosaic Idealize.ShloMosaic.TcCoe Idealize.SL.Sem

variable {F : FTy → Type} [FloatOps F] [Named F]

/-- A matrix of `a` rows and `b` columns. -/
abbrev Mat (a b : Nat) : Shape := ⟨2, ![a, b]⟩

/-- What the body's operations ask of the shapes that depend on the prefix length. -/
structure Sides (L : Nat) : Prop where
  iotaRow : (Mat 1 L).Iotas .tc 32 [1]
  rowTo : (Mat 1 L).Broadcasts (Mat 128 L)
  colTo : (Mat 128 1).Broadcasts (Mat 128 L)
  iotaKey : (Mat 16 L).Iotas .tc 32 [1]
  iotaBlk : (Mat 16 L).Iotas .tc 32 [0]
  red : (Mat 128 L).Reduces [1] S128
  prefixRows : S1x4096x128.Slices ![0, 0, 0] ⟨3, ![1, L, 128]⟩
  drop : (⟨3, ![1, L, 128]⟩ : Shape).ShapeCasts (Mat L 128)

/-- Division of words rounding down, as the kernel spells it: the quotient rounding to zero, less one where the signs differ and
    the remainder is not zero. -/
def fdiv {s : Shape} (x : IVec s 32) (d : BitVec 32) : IVec s 32 :=
  select
    (andi
      (cmpi .ne
        (subi (extui 32 (cmpi .sgt x (broadcast s 0#32)) natLt_1_32) (extui 32 (cmpi .slt x (broadcast s 0#32)) natLt_1_32))
        (broadcast s (Scalar.subi (Scalar.extui (Scalar.cmpi .sgt d 0#32)) (Scalar.extui (Scalar.cmpi .slt d 0#32)))))
      (cmpi .ne (remsi x (broadcast s d)) (broadcast s 0#32)))
    (subi (divsi x (broadcast s d)) (broadcast s 1#32))
    (divsi x (broadcast s d))

/-- The positions of the tile's queries in the sequence. -/
def qpos (base : BitVec 32) : IVec S128x1 32 := addi (broadcast S128x1 base) (iota .tc S128x1 32 [0] iota_S128x1_d0_w32)

/-- −∞ where the key is later than the query, else 0. -/
def causal {L : Nat} (hs : Sides L) (base : BitVec 32) : FVec F (Mat 128 L) .f32 :=
  select (cmpi .sgt (broadcastTo (Mat 128 L) (iota .tc (Mat 1 L) 32 [1] hs.iotaRow) hs.rowTo) (broadcastTo (Mat 128 L) (qpos base) hs.colTo))
    (broadcast (Mat 128 L) (Named.named κ "mask" 0xF149F2CA#32)) (broadcast (Mat 128 L) (Scalar.ofBits .f32 0x00000000#32))

/-- Which block a key belongs to: 1 at (block, key) where it does, else 0. -/
def expand {L : Nat} (hs : Sides L) : FVec F (Mat 16 L) .bf16 :=
  truncf .bf16
    (select (cmpi .eq (fdiv (iota .tc (Mat 16 L) 32 [1] hs.iotaKey) 256#32) (iota .tc (Mat 16 L) 32 [0] hs.iotaBlk))
      (broadcast (Mat 16 L) (Scalar.ofBits .f32 0x3F800000#32) : FVec F (Mat 16 L) .f32)
      (broadcast (Mat 16 L) (Scalar.ofBits .f32 0x00000000#32)))
    bitsLt_bf16_f32

/-- The blocks' numbers along each row. -/
def blkId : FVec F S128x16 .f32 := sitofp .f32 (iota .tc S128x16 32 [1] iota_S128x16_d1_w32)

/-- Each query's own block. -/
def ownBlk (base : BitVec 32) : FVec F S128x1 .f32 := sitofp .f32 (fdiv (qpos base) 256#32)

/-- The blocks wholly before the query's own. -/
def past (F : FTy → Type) [FloatOps F] (base : BitVec 32) : IVec S128x16 1 :=
  cmpf .olt (blkId (F := F)) (broadcastTo S128x16 (ownBlk base) broadcasts_S128x1_S128x16)

/-- The lanes of head `h` of the pair. -/
def lanes (h : BitVec 32) : IVec S128x128 1 :=
  broadcastTo S128x128
    (shapeCast S1x128 (cmpi .eq (fdiv (iota .tc S1x128 32 [1] iota_S1x128_d1_w32) 64#32) (broadcast S1x128 h)) shapeCasts_S1x128_S1x128)
    broadcasts_S1x128_S128x128

/-- The tile's queries, scaled. -/
def scaled (x0 : Vec F S1x128x128 .f32) : FVec F S128x128 .f32 :=
  mulf (shapeCast S128x128 x0 shapeCasts_S1x128x128_S128x128) (broadcast S128x128 (Scalar.ofBits .f32 0x3E000000#32))

/-- One head's queries: the other head's lanes zeroed. -/
def headq (h : BitVec 32) (q : FVec F S128x128 .f32) : FVec F S128x128 .f32 :=
  select (lanes h) q (broadcast S128x128 (Scalar.ofBits .f32 0x00000000#32))

/-- A row that a reduction left, as a column spread over the blocks. -/
def spread (x : FVec F S128 .f32) : FVec F S128x16 .f32 :=
  broadcastTo S128x16 (shapeCast S128x1 x shapeCasts_S128_S128x1) broadcasts_S128x1_S128x16

/-- The gate: query by block mean, each split into a leading part and a rest; −∞ at a block that is not past. -/
def gates (past : IVec S128x16 1) (qh : FVec F S128x128 .f32) (km : FVec F S16x128 .f32) : FVec F S128x16 .f32 :=
  have q0 : FVec F S128x128 .bf16 := truncf .bf16 qh bitsLt_bf16_f32
  have q1 : FVec F S128x128 .bf16 := truncf .bf16 (subf qh (extf .f32 q0 bitsLt_bf16_f32)) bitsLt_bf16_f32
  have k0 : FVec F S16x128 .bf16 := truncf .bf16 km bitsLt_bf16_f32
  have k1 : FVec F S16x128 .bf16 := truncf .bf16 (subf km (extf .f32 k0 bitsLt_bf16_f32)) bitsLt_bf16_f32
  have z : FVec F S128x16 .f32 := constant S128x16 .f32 0x00000000#32
  select past
    (addf (matmul (DotDims.transposedRhs 128 128 16) none q0 k0 z)
      (addf (matmul (DotDims.transposedRhs 128 128 16) none q0 k1 z) (matmul (DotDims.transposedRhs 128 128 16) none q1 k0 z)))
    (broadcast S128x16 (Named.named κ "mask" 0xF149F2CA#32))

/-- Before any choice every block but the query's own is closed. -/
def closed0 (base : BitVec 32) : FVec F S128x16 .f32 :=
  select (cmpf .oeq (blkId (F := F)) (broadcastTo S128x16 (ownBlk base) broadcasts_S128x1_S128x16))
    (broadcast S128x16 (Scalar.ofBits .f32 0x00000000#32)) (broadcast S128x16 (Named.named κ "mask" 0xF149F2CA#32))

/-- The first block whose gate is the greatest. -/
def pick (g : FVec F S128x16 .f32) : IVec S128x16 1 :=
  cmpf .oeq (blkId (F := F))
    (spread (multiReduction .minimumf [1] S128
      (select (cmpf .oeq g (spread (multiReduction .maximumf [1] S128 g 0xFF800000#32 reduces_S128x16_S128 (.inl rfl) rfl)))
        (blkId (F := F)) (broadcast S128x16 (Scalar.sitofp .f32 16#32)))
      0x7F800000#32 reduces_S128x16_S128 (.inl rfl) rfl))

/-- The picked block is opened if it is past. -/
def opened (past : IVec S128x16 1) (g cl : FVec F S128x16 .f32) : FVec F S128x16 .f32 :=
  select (andi (pick g) past) (broadcast S128x16 (Scalar.ofBits .f32 0x00000000#32)) cl

/-- The picked block's gate is dropped. -/
def dropped (g : FVec F S128x16 .f32) : FVec F S128x16 .f32 :=
  select (pick g) (broadcast S128x16 (Scalar.ofBits .f32 0xFF800000#32)) g

/-- Three choices. -/
def closed3 (past : IVec S128x16 1) (g cl : FVec F S128x16 .f32) : FVec F S128x16 .f32 :=
  opened past (dropped (dropped g)) (opened past (dropped g) (opened past g cl))

/-- The scores with the closed blocks and the later keys at −∞. -/
def scores {L : Nat} (hs : Sides L) (base : BitVec 32) (k : FVec F (Mat L 128) .bf16) (qh : FVec F S128x128 .f32)
    (cl : FVec F S128x16 .f32) : FVec F (Mat 128 L) .f32 :=
  have z : FVec F (Mat 128 L) .f32 := constant (Mat 128 L) .f32 0x00000000#32
  addf
    (addf (matmul (DotDims.transposedRhs 128 128 L) none (truncf .bf16 qh bitsLt_bf16_f32) k z)
      (matmul (DotDims.plain 128 16 L) none (truncf .bf16 cl bitsLt_bf16_f32) (expand hs) z))
    (causal hs base)

/-- The exponentials of the scores less the row's greatest. -/
def weights {L : Nat} (hs : Sides L) (s : FVec F (Mat 128 L) .f32) : FVec F (Mat 128 L) .f32 :=
  exp (subf s (broadcastTo (Mat 128 L)
    (shapeCast S128x1 (multiReduction .maximumf [1] S128 s 0xFF800000#32 hs.red (.inl rfl) rfl) shapeCasts_S128_S128x1) hs.colTo))

/-- The weighted sum of the values over the sum of the weights. -/
def mixed {L : Nat} (hs : Sides L) (v : FVec F (Mat L 128) .bf16) (w : FVec F (Mat 128 L) .f32) : FVec F S128x128 .f32 :=
  divf
    (matmul (DotDims.plain 128 L 128) none (truncf .bf16 w bitsLt_bf16_f32) v (constant S128x128 .f32 0x00000000#32 : FVec F S128x128 .f32))
    (broadcastTo S128x128
      (shapeCast S128x1 (multiReduction .add [1] S128 w 0x00000000#32 hs.red (.inl rfl) rfl) shapeCasts_S128_S128x1)
      broadcasts_S128x1_S128x128)

/-- The first `L` rows of a block of keys or values. -/
def rows {L : Nat} (hs : Sides L) (x : Vec F S1x4096x128 .bf16) : FVec F (Mat L 128) .bf16 :=
  shapeCast (Mat L 128) (extractStridedSlice ⟨3, ![1, L, 128]⟩ ![0, 0, 0] x hs.prefixRows) hs.drop

/-- One head of the pair: every lane of the row, of which that head's lanes are kept after. -/
def headOut {L : Nat} (hs : Sides L) (base : BitVec 32) (h : BitVec 32) (x0 : Vec F S1x128x128 .f32) (x1 x2 : Vec F S1x4096x128 .bf16)
    (x3 : Vec F S1x16x128 .f32) : FVec F S128x128 .f32 :=
  have qh : FVec F S128x128 .f32 := headq h (scaled x0)
  have g : FVec F S128x16 .f32 := gates (past F base) qh (shapeCast S16x128 x3 shapeCasts_S1x16x128_S16x128)
  mixed hs (rows hs x2) (weights hs (scores hs base (rows hs x1) qh (closed3 (past F base) g (closed0 base))))

/-- The block that a grid point writes. -/
def blockOut {L : Nat} (hs : Sides L) (base : BitVec 32) (x0 : Vec F S1x128x128 .f32) (x1 x2 : Vec F S1x4096x128 .bf16)
    (x3 : Vec F S1x16x128 .f32) : Vec F S1x128x128 .f32 :=
  shapeCast S1x128x128 (select (lanes 0#32) (headOut hs base 0#32 x0 x1 x2 x3) (headOut hs base 1#32 x0 x1 x2 x3))
    shapeCasts_S128x128_S1x128x128

end Cert.KernelIdeal.Hand
-- ==== Proof.Cases.lean ====
/-
  THE EIGHT BODIES ARE ONE. What a grid point writes, in each of the eight cases of the prefix's length, is the body of
  `Body.lean` at that length.
-/
module

public import proofs.«01_k».proof.Proof.Body

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F] [Named F]

theorem hz : (![0, 0, 0] : Fin 3 → Nat) = fun _ => 0 := funext fun a => by fin_cases a <;> rfl

theorem sides512 : Sides 512 := ⟨by decide, by decide, by decide, by decide, by decide, by decide, by decide, by decide⟩
theorem sides1024 : Sides 1024 := ⟨by decide, by decide, by decide, by decide, by decide, by decide, by decide, by decide⟩
theorem sides1536 : Sides 1536 := ⟨by decide, by decide, by decide, by decide, by decide, by decide, by decide, by decide⟩
theorem sides2048 : Sides 2048 := ⟨by decide, by decide, by decide, by decide, by decide, by decide, by decide, by decide⟩
theorem sides2560 : Sides 2560 := ⟨by decide, by decide, by decide, by decide, by decide, by decide, by decide, by decide⟩
theorem sides3072 : Sides 3072 := ⟨by decide, by decide, by decide, by decide, by decide, by decide, by decide, by decide⟩
theorem sides3584 : Sides 3584 := ⟨by decide, by decide, by decide, by decide, by decide, by decide, by decide, by decide⟩
theorem sides4096 : Sides 4096 := ⟨by decide, by decide, by decide, by decide, by decide, by decide, by decide, by decide⟩

/-- The position of a tile's first query. -/
def tileBase (i : grid0.Coords) : BitVec 32 := Scalar.addi 0#32 (Scalar.muli (BitVec.ofNat 32 (i 2).val) 128#32)

variable (c : Dev nD) (i : grid0.Coords) (a3 : Memref sig .tc .vmem S1x128x128 .f32) (h3 : a3.IsWhole)
  (a4 : Memref sig .tc .vmem S1x4096x128 .bf16) (h4 : a4.IsWhole) (a5 : Memref sig .tc .vmem S1x4096x128 .bf16) (h5 : a5.IsWhole)
  (a6 : Memref sig .tc .vmem S1x16x128 .f32) (h6 : a6.IsWhole) (a7 : Memref sig .tc .vmem S1x128x128 .f32) (h7 : a7.IsWhole)
  (x0 : Vec F S1x128x128 .f32) (x1 x2 : Vec F S1x4096x128 .bf16) (x3 : Vec F S1x16x128 .f32)

theorem out_A (c0 : cond0_0 i) (c1 : ¬cond0_1 i) (c2 : ¬cond0_2 i) (c3 : ¬cond0_3 i) (c4 : ¬cond0_4 i) (c5 : ¬cond0_5 i) (c6 : ¬cond0_6 i) (c7 : ¬cond0_7 i) :
    out0_A_4 c i a3 h3 a4 h4 a5 h5 a6 h6 a7 h7 c0 c1 c2 c3 c4 c5 c6 c7 x0 x1 x2 x3 = blockOut sides512 (tileBase i) x0 x1 x2 x3 := by
  unfold out0_A_4
  rw [View.read_writes_eq_canon _ _ _ (cover0_A_4 c i a3 h3 a4 h4 a5 h5 a6 h6 a7 h7 c0 c1 c2 c3 c4 c5 c6 c7 x0 x1 x2 x3)]
  unfold kernelRun0_A
  dsimp only
  rw [View.canon_unit_zero hz]
  sl_unfold_words
  simp -implicitDefEqProofs only [View.readAt_eq_ld, h3.read_unread, h4.read_unread, h5.read_unread, h6.read_unread, View.ld_unit,
    View.ld_unit_zero (S := S1x128x128) hz, View.ld_unit_zero (S := S1x16x128) hz]
  rfl

theorem out_B (c0 : ¬cond0_0 i) (c1 : cond0_1 i) (c2 : ¬cond0_2 i) (c3 : ¬cond0_3 i) (c4 : ¬cond0_4 i) (c5 : ¬cond0_5 i) (c6 : ¬cond0_6 i) (c7 : ¬cond0_7 i) :
    out0_B_4 c i a3 h3 a4 h4 a5 h5 a6 h6 a7 h7 c0 c1 c2 c3 c4 c5 c6 c7 x0 x1 x2 x3 = blockOut sides1024 (tileBase i) x0 x1 x2 x3 := by
  unfold out0_B_4
  rw [View.read_writes_eq_canon _ _ _ (cover0_B_4 c i a3 h3 a4 h4 a5 h5 a6 h6 a7 h7 c0 c1 c2 c3 c4 c5 c6 c7 x0 x1 x2 x3)]
  unfold kernelRun0_B
  dsimp only
  rw [View.canon_unit_zero hz]
  sl_unfold_words
  simp -implicitDefEqProofs only [View.readAt_eq_ld, h3.read_unread, h4.read_unread, h5.read_unread, h6.read_unread, View.ld_unit,
    View.ld_unit_zero (S := S1x128x128) hz, View.ld_unit_zero (S := S1x16x128) hz]
  rfl

theorem out_C (c0 : ¬cond0_0 i) (c1 : ¬cond0_1 i) (c2 : cond0_2 i) (c3 : ¬cond0_3 i) (c4 : ¬cond0_4 i) (c5 : ¬cond0_5 i) (c6 : ¬cond0_6 i) (c7 : ¬cond0_7 i) :
    out0_C_4 c i a3 h3 a4 h4 a5 h5 a6 h6 a7 h7 c0 c1 c2 c3 c4 c5 c6 c7 x0 x1 x2 x3 = blockOut sides1536 (tileBase i) x0 x1 x2 x3 := by
  unfold out0_C_4
  rw [View.read_writes_eq_canon _ _ _ (cover0_C_4 c i a3 h3 a4 h4 a5 h5 a6 h6 a7 h7 c0 c1 c2 c3 c4 c5 c6 c7 x0 x1 x2 x3)]
  unfold kernelRun0_C
  dsimp only
  rw [View.canon_unit_zero hz]
  sl_unfold_words
  simp -implicitDefEqProofs only [View.readAt_eq_ld, h3.read_unread, h4.read_unread, h5.read_unread, h6.read_unread, View.ld_unit,
    View.ld_unit_zero (S := S1x128x128) hz, View.ld_unit_zero (S := S1x16x128) hz]
  rfl

theorem out_D (c0 : ¬cond0_0 i) (c1 : ¬cond0_1 i) (c2 : ¬cond0_2 i) (c3 : cond0_3 i) (c4 : ¬cond0_4 i) (c5 : ¬cond0_5 i) (c6 : ¬cond0_6 i) (c7 : ¬cond0_7 i) :
    out0_D_4 c i a3 h3 a4 h4 a5 h5 a6 h6 a7 h7 c0 c1 c2 c3 c4 c5 c6 c7 x0 x1 x2 x3 = blockOut sides2048 (tileBase i) x0 x1 x2 x3 := by
  unfold out0_D_4
  rw [View.read_writes_eq_canon _ _ _ (cover0_D_4 c i a3 h3 a4 h4 a5 h5 a6 h6 a7 h7 c0 c1 c2 c3 c4 c5 c6 c7 x0 x1 x2 x3)]
  unfold kernelRun0_D
  dsimp only
  rw [View.canon_unit_zero hz]
  sl_unfold_words
  simp -implicitDefEqProofs only [View.readAt_eq_ld, h3.read_unread, h4.read_unread, h5.read_unread, h6.read_unread, View.ld_unit,
    View.ld_unit_zero (S := S1x128x128) hz, View.ld_unit_zero (S := S1x16x128) hz]
  rfl

theorem out_E (c0 : ¬cond0_0 i) (c1 : ¬cond0_1 i) (c2 : ¬cond0_2 i) (c3 : ¬cond0_3 i) (c4 : cond0_4 i) (c5 : ¬cond0_5 i) (c6 : ¬cond0_6 i) (c7 : ¬cond0_7 i) :
    out0_E_4 c i a3 h3 a4 h4 a5 h5 a6 h6 a7 h7 c0 c1 c2 c3 c4 c5 c6 c7 x0 x1 x2 x3 = blockOut sides2560 (tileBase i) x0 x1 x2 x3 := by
  unfold out0_E_4
  rw [View.read_writes_eq_canon _ _ _ (cover0_E_4 c i a3 h3 a4 h4 a5 h5 a6 h6 a7 h7 c0 c1 c2 c3 c4 c5 c6 c7 x0 x1 x2 x3)]
  unfold kernelRun0_E
  dsimp only
  rw [View.canon_unit_zero hz]
  sl_unfold_words
  simp -implicitDefEqProofs only [View.readAt_eq_ld, h3.read_unread, h4.read_unread, h5.read_unread, h6.read_unread, View.ld_unit,
    View.ld_unit_zero (S := S1x128x128) hz, View.ld_unit_zero (S := S1x16x128) hz]
  rfl

theorem out_F (c0 : ¬cond0_0 i) (c1 : ¬cond0_1 i) (c2 : ¬cond0_2 i) (c3 : ¬cond0_3 i) (c4 : ¬cond0_4 i) (c5 : cond0_5 i) (c6 : ¬cond0_6 i) (c7 : ¬cond0_7 i) :
    out0_F_4 c i a3 h3 a4 h4 a5 h5 a6 h6 a7 h7 c0 c1 c2 c3 c4 c5 c6 c7 x0 x1 x2 x3 = blockOut sides3072 (tileBase i) x0 x1 x2 x3 := by
  unfold out0_F_4
  rw [View.read_writes_eq_canon _ _ _ (cover0_F_4 c i a3 h3 a4 h4 a5 h5 a6 h6 a7 h7 c0 c1 c2 c3 c4 c5 c6 c7 x0 x1 x2 x3)]
  unfold kernelRun0_F
  dsimp only
  rw [View.canon_unit_zero hz]
  sl_unfold_words
  simp -implicitDefEqProofs only [View.readAt_eq_ld, h3.read_unread, h4.read_unread, h5.read_unread, h6.read_unread, View.ld_unit,
    View.ld_unit_zero (S := S1x128x128) hz, View.ld_unit_zero (S := S1x16x128) hz]
  rfl

theorem out_G (c0 : ¬cond0_0 i) (c1 : ¬cond0_1 i) (c2 : ¬cond0_2 i) (c3 : ¬cond0_3 i) (c4 : ¬cond0_4 i) (c5 : ¬cond0_5 i) (c6 : cond0_6 i) (c7 : ¬cond0_7 i) :
    out0_G_4 c i a3 h3 a4 h4 a5 h5 a6 h6 a7 h7 c0 c1 c2 c3 c4 c5 c6 c7 x0 x1 x2 x3 = blockOut sides3584 (tileBase i) x0 x1 x2 x3 := by
  unfold out0_G_4
  rw [View.read_writes_eq_canon _ _ _ (cover0_G_4 c i a3 h3 a4 h4 a5 h5 a6 h6 a7 h7 c0 c1 c2 c3 c4 c5 c6 c7 x0 x1 x2 x3)]
  unfold kernelRun0_G
  dsimp only
  rw [View.canon_unit_zero hz]
  sl_unfold_words
  simp -implicitDefEqProofs only [View.readAt_eq_ld, h3.read_unread, h4.read_unread, h5.read_unread, h6.read_unread, View.ld_unit,
    View.ld_unit_zero (S := S1x128x128) hz, View.ld_unit_zero (S := S1x16x128) hz]
  rfl

theorem out_H (c0 : ¬cond0_0 i) (c1 : ¬cond0_1 i) (c2 : ¬cond0_2 i) (c3 : ¬cond0_3 i) (c4 : ¬cond0_4 i) (c5 : ¬cond0_5 i) (c6 : ¬cond0_6 i) (c7 : cond0_7 i) :
    out0_H_4 c i a3 h3 a4 h4 a5 h5 a6 h6 a7 h7 c0 c1 c2 c3 c4 c5 c6 c7 x0 x1 x2 x3 = blockOut sides4096 (tileBase i) x0 x1 x2 x3 := by
  unfold out0_H_4
  rw [View.read_writes_eq_canon _ _ _ (cover0_H_4 c i a3 h3 a4 h4 a5 h5 a6 h6 a7 h7 c0 c1 c2 c3 c4 c5 c6 c7 x0 x1 x2 x3)]
  unfold kernelRun0_H
  dsimp only
  rw [View.canon_unit_zero hz]
  sl_unfold_words
  simp -implicitDefEqProofs only [View.readAt_eq_ld, h3.read_unread, h4.read_unread, h5.read_unread, h6.read_unread, View.ld_unit,
    View.ld_unit_zero (S := S1x128x128) hz, View.ld_unit_zero (S := S1x16x128) hz]
  rfl

end Cert.KernelIdeal.Hand
-- ==== Proof.Words.lean ====
/-
  POSITIONS AS WORDS. Positions, lanes and block numbers are 32-bit words in the kernel; each is below 4096, where division rounding down
  and comparison are those of natural numbers.
-/
module

public import proofs.«01_k».proof.Proof.Body

@[expose] public section

noncomputable section

namespace Cert.KernelIdeal.Hand

open Cert.KernelIdeal Cert.KernelIdeal.Gen Idealize.ShloMosaic Idealize.ShloMosaic.TcCoe

/-- `fdiv` of one word. -/
def fdivW (x d : BitVec 32) : BitVec 32 := fdiv (s := ⟨0, ![]⟩) (fun _ => x) d (fun a => a.elim0)

theorem fdiv_apply {s : Shape} (x : IVec s 32) (d : BitVec 32) (j : s.Idx) : fdiv x d j = fdivW (x j) d := rfl

theorem fdivW_256 : ∀ n : Fin 4096, fdivW (BitVec.ofNat 32 n.val) 256#32 = BitVec.ofNat 32 (n.val / 256) := by decide +kernel

theorem fdivW_64 : ∀ n : Fin 128, fdivW (BitVec.ofNat 32 n.val) 64#32 = BitVec.ofNat 32 (n.val / 64) := by decide +kernel

theorem toInt_small {n : ℕ} (h : n < 4096) : (BitVec.ofNat 32 n).toInt = n := by
  rw [BitVec.toInt_eq_toNat_cond, BitVec.toNat_ofNat]
  have : n % 2 ^ 32 = n := Nat.mod_eq_of_lt (by omega)
  rw [this]; split <;> omega

theorem sgt_small {a b : ℕ} (ha : a < 4096) (hb : b < 4096) :
    IntOp.cmpi .sgt (BitVec.ofNat 32 a) (BitVec.ofNat 32 b) = if b < a then 1#1 else 0#1 := by
  have : (BitVec.ofNat 32 b).slt (BitVec.ofNat 32 a) = decide (b < a) := by
    rw [BitVec.slt, toInt_small ha, toInt_small hb]; simp
  simp only [IntOp.cmpi, this]
  by_cases h : b < a
  · simp [h]
  · rw [if_neg h, decide_eq_false h]; rfl

theorem eq_small {a b : ℕ} (ha : a < 4096) (hb : b < 4096) :
    IntOp.cmpi .eq (BitVec.ofNat 32 a) (BitVec.ofNat 32 b) = if a = b then 1#1 else 0#1 := by
  have : (BitVec.ofNat 32 a = BitVec.ofNat 32 b) ↔ a = b := by
    refine ⟨fun h => ?_, fun h => by rw [h]⟩
    have := congrArg BitVec.toInt h
    rw [toInt_small ha, toInt_small hb] at this
    exact_mod_cast this
  by_cases h : a = b
  · subst h; simp [IntOp.cmpi]
  · have h' := mt this.1 h
    simp only [IntOp.cmpi, if_neg h]
    rw [beq_eq_false_iff_ne.2 h']; rfl

end Cert.KernelIdeal.Hand
-- ==== Proof.Rank.lean ====
/-
  THE THREE GREATEST OF SIXTEEN. Two ways of taking the three greatest gates meet here: taking the first greatest three times over, each
  time dropping what was taken, and sorting. Both are read off the RANK of a block, the number of blocks that come before it in the order
  "greater gate first, then lower number".
-/
module

public import Idealize.ShloMosaic.Lib.Pointwise

@[expose] public section

namespace Cert.Hand

variable {N : ℕ} (g : Fin N → EReal)

/-- Block `a` comes before block `n`: its gate is greater, or is the same and its number is lower. -/
def Beats (a n : Fin N) : Prop := g n < g a ∨ (g a = g n ∧ a < n)

noncomputable instance (a n : Fin N) : Decidable (Beats g a n) := Classical.dec _

theorem Beats.irrefl (a : Fin N) : ¬ Beats g a a := by simp [Beats]

theorem Beats.trans {a b c : Fin N} (h : Beats g a b) (h' : Beats g b c) : Beats g a c := by
  unfold Beats at *
  rcases h with h | ⟨h, i⟩ <;> rcases h' with h' | ⟨h', i'⟩
  · exact .inl (h'.trans h)
  · exact .inl (h' ▸ h)
  · exact .inl (h.symm ▸ h')
  · exact .inr ⟨h.trans h', i.trans i'⟩

theorem Beats.total {a b : Fin N} (h : a ≠ b) : Beats g a b ∨ Beats g b a := by
  unfold Beats
  rcases lt_trichotomy (g a) (g b) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- How many blocks come before block `n`. -/
noncomputable def rank (n : Fin N) : ℕ := (Finset.univ.filter fun a => Beats g a n).card

theorem rank_lt {a n : Fin N} (h : Beats g a n) : rank g a < rank g n := by
  refine Finset.card_lt_card ⟨fun b hb => ?_, fun hs => ?_⟩
  · simp only [Finset.mem_filter, Finset.mem_univ, true_and] at hb ⊢
    exact hb.trans g h
  · have := hs (show a ∈ _ by simpa using h)
    simp only [Finset.mem_filter, Finset.mem_univ, true_and] at this
    exact Beats.irrefl g a this

theorem rank_inj : Function.Injective (rank g) := by
  intro a b h
  by_contra hn
  rcases Beats.total g hn with h1 | h1 <;> have := rank_lt g h1 <;> omega

/-- The rank looks only at how the gates compare. -/
theorem rank_congr {g' : Fin N → EReal} (h : ∀ a b, g a < g b ↔ g' a < g' b) : rank g = rank g' := by
  have he : ∀ a b, g a = g b ↔ g' a = g' b := fun a b => by
    rw [le_antisymm_iff, le_antisymm_iff, ← not_lt, ← not_lt, ← not_lt, ← not_lt, h, h]
  funext n
  exact congrArg Finset.card (Finset.filter_congr fun a _ => by simp only [Beats, h, he])

/-- Block `p` is the first whose gate is the greatest. -/
structure First (p : Fin N) : Prop where
  max : ∀ n, g n ≤ g p
  first : ∀ n, g n = g p → p ≤ n

/-- ONE ROUND. If the past blocks taken so far are those of rank below `r`, and a block taken or not past has gate −∞, then with the
    first greatest taken too the past blocks taken are those of rank below `r + 1`. -/
theorem round {past picked : Fin N → Prop} [DecidablePred picked] (hpast : ∀ n, past n ↔ g n ≠ ⊥) (r : ℕ)
    (hp : ∀ n, past n → (picked n ↔ rank g n < r)) {g' : Fin N → EReal} (hg' : ∀ n, g' n = if picked n then ⊥ else g n) {p : Fin N}
    (hf : First g' p) (n : Fin N) (hn : past n) : (picked n ∨ n = p) ↔ rank g n < r + 1 := by
  by_cases hb : g' p = ⊥
  · have all : ∀ m, past m → picked m := fun m hm => by
      by_contra hk
      have := hf.max m
      rw [hb, hg', if_neg hk, le_bot_iff] at this
      exact (hpast m).1 hm this
    have := (hp n hn).1 (all n hn)
    constructor
    · intro _; omega
    · intro _; exact .inl (all n hn)
  · have hpk : ¬ picked p := fun h => hb (by rw [hg', if_pos h])
    have egp : g' p = g p := by rw [hg', if_neg hpk]
    have pp : past p := (hpast p).2 (egp ▸ hb)
    have ge : r ≤ rank g p := not_lt.1 fun h => hpk ((hp p pp).2 h)
    have le : rank g p ≤ r := by
      have : (Finset.univ.filter fun a => Beats g a p).card ≤ (Finset.range r).card := by
        refine Finset.card_le_card_of_injOn (rank g) (fun a ha => ?_) (fun a _ b _ h => rank_inj g h)
        simp only [Finset.coe_filter, Finset.mem_univ, true_and, Set.mem_setOf_eq] at ha
        have pa : past a := by
          refine (hpast a).2 fun e => ?_
          rcases ha with h | ⟨h, _⟩
          · simp [e] at h
          · exact hb (by rw [egp, ← h, e])
        have ka : picked a := by
          by_contra hk
          have e : g' a = g a := by rw [hg', if_neg hk]
          have m := hf.max a
          rcases ha with h | ⟨h, i⟩
          · rw [e, egp] at m; exact absurd h (not_lt.2 m)
          · exact absurd (hf.first a (by rw [e, egp, h])) (not_le.2 i)
        simpa using (hp a pa).1 ka
      simpa [rank] using this
    have er : rank g p = r := le_antisymm le ge
    constructor
    · rintro (h | rfl)
      · have := (hp n hn).1 h; omega
      · omega
    · intro h
      rcases Nat.lt_succ_iff_lt_or_eq.1 h with h | h
      · exact .inl ((hp n hn).2 h)
      · exact .inr (rank_inj g (h.trans er.symm))

/-- In a sorted listing the block at place `j` has rank `j`. -/
theorem rank_sorted {σ : Fin N → Fin N} (hσ : Function.Bijective σ) (h : ∀ j k, j < k → ¬ Beats g (σ k) (σ j)) (j : Fin N) :
    rank g (σ j) = j.val := by
  have : (Finset.univ.filter fun a => Beats g a (σ j)) = (Finset.Iio j).image σ := by
    ext a
    obtain ⟨k, rfl⟩ := hσ.2 a
    simp only [Finset.mem_filter, Finset.mem_univ, true_and, Finset.mem_image, Finset.mem_Iio, hσ.1.eq_iff, exists_eq_right]
    constructor
    · intro hb
      rcases lt_trichotomy k j with h1 | h1 | h1
      · exact h1
      · subst h1; exact absurd hb (Beats.irrefl g _)
      · exact absurd hb (h _ _ h1)
    · intro hk
      rcases Beats.total g (hσ.1.ne hk.ne) with h1 | h1
      · exact h1
      · exact absurd h1 (h _ _ hk)
  rw [rank, this, Finset.card_image_of_injective _ hσ.1, Fin.card_Iio]

end Cert.Hand
-- ==== Proof.Softmax.lean ====
/-
  A SOFTMAX OVER SOME OF THE KEYS. A key that is not allowed scores −∞ and weighs nothing; the others weigh the exponential of their score
  less a real number, which cancels.
-/
module

public import Idealize.ShloMosaic.Lib.Pointwise

@[expose] public section

namespace Cert.Hand

open Idealize.ShloMosaic

/-- A finite sum of real numbers is the same among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section
variable {ι : Type*} [Fintype ι] (ok : ι → Prop) [DecidablePred ok] (x : ι → ℝ)

/-- The score of a key, −∞ if it is not allowed. -/
noncomputable def masked (i : ι) : EReal := if ok i then (x i : EReal) else ⊥

/-- The weight of a key before division. -/
noncomputable def weight (i : ι) : ℝ := if ok i then Real.exp (x i) else 0

/-- The weighted mean of `v` over the allowed keys. -/
noncomputable def mean (v : ι → ℝ) : ℝ := (∑ i, weight ok x i * v i) / ∑ i, weight ok x i

theorem weight_nonneg (i : ι) : 0 ≤ weight ok x i := by
  unfold weight; split
  · exact (Real.exp_pos _).le
  · exact le_rfl

variable {ok}

theorem weight_pos (h : ∃ i, ok i) : 0 < ∑ i, weight ok x i := by
  obtain ⟨i, hi⟩ := h
  refine Finset.sum_pos' (fun i _ => weight_nonneg ok x i) ⟨i, Finset.mem_univ i, ?_⟩
  rw [weight, if_pos hi]; exact Real.exp_pos _

/-- The greatest score is a real number as soon as one key is allowed. -/
theorem max_real (h : ∃ i, ok i) : ∃ m : ℝ, (Finset.univ : Finset ι).fold max ⊥ (masked ok x) = (m : EReal) := by
  have lt : (Finset.univ : Finset ι).fold max ⊥ (masked ok x) < ⊤ := by
    rw [Finset.fold_max_lt]
    refine ⟨bot_lt_top, fun i _ => ?_⟩
    unfold masked; split
    · exact EReal.coe_lt_top _
    · exact bot_lt_top
  have gt : ⊥ < (Finset.univ : Finset ι).fold max ⊥ (masked ok x) := by
    obtain ⟨i, hi⟩ := h
    rw [Finset.lt_fold_max]
    exact .inr ⟨i, Finset.mem_univ i, by rw [masked, if_pos hi]; exact EReal.bot_lt_coe _⟩
  exact ⟨_, (EReal.coe_toReal lt.ne gt.ne').symm⟩

variable (ok)

/-- The exponential of a score less a real number. -/
theorem exp_masked (m : ℝ) (i : ι) : Ideal.exp (masked ok x i - (m : EReal)) = ((weight ok x i * Real.exp (-m) : ℝ) : EReal) := by
  unfold masked weight
  split
  · rw [← EReal.coe_sub]
    show ((Real.exp (x i - m) : ℝ) : EReal) = _
    rw [sub_eq_add_neg, Real.exp_add]
  · rw [EReal.bot_sub]
    show (0 : EReal) = _
    rw [zero_mul]; rfl

variable {ok}

/-- The mean, as the sum of weighted values over the sum of weights. -/
theorem mean_of_sums (h : ∃ i, ok i) (v : ι → ℝ) (m : ℝ) :
    Ideal.div (∑ i, ((weight ok x i * Real.exp (-m) : ℝ) : EReal) * (v i : EReal)) (∑ i, ((weight ok x i * Real.exp (-m) : ℝ) : EReal))
      = (mean ok x v : EReal) := by
  have hW := weight_pos x h
  have he := Real.exp_pos (-m)
  have hs : ∑ i, weight ok x i * Real.exp (-m) ≠ 0 := by rw [← Finset.sum_mul]; positivity
  simp only [← EReal.coe_mul, ← coe_sum]
  rw [Ideal.div_coe hs, ← EReal.coe_mul]
  congr 1
  unfold mean
  rw [← Finset.sum_mul, Finset.sum_congr rfl fun i _ => mul_right_comm (weight ok x i) (Real.exp (-m)) (v i), ← Finset.sum_mul]
  field_simp

/-- The mean, as the sum of values weighted by weights divided beforehand. -/
theorem mean_of_divided (h : ∃ i, ok i) (v : ι → ℝ) (m : ℝ) :
    ∑ i, Ideal.div ((weight ok x i * Real.exp (-m) : ℝ) : EReal) (∑ i, ((weight ok x i * Real.exp (-m) : ℝ) : EReal)) * (v i : EReal)
      = (mean ok x v : EReal) := by
  have hW := weight_pos x h
  have he := Real.exp_pos (-m)
  have hs : ∑ i, weight ok x i * Real.exp (-m) ≠ 0 := by rw [← Finset.sum_mul]; positivity
  simp only [← coe_sum, Ideal.div_coe hs, ← EReal.coe_mul]
  congr 1
  unfold mean
  rw [Finset.sum_div]
  refine Finset.sum_congr rfl fun i _ => ?_
  rw [← Finset.sum_mul]
  field_simp

end

end Cert.Hand
-- ==== Proof.Lits.lean ====
/-
  THE LITERALS, as extended reals: 0.125, the two infinities, and the mask, which is named −∞.
-/
module

public import proofs.«01_k».proof.Proof.Body
import Idealize.ShloMosaic.Lib.Pointwise

@[expose] public section

noncomputable section

namespace Cert.KernelIdeal.Hand

open Cert.KernelIdeal Cert.KernelIdeal.Gen Idealize.ShloMosaic

theorem lit_scale : Ideal.ofBits .f32 0x3E000000#32 = ((1 / 8 : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; try norm_num

theorem lit_top : Ideal.ofBits .f32 0x7F800000#32 = ⊤ := by
  simp [Ideal.ofBits, Ideal.ieee]

theorem lit_bot : Ideal.ofBits .f32 0xFF800000#32 = ⊥ := by
  simp [Ideal.ofBits, Ideal.ieee]

theorem lit_mask : (Named.named κ "mask" 0xF149F2CA#32 : Ideal .f32) = ⊥ :=
  IdealRules.named_const.ideal_named_scalar _ _ _ _ rfl

end Cert.KernelIdeal.Hand
-- ==== Proof.Gate.lean ====
/-
  THE OPEN BLOCKS. In the kernel's body: which lanes are a head's, what the gate is, and which blocks are open after three choices: the
  query's own, and a past block of rank below three among the gates.
-/
module

public import proofs.«01_k».proof.Proof.Words
public import proofs.«01_k».proof.Proof.Rank
public import proofs.«01_k».proof.Proof.Softmax
public import proofs.«01_k».proof.Proof.Lits
import Idealize.ShloMosaic.Lib.Pointwise

@[expose] public section

noncomputable section

namespace Cert.KernelIdeal.Hand

open Cert.KernelIdeal Cert.KernelIdeal.Gen Idealize.ShloMosaic Idealize.ShloMosaic.TcCoe Cert.Hand

variable {t0 : ℕ} (ht : t0 + 128 ≤ 4096)

theorem qpos_apply (r : Fin 128) : qpos (BitVec.ofNat 32 t0) (ix2 r 0) = BitVec.ofNat 32 (t0 + r.val) := by
  pointwise [qpos]
  exact (BitVec.ofNat_add t0 r.val).symm

theorem lanes_apply {h : ℕ} (hh : h < 2) (r l : Fin 128) :
    lanes (BitVec.ofNat 32 h) (ix2 r l) = if l.val / 64 = h then 1#1 else 0#1 := by
  pointwise [lanes]
  rw [fdiv_apply, iota_single_apply]
  show IntOp.cmpi .eq (fdivW (BitVec.ofNat 32 l.val) 64#32) _ = _
  rw [fdivW_64 l, eq_small (by omega) (by omega)]

theorem blkId_apply (r : Fin 128) (n : Fin 16) : (blkId : FVec Ideal S128x16 .f32) (ix2 r n) = ((n.val : ℝ) : EReal) := by
  pointwise [blkId]
  show (((BitVec.ofNat 32 n.val).toInt : ℝ) : EReal) = _
  rw [toInt_small (by omega)]; simp

include ht in
theorem ownBlk_apply (r : Fin 128) :
    (ownBlk (BitVec.ofNat 32 t0) : FVec Ideal S128x1 .f32) (ix2 r 0) = ((((t0 + r.val) / 256 : ℕ) : ℝ) : EReal) := by
  show (((fdivW (qpos (BitVec.ofNat 32 t0) (ix2 r 0)) 256#32).toInt : ℝ) : EReal) = _
  rw [qpos_apply, fdivW_256 ⟨t0 + r.val, by omega⟩, toInt_small (show (t0 + r.val) / 256 < 4096 by omega), Int.cast_natCast]

include ht in
theorem past_apply (r : Fin 128) (n : Fin 16) :
    past Ideal (BitVec.ofNat 32 t0) (ix2 r n) = if n.val < (t0 + r.val) / 256 then 1#1 else 0#1 := by
  pointwise [past]
  rw [blkId_apply, ownBlk_apply ht]
  simp only [EReal.coe_lt_coe_iff, Nat.cast_lt]
  by_cases h : n.val < (t0 + r.val) / 256 <;> simp [h]

include ht in
theorem closed0_apply (r : Fin 128) (n : Fin 16) :
    closed0 (F := Ideal) (BitVec.ofNat 32 t0) (ix2 r n) = if n.val = (t0 + r.val) / 256 then 0 else ⊥ := by
  pointwise [closed0]
  rw [blkId_apply, ownBlk_apply ht, lit_mask]
  simp only [EReal.coe_eq_coe_iff, Nat.cast_inj]

/-- The block that a round picks is the first whose gate is the greatest. -/
theorem pick_apply (g : FVec Ideal S128x16 .f32) (r : Fin 128) :
    ∃ p : Fin 16, First (fun n => g (ix2 r n)) p ∧ ∀ n, pick g (ix2 r n) = if n = p then 1#1 else 0#1 := by
  obtain ⟨p0, -, h0⟩ := Finset.exists_max_image (Finset.univ : Finset (Fin 16)) (fun n => g (ix2 r n)) ⟨0, Finset.mem_univ _⟩
  have hM : Finset.fold max (⊥ : EReal) (fun x => g (ix2 r x)) (Finset.univ : Finset (Fin 16)) = g (ix2 r p0) := by
    refine le_antisymm ?_ ?_
    · rw [Finset.fold_max_le]; exact ⟨bot_le, h0⟩
    · rw [Finset.le_fold_max]; exact .inr ⟨p0, Finset.mem_univ _, le_rfl⟩
  obtain ⟨p, hp, hmin⟩ := Finset.exists_min_image (Finset.univ.filter fun n : Fin 16 => g (ix2 r n) = g (ix2 r p0)) (fun n => n)
    ⟨p0, by simp⟩
  simp only [Finset.mem_filter, Finset.mem_univ, true_and] at hp hmin
  refine ⟨p, ⟨fun n => hp ▸ h0 n (Finset.mem_univ _), fun n hn => hmin n (hn.trans hp)⟩, fun n => ?_⟩
  have hm : Finset.fold min (⊤ : EReal)
      (fun x : Fin 16 => if g (ix2 r x) = g (ix2 r p0) then ((x.val : ℝ) : EReal) else ((((16#32).toInt : ℤ) : ℝ) : EReal)) Finset.univ
      = ((p.val : ℝ) : EReal) := by
    refine le_antisymm ?_ ?_
    · rw [Finset.fold_min_le]; exact .inr ⟨p, Finset.mem_univ _, by rw [if_pos hp]⟩
    · rw [Finset.le_fold_min]
      refine ⟨le_top, fun x _ => ?_⟩
      split
      · next hx => rw [EReal.coe_le_coe_iff, Nat.cast_le]; exact hmin x hx
      · rw [EReal.coe_le_coe_iff]
        have : ((16#32).toInt : ℤ) = 16 := by decide
        rw [this]; have := p.isLt; exact_mod_cast this.le
  pointwise [pick, spread]
  simp only [blkId_apply, lit_bot, lit_top, hM]
  rw [hm]
  simp only [EReal.coe_eq_coe_iff, Nat.cast_inj, ← Fin.ext_iff]
  by_cases h : n = p <;> simp [h]

theorem opened_apply (pa : IVec S128x16 1) (g cl : FVec Ideal S128x16 .f32) (r : Fin 128) (n : Fin 16) :
    opened pa g cl (ix2 r n) = if pick g (ix2 r n) = 1#1 ∧ pa (ix2 r n) = 1#1 then 0 else cl (ix2 r n) := by
  pointwise [opened]
  generalize pick g (ix2 r n) = a
  generalize pa (ix2 r n) = b
  revert a b
  have : ∀ a b : BitVec 1, (IntOp.andi a b = 1#1) ↔ (a = 1#1 ∧ b = 1#1) := by decide
  intro a b
  unfold Scalar.select
  simp [this]

theorem dropped_apply (g : FVec Ideal S128x16 .f32) (r : Fin 128) (n : Fin 16) :
    dropped g (ix2 r n) = if pick g (ix2 r n) = 1#1 then ⊥ else g (ix2 r n) := by
  pointwise [dropped]
  rw [lit_bot]; rfl

include ht in
/-- After three choices the open blocks are the query's own and the past blocks of rank below three. -/
theorem closed3_apply (g : FVec Ideal S128x16 .f32) (r : Fin 128)
    (hg : ∀ n : Fin 16, n.val < (t0 + r.val) / 256 ↔ g (ix2 r n) ≠ ⊥) (n : Fin 16) :
    closed3 (past Ideal (BitVec.ofNat 32 t0)) g (closed0 (BitVec.ofNat 32 t0)) (ix2 r n)
      = if n.val = (t0 + r.val) / 256 ∨ (n.val < (t0 + r.val) / 256 ∧ rank (fun n => g (ix2 r n)) n < 3) then 0 else ⊥ := by
  obtain ⟨p0, f0, e0⟩ := pick_apply g r
  obtain ⟨p1, f1, e1⟩ := pick_apply (dropped g) r
  obtain ⟨p2, f2, e2⟩ := pick_apply (dropped (dropped g)) r
  have one : ∀ (P : Prop) [Decidable P], ((if P then 1#1 else 0#1) = 1#1) ↔ P := fun P _ => by split <;> simp_all
  have d1 : ∀ n : Fin 16, dropped g (ix2 r n) = if n = p0 then ⊥ else g (ix2 r n) := fun n => by
    rw [dropped_apply, e0]; simp only [one]
  have d2 : ∀ n : Fin 16, dropped (dropped g) (ix2 r n) = if n = p0 ∨ n = p1 then ⊥ else g (ix2 r n) := fun n => by
    rw [dropped_apply, e1, d1]; simp only [one]
    by_cases h : n = p1 <;> by_cases h' : n = p0 <;> simp [h, h']
  have r0 := round (fun n => g (ix2 r n)) (picked := fun _ => False) hg 0 (fun n _ => by simp) (g' := fun n => g (ix2 r n))
    (fun n => by simp) f0
  have r1 := round (fun n => g (ix2 r n)) (picked := fun n => n = p0) hg 1 (fun n hn => by have := r0 n hn; simpa using this) d1 f1
  have r2 := round (fun n => g (ix2 r n)) (picked := fun n => n = p0 ∨ n = p1) hg 2 r1 d2 f2
  unfold closed3
  rw [opened_apply, opened_apply, opened_apply, e0, e1, e2, past_apply ht, closed0_apply ht]
  simp only [one]
  by_cases hn : n.val < (t0 + r.val) / 256
  · have := r2 n hn
    have ne : n.val ≠ (t0 + r.val) / 256 := by omega
    simp only [hn, ne, and_true, if_false, true_and, false_or, ← this]
    by_cases a : n = p0 <;> by_cases b : n = p1 <;> by_cases c : n = p2 <;> simp [a, b, c]
  · simp [hn]

end Cert.KernelIdeal.Hand
-- ==== Proof.Attend.lean ====
/-
  ONE HEAD'S OUTPUT. What the kernel's body computes for one head of a tile, at any prefix length: the weighted mean of the values over the
  keys that are not later than the query and lie in an open block.
-/
module

public import proofs.«01_k».proof.Proof.Gate
public import Idealize.ShloMosaic.Lib.MatmulPlain
public import Idealize.ShloMosaic.Lib.Pipeline.Value
import Idealize.ShloMosaic.Lib.Pointwise
import Idealize.ShloMosaic.Lib.Pointwise.IndexBridge

@[expose] public section

noncomputable section

namespace Cert.KernelIdeal.Hand

open Cert.KernelIdeal Cert.KernelIdeal.Gen Idealize.ShloMosaic Idealize.ShloMosaic.TcCoe Cert.Hand

variable {t0 : ℕ} (ht : t0 + 128 ≤ 4096) {L : ℕ} (hs : Sides L) (hL : L ≤ 4096)

/-- A product of matrices, read at a row and a column. -/
theorem plain_apply {M K N : ℕ} {φ₁ φ₂ : FTy} (lhs : FVec Ideal (Mat M K) φ₁) (rhs : FVec Ideal (Mat K N) φ₂)
    (acc : FVec Ideal (Mat M N) .f32) (r : Fin M) (c : Fin N) :
    FloatOps.matmul (DotDims.plain M K N) none lhs rhs acc (ix2 r c) = acc (ix2 r c) + ∑ k : Fin K, lhs (ix2 r k) * rhs (ix2 k c) := by
  simp only [ix2_eq_valueIdx]; exact Ideal.matmul_plain_apply _ _ _ _ _ _

/-- A product with the second matrix transposed. -/
theorem transposed_apply {M K N : ℕ} {φ₁ φ₂ : FTy} (lhs : FVec Ideal (Mat M K) φ₁) (rhs : FVec Ideal (Mat N K) φ₂)
    (acc : FVec Ideal (Mat M N) .f32) (r : Fin M) (c : Fin N) :
    FloatOps.matmul (DotDims.transposedRhs M K N) none lhs rhs acc (ix2 r c)
      = acc (ix2 r c) + ∑ k : Fin K, lhs (ix2 r k) * rhs (ix2 c k) := by
  simp only [ix2_eq_valueIdx]; exact Ideal.matmul_transposedRhs_apply _ _ _ _ _ _

/-- A column spread over the keys. -/
theorem colTo_apply {α : Type} (x : S128x1.Idx → α) (r : Fin 128) (k : Fin L) :
    broadcastTo (Mat 128 L) x hs.colTo (ix2 r k) = x (ix2 r 0) :=
  broadcastTo_apply x hs.colTo (ix2 r k) (ix2 r 0) fun a => by
    match a with
    | ⟨0, _⟩ => rfl
    | ⟨1, _⟩ => rfl

/-- A row spread over the queries. -/
theorem rowTo_apply {α : Type} (x : (Mat 1 L).Idx → α) (r : Fin 128) (k : Fin L) :
    broadcastTo (Mat 128 L) x hs.rowTo (ix2 r k) = x (ix2 0 k) :=
  broadcastTo_apply x hs.rowTo (ix2 r k) (ix2 0 k) fun a => by
    match a with
    | ⟨0, _⟩ => rfl
    | ⟨1, _⟩ =>
      show k.val = if L = 1 then 0 else k.val
      split
      · have := k.isLt; omega
      · rfl

include ht hL in
theorem causal_apply (r : Fin 128) (k : Fin L) :
    (causal hs (BitVec.ofNat 32 t0) : FVec Ideal (Mat 128 L) .f32) (ix2 r k) = if t0 + r.val < k.val then ⊥ else 0 := by
  show Scalar.select (IntOp.cmpi .sgt (broadcastTo (Mat 128 L) (iota .tc (Mat 1 L) 32 [1] hs.iotaRow) hs.rowTo (ix2 r k))
    (broadcastTo (Mat 128 L) (qpos (BitVec.ofNat 32 t0)) hs.colTo (ix2 r k)))
    (Named.named κ "mask" 0xF149F2CA#32 : Ideal .f32) (Ideal.ofBits .f32 0x00000000#32) = _
  rw [colTo_apply hs, rowTo_apply hs, qpos_apply, lit_mask, Ideal.ofBits_zero_f32, iota_single_apply]
  show Scalar.select (IntOp.cmpi .sgt (BitVec.ofNat 32 k.val) _) _ _ = _
  rw [sgt_small (by have := k.isLt; omega) (by omega)]
  by_cases h : t0 + r.val < k.val <;> simp [h, Scalar.select]

include hL in
theorem expand_apply (n : Fin 16) (k : Fin L) :
    (expand hs : FVec Ideal (Mat 16 L) .bf16) (ix2 n k) = if k.val / 256 = n.val then 1 else 0 := by
  show Scalar.select (IntOp.cmpi .eq (fdivW (iota .tc (Mat 16 L) 32 [1] hs.iotaKey (ix2 n k)) 256#32)
    (iota .tc (Mat 16 L) 32 [0] hs.iotaBlk (ix2 n k))) (Ideal.ofBits .f32 0x3F800000#32) (Ideal.ofBits .f32 0x00000000#32) = _
  rw [lit_one, Ideal.ofBits_zero_f32, iota_single_apply, iota_single_apply]
  show Scalar.select (IntOp.cmpi .eq (fdivW (BitVec.ofNat 32 k.val) 256#32) (BitVec.ofNat 32 n.val)) _ _ = _
  have hk := k.isLt
  rw [fdivW_256 ⟨k.val, by omega⟩, eq_small (by show k.val / 256 < 4096; omega) (by omega)]
  by_cases h : k.val / 256 = n.val <;> simp [h, Scalar.select]

include ht hL in
/-- The masked score: that of the dot product if the key is allowed, else −∞. -/
theorem scores_apply (k : FVec Ideal (Mat L 128) .bf16) (qh : FVec Ideal S128x128 .f32) (cl : FVec Ideal S128x16 .f32) (r : Fin 128)
    (x : Fin L → ℝ) (hx : ∀ j, ∑ l : Fin 128, qh (ix2 r l) * k (ix2 j l) = (x j : EReal)) (op : ℕ → Prop) [DecidablePred op]
    (hcl : ∀ n : Fin 16, cl (ix2 r n) = if op n.val then 0 else ⊥) (j : Fin L) :
    scores hs (BitVec.ofNat 32 t0) k qh cl (ix2 r j)
      = masked (fun j : Fin L => j.val ≤ t0 + r.val ∧ op (j.val / 256)) x j := by
  show (FloatOps.matmul (DotDims.transposedRhs 128 128 L) none (truncf .bf16 qh bitsLt_bf16_f32) k
        (constant (Mat 128 L) .f32 0x00000000#32 : FVec Ideal (Mat 128 L) .f32) (ix2 r j)
      + FloatOps.matmul (DotDims.plain 128 16 L) none (truncf .bf16 cl bitsLt_bf16_f32) (expand hs)
        (constant (Mat 128 L) .f32 0x00000000#32 : FVec Ideal (Mat 128 L) .f32) (ix2 r j))
      + (causal hs (BitVec.ofNat 32 t0) : FVec Ideal (Mat 128 L) .f32) (ix2 r j) = _
  rw [transposed_apply, plain_apply, causal_apply ht hs hL]
  show (Ideal.ofBits .f32 0x00000000#32 + ∑ l : Fin 128, qh (ix2 r l) * k (ix2 j l)
      + (Ideal.ofBits .f32 0x00000000#32 + ∑ n : Fin 16, cl (ix2 r n) * (expand hs : FVec Ideal (Mat 16 L) .bf16) (ix2 n j))) + _ = _
  have hj := j.isLt
  have e : ∑ n : Fin 16, cl (ix2 r n) * (expand hs : FVec Ideal (Mat 16 L) .bf16) (ix2 n j)
      = if op (j.val / 256) then 0 else ⊥ := by
    rw [Finset.sum_eq_single (⟨j.val / 256, by omega⟩ : Fin 16)]
    · rw [expand_apply hs hL, if_pos rfl, mul_one, hcl]
    · intro n _ hn
      rw [expand_apply hs hL, if_neg (fun h => hn (Fin.ext h.symm)), mul_zero]
    · intro h; exact absurd (Finset.mem_univ _) h
  rw [hx, e, Ideal.ofBits_zero_f32, zero_add, zero_add]
  unfold masked
  dsimp only
  by_cases h1 : t0 + r.val < j.val
  · have hn : ¬ (j.val ≤ t0 + r.val ∧ op (j.val / 256)) := fun h => absurd h.1 (not_le.2 h1)
    rw [if_pos h1, if_neg hn, EReal.add_bot]
  · by_cases h2 : op (j.val / 256)
    · rw [if_neg h1, if_pos h2, if_pos ⟨by omega, h2⟩, add_zero, add_zero]
    · rw [if_neg h1, if_neg h2, if_neg (fun h => h2 h.2), add_zero, EReal.add_bot]

/-- The output of the scores: the weighted mean. -/
theorem mixed_apply (v : FVec Ideal (Mat L 128) .bf16) (s : FVec Ideal (Mat 128 L) .f32) (r l : Fin 128) (ok : Fin L → Prop)
    [DecidablePred ok] (hok : ∃ j, ok j) (x y : Fin L → ℝ) (hsc : ∀ j, s (ix2 r j) = masked ok x j) (hv : ∀ j, v (ix2 j l) = (y j : EReal)) :
    mixed hs v (weights hs s) (ix2 r l) = (mean ok x y : EReal) := by
  have hm : ∃ m : ℝ, multiReduction .maximumf [1] S128 s 0xFF800000#32 hs.red (.inl rfl) rfl (ix1 r) = (m : EReal) := by
    obtain ⟨m, h⟩ := max_real x hok
    refine ⟨m, ?_⟩
    rw [← h]
    have : masked ok x = fun j => s (ix2 r j) := funext fun j => (hsc j).symm
    rw [this]
    pointwise
    rw [lit_bot]
  obtain ⟨m, hm⟩ := hm
  have hw : ∀ j, weights hs s (ix2 r j) = ((weight ok x j * Real.exp (-m) : ℝ) : EReal) := fun j => by
    show Ideal.exp (s (ix2 r j) - broadcastTo (Mat 128 L) (shapeCast S128x1
      (multiReduction .maximumf [1] S128 s 0xFF800000#32 hs.red (.inl rfl) rfl) shapeCasts_S128_S128x1) hs.colTo (ix2 r j)) = _
    rw [colTo_apply hs, hsc]
    have : shapeCast S128x1 (multiReduction .maximumf [1] S128 s 0xFF800000#32 hs.red (.inl rfl) rfl) shapeCasts_S128_S128x1 (ix2 r 0)
        = (m : EReal) := by
      rw [← hm]; pointwise
    rw [this, exp_masked]
  rw [← mean_of_sums x hok y m]
  show Ideal.div (FloatOps.matmul (DotDims.plain 128 L 128) none (truncf .bf16 (weights hs s) bitsLt_bf16_f32) v
        (constant S128x128 .f32 0x00000000#32 : FVec Ideal S128x128 .f32) (ix2 r l))
      (broadcastTo S128x128 (shapeCast S128x1 (multiReduction .add [1] S128 (weights hs s) 0x00000000#32 hs.red (.inl rfl) rfl)
        shapeCasts_S128_S128x1) broadcasts_S128x1_S128x128 (ix2 r l)) = _
  rw [plain_apply]
  congr 1
  · show Ideal.ofBits .f32 0x00000000#32 + ∑ j : Fin L, weights hs s (ix2 r j) * v (ix2 j l) = _
    rw [Ideal.ofBits_zero_f32, zero_add]
    exact Finset.sum_congr rfl fun j _ => by rw [hw, hv]
  · pointwise
    exact Finset.sum_congr rfl fun j _ => hw j

end Cert.KernelIdeal.Hand
-- ==== Proof.Spec.lean ====
/-
  THE ATTENTION, AS MATHEMATICS. For real queries, keys, values and block means: a query sees the keys of its own block that are not later
  than itself, and of the blocks before it those three whose mean has the greatest dot product with it. What it gets is the mean of the
  visible values, weighted by the exponentials of the scaled dot products. Kernel and reference are each shown to be this.
-/
module

public import proofs.«01_k».proof.Proof.Rank
public import proofs.«01_k».proof.Proof.Softmax

@[expose] public section

noncomputable section

namespace Cert.Hand

/-- Lane `d` of head `h` among the 512 lanes of eight heads. -/
def lane (h : Fin 8) (d : Fin 64) : Fin 512 := ⟨h.val * 64 + d.val, by omega⟩

/-- The real arrays: batch, position, lane; the means by block. -/
structure Arrays where
  q : Fin 4 → Fin 4096 → Fin 512 → ℝ
  k : Fin 4 → Fin 4096 → Fin 512 → ℝ
  v : Fin 4 → Fin 4096 → Fin 512 → ℝ
  km : Fin 4 → Fin 16 → Fin 512 → ℝ

variable (A : Arrays) (b : Fin 4) (h : Fin 8) (t : Fin 4096)

/-- The gate of a block: the query by the block's mean; −∞ at a block that is not past. -/
def gate (n : Fin 16) : EReal :=
  if n.val < t.val / 256 then ((∑ d : Fin 64, A.q b t (lane h d) * A.km b n (lane h d) : ℝ) : EReal) else ⊥

/-- A past block is selected if fewer than three come before it. -/
def Open (n : ℕ) : Prop := n = t.val / 256 ∨ (n < t.val / 256 ∧ ∃ hn : n < 16, rank (gate A b h t) ⟨n, hn⟩ < 3)

/-- The keys that the query sees. -/
def Allowed (k : Fin 4096) : Prop := k.val ≤ t.val ∧ Open A b h t (k.val / 256)

instance : DecidablePred (Open A b h t) := fun _ => Classical.dec _
instance : DecidablePred (Allowed A b h t) := fun _ => Classical.dec _

/-- The scaled score of a key. -/
def score (k : Fin 4096) : ℝ := (∑ d : Fin 64, A.q b t (lane h d) * A.k b k (lane h d)) * (1 / 8)

/-- The attention's output. -/
def attn (d : Fin 64) : ℝ := mean (Allowed A b h t) (score A b h t) (fun k => A.v b k (lane h d))

/-- A query sees itself. -/
theorem allowed_self : Allowed A b h t t := ⟨le_rfl, .inl rfl⟩

theorem gate_ne_bot (n : Fin 16) : n.val < t.val / 256 ↔ gate A b h t n ≠ ⊥ := by
  unfold gate
  split
  · next hn => exact ⟨fun _ => EReal.coe_ne_bot _, fun _ => hn⟩
  · next hn => exact ⟨fun h => absurd h hn, fun h => absurd rfl h⟩

/-- A sum over a prefix is the sum over the whole of what vanishes beyond. -/
theorem sum_prefix {L N : ℕ} (hL : L ≤ N) (f : Fin N → ℝ) (hf : ∀ k, L ≤ k.val → f k = 0) :
    ∑ j : Fin L, f (Fin.castLE hL j) = ∑ k, f k := by
  show ∑ j, f (Fin.castLEEmb hL j) = _
  rw [← Finset.sum_map Finset.univ (Fin.castLEEmb hL) f]
  refine Finset.sum_subset (Finset.subset_univ _) fun k _ hk => hf k (not_lt.1 fun h => hk ?_)
  simp only [Finset.mem_map, Finset.mem_univ, true_and]
  exact ⟨⟨k.val, h⟩, rfl⟩

/-- So is a mean over a prefix that holds every allowed key. -/
theorem mean_prefix {L N : ℕ} (hL : L ≤ N) (ok : Fin N → Prop) [DecidablePred ok] (x v : Fin N → ℝ) (h : ∀ k, ok k → k.val < L) :
    mean (fun j : Fin L => ok (Fin.castLE hL j)) (fun j => x (Fin.castLE hL j)) (fun j => v (Fin.castLE hL j)) = mean ok x v := by
  have hw : ∀ k : Fin N, L ≤ k.val → weight ok x k = 0 := fun k hk => by
    rw [weight, if_neg fun o => absurd (h k o) (not_lt.2 hk)]
  unfold mean
  rw [← sum_prefix hL (fun k => weight ok x k * v k) (fun k hk => by rw [hw k hk, zero_mul]), ← sum_prefix hL (weight ok x) hw]
  rfl

/-- Of the 128 lanes of a pair of heads only one head's count when the others are zeroed. -/
theorem sum_lanes (e : Fin 2) (f : Fin 128 → ℝ) :
    ∑ l : Fin 128, (if l.val / 64 = e.val then f l else 0) = ∑ d : Fin 64, f ⟨e.val * 64 + d.val, by omega⟩ := by
  rw [← Equiv.sum_comp (finProdFinEquiv (m := 2) (n := 64)), Fintype.sum_prod_type, Finset.sum_eq_single e]
  · refine Finset.sum_congr rfl fun d _ => ?_
    have hv : (finProdFinEquiv (m := 2) (n := 64) (e, d)).val = e.val * 64 + d.val := by
      simp [finProdFinEquiv]; omega
    rw [if_pos (by rw [hv]; omega)]
    exact congrArg f (Fin.ext hv)
  · intro e' _ hne
    refine Finset.sum_eq_zero fun d _ => ?_
    have hv : (finProdFinEquiv (m := 2) (n := 64) (e', d)).val = e'.val * 64 + d.val := by
      simp [finProdFinEquiv]; omega
    rw [if_neg]
    rw [hv]
    intro h'
    exact hne (Fin.ext (by omega))
  · intro h; exact absurd (Finset.mem_univ _) h

end Cert.Hand
-- ==== Proof.Tile.lean ====
/-
  ONE TILE. The block that a grid point writes holds the attention of its 128 queries, for its pair of heads.
-/
module

public import proofs.«01_k».proof.Proof.Attend
public import proofs.«01_k».proof.Proof.Spec
import Idealize.ShloMosaic.Lib.Pointwise

@[expose] public section

noncomputable section

namespace Cert.KernelIdeal.Hand

open Cert.KernelIdeal Cert.KernelIdeal.Gen Idealize.ShloMosaic Idealize.ShloMosaic.TcCoe Cert.Hand

/-- Lane `l` of pair `hp` among the 512. -/
def pairLane (hp : Fin 4) (l : Fin 128) : Fin 512 := ⟨hp.val * 128 + l.val, by omega⟩

/-- Head `e` of pair `hp`. -/
def headOf (hp : Fin 4) (e : Fin 2) : Fin 8 := ⟨hp.val * 2 + e.val, by omega⟩

theorem lane_headOf (hp : Fin 4) (e : Fin 2) (d : Fin 64) : pairLane hp ⟨e.val * 64 + d.val, by omega⟩ = lane (headOf hp e) d :=
  Fin.ext (by show hp.val * 128 + (e.val * 64 + d.val) = (hp.val * 2 + e.val) * 64 + d.val; omega)

/-- The position of a tile's query. -/
def at_ {t0 : ℕ} (ht : t0 + 128 ≤ 4096) (r : Fin 128) : Fin 4096 := ⟨t0 + r.val, by omega⟩

/-- The blocks that a grid point reads, as parts of the real arrays. -/
structure Reads (A : Arrays) (b hp : Fin 4) (x0 : Vec Ideal S1x128x128 .f32) (x1 x2 : Vec Ideal S1x4096x128 .bf16)
    (x3 : Vec Ideal S1x16x128 .f32) {t0 : ℕ} (ht : t0 + 128 ≤ 4096) : Prop where
  q : ∀ r l : Fin 128, x0 (ix3 0 r l) = ((A.q b (at_ ht r) (pairLane hp l) : ℝ) : EReal)
  k : ∀ (k : Fin 4096) (l : Fin 128), x1 (ix3 0 k l) = ((A.k b k (pairLane hp l) : ℝ) : EReal)
  v : ∀ (k : Fin 4096) (l : Fin 128), x2 (ix3 0 k l) = ((A.v b k (pairLane hp l) : ℝ) : EReal)
  km : ∀ (n : Fin 16) (l : Fin 128), x3 (ix3 0 n l) = ((A.km b n (pairLane hp l) : ℝ) : EReal)

variable (A : Arrays) (b hp : Fin 4) {t0 : ℕ} (ht : t0 + 128 ≤ 4096) {L : ℕ} (hs : Sides L) (hL : L ≤ 4096)
  (x0 : Vec Ideal S1x128x128 .f32) (x1 x2 : Vec Ideal S1x4096x128 .bf16) (x3 : Vec Ideal S1x16x128 .f32)

variable {A b hp x0 x1 x2 x3}

theorem headq_apply (R : Reads A b hp x0 x1 x2 x3 ht) (e : Fin 2) (r l : Fin 128) :
    headq (BitVec.ofNat 32 e.val) (scaled x0) (ix2 r l)
      = ((if l.val / 64 = e.val then A.q b (at_ ht r) (pairLane hp l) * (1 / 8) else 0 : ℝ) : EReal) := by
  have hsc : scaled (F := Ideal) x0 (ix2 r l) = ((A.q b (at_ ht r) (pairLane hp l) * (1 / 8) : ℝ) : EReal) := by
    pointwise [scaled]
    rw [R.q, lit_scale, EReal.coe_mul]
  show Scalar.select (lanes (BitVec.ofNat 32 e.val) (ix2 r l)) (scaled x0 (ix2 r l)) (Ideal.ofBits .f32 0x00000000#32) = _
  rw [lanes_apply e.isLt, hsc, Ideal.ofBits_zero_f32]
  by_cases h : l.val / 64 = e.val <;> simp [h, Scalar.select]

/-- A dot product over the pair's lanes with one head's queries is that head's. -/
theorem dot_head (R : Reads A b hp x0 x1 x2 x3 ht) (e : Fin 2) (r : Fin 128) (y : Fin 512 → ℝ) :
    ∑ l : Fin 128, headq (BitVec.ofNat 32 e.val) (scaled x0) (ix2 r l) * ((y (pairLane hp l) : ℝ) : EReal)
      = (((∑ d : Fin 64, A.q b (at_ ht r) (lane (headOf hp e) d) * y (lane (headOf hp e) d)) * (1 / 8) : ℝ) : EReal) := by
  simp only [headq_apply ht R, ← EReal.coe_mul, ← coe_sum]
  congr 1
  rw [Finset.sum_congr rfl fun l _ => ite_zero_mul (l.val / 64 = e.val) (A.q b (at_ ht r) (pairLane hp l) * (1 / 8)) (y (pairLane hp l)),
    sum_lanes e (fun l => A.q b (at_ ht r) (pairLane hp l) * (1 / 8) * y (pairLane hp l)), Finset.sum_mul]
  refine Finset.sum_congr rfl fun d _ => ?_
  rw [lane_headOf]; ring

theorem gates_apply (R : Reads A b hp x0 x1 x2 x3 ht) (e : Fin 2) (r : Fin 128) (n : Fin 16) :
    gates (past Ideal (BitVec.ofNat 32 t0)) (headq (BitVec.ofNat 32 e.val) (scaled x0)) (shapeCast S16x128 x3 shapeCasts_S1x16x128_S16x128)
        (ix2 r n)
      = if n.val < (t0 + r.val) / 256
        then (((∑ d : Fin 64, A.q b (at_ ht r) (lane (headOf hp e) d) * A.km b n (lane (headOf hp e) d)) * (1 / 8) : ℝ) : EReal) else ⊥ := by
  pointwise [gates]
  rw [past_apply ht, lit_mask]
  simp only [R.km, headq_apply ht R, ← EReal.coe_sub, sub_self, EReal.coe_zero, mul_zero, zero_mul, Finset.sum_const_zero, add_zero]
  have := dot_head ht R e r (fun w => A.km b n w)
  simp only [headq_apply ht R] at this
  rw [this]
  by_cases h : n.val < (t0 + r.val) / 256 <;> simp [h, Scalar.select]

theorem rank_gates (R : Reads A b hp x0 x1 x2 x3 ht) (e : Fin 2) (r : Fin 128) :
    rank (fun n => gates (past Ideal (BitVec.ofNat 32 t0)) (headq (BitVec.ofNat 32 e.val) (scaled x0))
        (shapeCast S16x128 x3 shapeCasts_S1x16x128_S16x128) (ix2 r n)) = rank (gate A b (headOf hp e) (at_ ht r)) := by
  refine rank_congr _ fun n n' => ?_
  simp only [gates_apply ht R, gate]
  show _ ↔ (if n.val < (t0 + r.val) / 256 then _ else _) < (if n'.val < (t0 + r.val) / 256 then _ else _)
  by_cases h : n.val < (t0 + r.val) / 256 <;> by_cases h' : n'.val < (t0 + r.val) / 256 <;>
    simp only [h, h', if_true, if_false, EReal.coe_lt_coe_iff, EReal.bot_lt_coe, not_lt_bot, lt_irrefl]
  exact mul_lt_mul_iff_left₀ (by norm_num)

include hL in
theorem headOut_apply (R : Reads A b hp x0 x1 x2 x3 ht) (hpre : ∀ r : Fin 128, t0 + r.val < L) (e : Fin 2) (r : Fin 128) (d : Fin 64) :
    headOut hs (BitVec.ofNat 32 t0) (BitVec.ofNat 32 e.val) x0 x1 x2 x3 (ix2 r ⟨e.val * 64 + d.val, by omega⟩)
      = ((attn A b (headOf hp e) (at_ ht r) d : ℝ) : EReal) := by
  have hrow : ∀ (x : Vec Ideal S1x4096x128 .bf16) (j : Fin L) (l : Fin 128), rows hs x (ix2 j l) = x (ix3 0 (Fin.castLE hL j) l) :=
    fun x j l => by
      unfold rows
      rw [shapeCast_dropUnit_apply]
      exact congrArg x (funext fun a => by
        match a with
        | ⟨0, _⟩ => rfl
        | ⟨1, _⟩ => exact Fin.ext (Nat.zero_add _)
        | ⟨2, _⟩ => exact Fin.ext (Nat.zero_add _))
  have hop : ∀ n : Fin 16, closed3 (past Ideal (BitVec.ofNat 32 t0))
      (gates (past Ideal (BitVec.ofNat 32 t0)) (headq (BitVec.ofNat 32 e.val) (scaled x0)) (shapeCast S16x128 x3 shapeCasts_S1x16x128_S16x128))
      (closed0 (BitVec.ofNat 32 t0)) (ix2 r n) = if Open A b (headOf hp e) (at_ ht r) n.val then 0 else ⊥ := fun n => by
    rw [closed3_apply ht _ r (fun n => ?_), rank_gates ht R]
    rotate_left
    · rw [gates_apply ht R]
      split
      · next h => exact ⟨fun _ => EReal.coe_ne_bot _, fun _ => h⟩
      · next h => exact ⟨fun h' => absurd h' h, fun h' => absurd rfl h'⟩
    refine if_congr ?_ rfl rfl
    unfold Open
    have hn : (∃ hn : n.val < 16, rank (gate A b (headOf hp e) (at_ ht r)) ⟨n.val, hn⟩ < 3) ↔ rank (gate A b (headOf hp e) (at_ ht r)) n < 3 :=
      ⟨fun ⟨_, h⟩ => h, fun h => ⟨n.isLt, h⟩⟩
    rw [hn]
    rfl
  unfold headOut
  rw [mixed_apply hs _ _ r _ (fun j : Fin L => Allowed A b (headOf hp e) (at_ ht r) (Fin.castLE hL j))
    ⟨⟨t0 + r.val, hpre r⟩, allowed_self A b (headOf hp e) (at_ ht r)⟩
    (fun j => score A b (headOf hp e) (at_ ht r) (Fin.castLE hL j)) (fun j => A.v b (Fin.castLE hL j) (lane (headOf hp e) d))]
  · rw [attn, mean_prefix hL (Allowed A b (headOf hp e) (at_ ht r)) (score A b (headOf hp e) (at_ ht r))
      (fun k => A.v b k (lane (headOf hp e) d)) (fun k hk => lt_of_le_of_lt hk.1 (hpre r))]
  · intro j
    rw [scores_apply ht hs hL _ _ _ r (fun j => score A b (headOf hp e) (at_ ht r) (Fin.castLE hL j)) ?_
      (Open A b (headOf hp e) (at_ ht r)) hop]
    · exact if_congr Iff.rfl rfl rfl
    · intro j
      simp only [hrow, R.k]
      exact dot_head ht R e r (fun w => A.k b (Fin.castLE hL j) w)
  · intro j
    rw [hrow, R.v, lane_headOf]

include hL in
/-- What a grid point writes: the attention of its queries. -/
theorem blockOut_apply (R : Reads A b hp x0 x1 x2 x3 ht) (hpre : ∀ r : Fin 128, t0 + r.val < L) (e : Fin 2) (r : Fin 128) (d : Fin 64) :
    blockOut hs (BitVec.ofNat 32 t0) x0 x1 x2 x3 (ix3 0 r ⟨e.val * 64 + d.val, by omega⟩)
      = ((attn A b (headOf hp e) (at_ ht r) d : ℝ) : EReal) := by
  rw [← headOut_apply ht hs hL R hpre]
  unfold blockOut
  pointwise
  rw [show (0#32) = BitVec.ofNat 32 0 from rfl, lanes_apply (by decide)]
  have hl : (e.val * 64 + d.val) / 64 = e.val := by omega
  simp only [hl]
  match e with
  | ⟨0, _⟩ => rfl
  | ⟨1, _⟩ => rfl

end Cert.KernelIdeal.Hand
-- ==== Proof.Final.lean ====
/-
  THE KERNEL'S RESULT. Every grid point's block of the result holds the attention of its queries, and the blocks cover the array.
-/
module

public import proofs.«01_k».proof.Proof.Cases
public import proofs.«01_k».proof.Proof.Tile

@[expose] public section

noncomputable section

namespace Cert.KernelIdeal.Hand

open Cert.KernelIdeal Cert.KernelIdeal.Gen Cert.KernelIdeal.Value Idealize.ShloMosaic Idealize.ShloMosaic.TcCoe Idealize.SL.Sem Cert.Hand

/-- The real arrays of three argument arrays: the first 512 lanes of `a` are the queries; `kv` holds keys, then values. -/
def arrays (a : S4x4096x1536.Idx → EReal) (kv : S4x4096x1024.Idx → EReal) (km : S4x16x512.Idx → EReal) : Arrays where
  q b t w := (a (ix3 b t ⟨w.val, by omega⟩)).toReal
  k b t w := (kv (ix3 b t ⟨w.val, by omega⟩)).toReal
  v b t w := (kv (ix3 b t ⟨512 + w.val, by omega⟩)).toReal
  km b n w := (km (ix3 b n w)).toReal

/-- Every entry is a real number. -/
def Finite {s : Shape} (x : s.Idx → EReal) : Prop := ∀ i, x i = ((x i).toReal : EReal)

/-- The result array: at batch, position and lane the attention of that head. -/
def result (A : Arrays) : S4x4096x512.Idx → EReal := fun j =>
  ((attn A (j 0) ⟨(j 2).val / 64, by have : (j 2).val < 512 := (j 2).isLt; omega⟩ (j 1) ⟨(j 2).val % 64, by omega⟩ : ℝ) : EReal)

/-- The grid's coordinates: batch, pair of heads, tile. -/
theorem coord2 : ∀ t : Fin cfg0.N, ((grid0.coords t) 2).val = t.val % 32 := (by decide +kernel : ∀ t : Fin grid0.N, _)

theorem index0 : ∀ t : Fin cfg0.N, win0_0.index t (0 : Fin 3) = t.val / 128 ∧ win0_0.index t (1 : Fin 3) = t.val % 32
    ∧ win0_0.index t (2 : Fin 3) = t.val / 32 % 4 := (by decide +kernel : ∀ t : Fin grid0.N, _)

theorem index1 : ∀ t : Fin cfg0.N, win0_1.index t (0 : Fin 3) = t.val / 128 ∧ win0_1.index t (1 : Fin 3) = 0
    ∧ win0_1.index t (2 : Fin 3) = t.val / 32 % 4 := (by decide +kernel : ∀ t : Fin grid0.N, _)

theorem index2 : ∀ t : Fin cfg0.N, win0_2.index t (0 : Fin 3) = t.val / 128 ∧ win0_2.index t (1 : Fin 3) = 0
    ∧ win0_2.index t (2 : Fin 3) = 4 + t.val / 32 % 4 := (by decide +kernel : ∀ t : Fin grid0.N, _)

theorem index3 : ∀ t : Fin cfg0.N, win0_3.index t (0 : Fin 3) = t.val / 128 ∧ win0_3.index t (1 : Fin 3) = 0
    ∧ win0_3.index t (2 : Fin 3) = t.val / 32 % 4 := (by decide +kernel : ∀ t : Fin grid0.N, _)

theorem index4 : ∀ t : Fin cfg0.N, win0_4.index t (0 : Fin 3) = t.val / 128 ∧ win0_4.index t (1 : Fin 3) = t.val % 32
    ∧ win0_4.index t (2 : Fin 3) = t.val / 32 % 4 := (by decide +kernel : ∀ t : Fin grid0.N, _)

theorem tileBase_eq (t : Fin cfg0.N) : tileBase (grid0.coords t) = BitVec.ofNat 32 (t.val % 32 * 128) := by
  unfold tileBase
  rw [coord2]
  have : ∀ n : Fin 32, Scalar.addi 0#32 (Scalar.muli (BitVec.ofNat 32 n.val) 128#32) = BitVec.ofNat 32 (n.val * 128) := by decide
  exact this ⟨t.val % 32, by omega⟩

section
variable (t : Fin cfg0.N)

theorem lt_N : t.val < 512 := t.isLt

/-- A point's batch, pair of heads and first position. -/
def bOf : Fin 4 := ⟨t.val / 128, by have := lt_N t; omega⟩
def hpOf : Fin 4 := ⟨t.val / 32 % 4, by omega⟩
theorem tile_le : t.val % 32 * 128 + 128 ≤ 4096 := by omega

theorem emb0 (r l : Fin 128) : ((cfg0.win 0).blk t).view.emb (ix3 0 r l : S1x128x128.Idx)
    = (ix3 (bOf t) (at_ (tile_le t) r) ⟨(pairLane (hpOf t) l).val, by omega⟩ : S4x4096x1536.Idx) := by
  obtain ⟨e0, e1, e2⟩ := index0 t
  funext a; apply Fin.ext
  match a with
  | ⟨0, _⟩ => show win0_0.index t (0 : Fin 3) * 1 + 1 * 0 = t.val / 128; omega
  | ⟨1, _⟩ => show win0_0.index t (1 : Fin 3) * 128 + 1 * r.val = t.val % 32 * 128 + r.val; omega
  | ⟨2, _⟩ => show win0_0.index t (2 : Fin 3) * 128 + 1 * l.val = t.val / 32 % 4 * 128 + l.val; omega

theorem emb1 (k : Fin 4096) (l : Fin 128) : ((cfg0.win 1).blk t).view.emb (ix3 0 k l : S1x4096x128.Idx)
    = (ix3 (bOf t) k ⟨(pairLane (hpOf t) l).val, by omega⟩ : S4x4096x1024.Idx) := by
  obtain ⟨e0, e1, e2⟩ := index1 t
  funext a; apply Fin.ext
  match a with
  | ⟨0, _⟩ => show win0_1.index t (0 : Fin 3) * 1 + 1 * 0 = t.val / 128; omega
  | ⟨1, _⟩ => show win0_1.index t (1 : Fin 3) * 4096 + 1 * k.val = k.val; omega
  | ⟨2, _⟩ => show win0_1.index t (2 : Fin 3) * 128 + 1 * l.val = t.val / 32 % 4 * 128 + l.val; omega

theorem emb2 (k : Fin 4096) (l : Fin 128) : ((cfg0.win 2).blk t).view.emb (ix3 0 k l : S1x4096x128.Idx)
    = (ix3 (bOf t) k ⟨512 + (pairLane (hpOf t) l).val, by omega⟩ : S4x4096x1024.Idx) := by
  obtain ⟨e0, e1, e2⟩ := index2 t
  funext a; apply Fin.ext
  match a with
  | ⟨0, _⟩ => show win0_2.index t (0 : Fin 3) * 1 + 1 * 0 = t.val / 128; omega
  | ⟨1, _⟩ => show win0_2.index t (1 : Fin 3) * 4096 + 1 * k.val = k.val; omega
  | ⟨2, _⟩ => show win0_2.index t (2 : Fin 3) * 128 + 1 * l.val = 512 + (t.val / 32 % 4 * 128 + l.val); omega

theorem emb3 (n : Fin 16) (l : Fin 128) : ((cfg0.win 3).blk t).view.emb (ix3 0 n l : S1x16x128.Idx)
    = (ix3 (bOf t) n (pairLane (hpOf t) l) : S4x16x512.Idx) := by
  obtain ⟨e0, e1, e2⟩ := index3 t
  funext a; apply Fin.ext
  match a with
  | ⟨0, _⟩ => show win0_3.index t (0 : Fin 3) * 1 + 1 * 0 = t.val / 128; omega
  | ⟨1, _⟩ => show win0_3.index t (1 : Fin 3) * 16 + 1 * n.val = n.val; omega
  | ⟨2, _⟩ => show win0_3.index t (2 : Fin 3) * 128 + 1 * l.val = t.val / 32 % 4 * 128 + l.val; omega

theorem emb4 (r l : Fin 128) : ((cfg0.win 4).blk t).view.emb (ix3 0 r l : S1x128x128.Idx)
    = (ix3 (bOf t) (at_ (tile_le t) r) (pairLane (hpOf t) l) : S4x4096x512.Idx) := by
  obtain ⟨e0, e1, e2⟩ := index4 t
  funext a; apply Fin.ext
  match a with
  | ⟨0, _⟩ => show win0_4.index t (0 : Fin 3) * 1 + 1 * 0 = t.val / 128; omega
  | ⟨1, _⟩ => show win0_4.index t (1 : Fin 3) * 128 + 1 * r.val = t.val % 32 * 128 + r.val; omega
  | ⟨2, _⟩ => show win0_4.index t (2 : Fin 3) * 128 + 1 * l.val = t.val / 32 % 4 * 128 + l.val; omega

end

variable (m : (ℓ : Loc nD τ sig) → Buf (Elt Ideal) ℓ) (c : Dev nD)

/-- The real arrays that the kernel was launched on. -/
def launched : Arrays :=
  arrays (m ((c : Thread nD τ).loc main_arg0)) (m ((c : Thread nD τ).loc main_arg1)) (m ((c : Thread nD τ).loc main_arg2))

/-- The launched arguments are finite. -/
structure Fin3 : Prop where
  a0 : Finite (s := S4x4096x1536) (m ((c : Thread nD τ).loc main_arg0))
  a1 : Finite (s := S4x4096x1024) (m ((c : Thread nD τ).loc main_arg1))
  a2 : Finite (s := S4x16x512) (m ((c : Thread nD τ).loc main_arg2))

variable {m c}

/-- A point's input blocks are parts of the real arrays. -/
theorem reads (hf : Fin3 m c) (t : Fin cfg0.N) :
    Reads (launched m c) (bOf t) (hpOf t) (iblk m c 0 t) (iblk m c 1 t) (iblk m c 2 t) (iblk m c 3 t) (tile_le t) where
  q r l := by
    show V m c main_arg0 (((cfg0.win 0).blk t).view.emb (ix3 0 r l : S1x128x128.Idx)) = _
    rw [emb0, V_main_arg0]; exact hf.a0 _
  k k l := by
    show V m c main_arg1 (((cfg0.win 1).blk t).view.emb (ix3 0 k l : S1x4096x128.Idx)) = _
    rw [emb1, V_main_arg1]; exact hf.a1 _
  v k l := by
    show V m c main_arg1 (((cfg0.win 2).blk t).view.emb (ix3 0 k l : S1x4096x128.Idx)) = _
    rw [emb2, V_main_arg1]; exact hf.a1 _
  km n l := by
    show V m c main_arg2 (((cfg0.win 3).blk t).view.emb (ix3 0 n l : S1x16x128.Idx)) = _
    rw [emb3, V_main_arg2]; exact hf.a2 _

variable (m c)

/-- Whatever its case, a point writes back the body at the prefix length that its tile needs. -/
theorem flushed_body (t : Fin cfg0.N) : ∃ (L : ℕ) (hs : Sides L), L ≤ 4096 ∧ (∀ r : Fin 128, t.val % 32 * 128 + r.val < L) ∧
    (dats m 0 c).flushed 4 t = (cfg0.win 4).cut (grid0.coords t)
      (blockOut hs (tileBase (grid0.coords t)) (iblk m c 0 t) (iblk m c 1 t) (iblk m c 2 t) (iblk m c 3 t)) := by
  have h : t.val % 32 / 4 = 0 ∨ t.val % 32 / 4 = 1 ∨ t.val % 32 / 4 = 2 ∨ t.val % 32 / 4 = 3 ∨ t.val % 32 / 4 = 4 ∨ t.val % 32 / 4 = 5
    ∨ t.val % 32 / 4 = 6 ∨ t.val % 32 / 4 = 7 := by omega
  rcases h with h | h | h | h | h | h | h | h
  · exact ⟨_, sides512, by omega, fun r => by omega, by
      rw [flushed4_A m c t (by omega) (by omega) (by omega) (by omega) (by omega) (by omega) (by omega) (by omega), out_A]⟩
  · exact ⟨_, sides1024, by omega, fun r => by omega, by
      rw [flushed4_B m c t (by omega) (by omega) (by omega) (by omega) (by omega) (by omega) (by omega) (by omega), out_B]⟩
  · exact ⟨_, sides1536, by omega, fun r => by omega, by
      rw [flushed4_C m c t (by omega) (by omega) (by omega) (by omega) (by omega) (by omega) (by omega) (by omega), out_C]⟩
  · exact ⟨_, sides2048, by omega, fun r => by omega, by
      rw [flushed4_D m c t (by omega) (by omega) (by omega) (by omega) (by omega) (by omega) (by omega) (by omega), out_D]⟩
  · exact ⟨_, sides2560, by omega, fun r => by omega, by
      rw [flushed4_E m c t (by omega) (by omega) (by omega) (by omega) (by omega) (by omega) (by omega) (by omega), out_E]⟩
  · exact ⟨_, sides3072, by omega, fun r => by omega, by
      rw [flushed4_F m c t (by omega) (by omega) (by omega) (by omega) (by omega) (by omega) (by omega) (by omega), out_F]⟩
  · exact ⟨_, sides3584, by omega, fun r => by omega, by
      rw [flushed4_G m c t (by omega) (by omega) (by omega) (by omega) (by omega) (by omega) (by omega) (by omega), out_G]⟩
  · exact ⟨_, sides4096, by omega, fun r => by omega, by
      rw [flushed4_H m c t (by omega) (by omega) (by omega) (by omega) (by omega) (by omega) (by omega) (by omega), out_H]⟩

variable {m c}

/-- What a point writes back is its block of the result. -/
theorem flushed_eq (hf : Fin3 m c) (t : Fin cfg0.N) :
    (dats m 0 c).flushed 4 t = ((cfg0.win 4).blk t).view.read (Elt Ideal) (result (launched m c)) := by
  obtain ⟨L, hs, hL, hpre, e⟩ := flushed_body m c t
  rw [e, tileBase_eq]
  funext j
  show @Eq EReal (blockOut hs (BitVec.ofNat 32 (t.val % 32 * 128)) (iblk m c 0 t) (iblk m c 1 t) (iblk m c 2 t) (iblk m c 3 t) j)
    (result (launched m c) (((cfg0.win 4).blk t).view.emb j))
  have hj0 : (j 0).val < 1 := (j 0).isLt
  have hj2 : (j 2).val < 128 := (j 2).isLt
  obtain ⟨r, l, rfl⟩ : ∃ (r l : Fin 128), j = (ix3 0 r l : S1x128x128.Idx) := ⟨j 1, j 2, funext fun a => by
    match a with
    | ⟨0, _⟩ => exact Fin.ext (by show (j 0).val = 0; omega)
    | ⟨1, _⟩ => rfl
    | ⟨2, _⟩ => rfl⟩
  rw [emb4]
  have key := blockOut_apply (tile_le t) hs hL (reads hf t) hpre ⟨l.val / 64, by omega⟩ r ⟨l.val % 64, by omega⟩
  have el : (⟨(⟨l.val / 64, by omega⟩ : Fin 2).val * 64 + (⟨l.val % 64, by omega⟩ : Fin 64).val, by show l.val / 64 * 64 + l.val % 64 < 128; omega⟩ : Fin 128) = l :=
    Fin.ext (by show l.val / 64 * 64 + l.val % 64 = l.val; omega)
  rw [el] at key
  rw [key]
  unfold result
  congr 2
  · exact Fin.ext (by show t.val / 32 % 4 * 2 + l.val / 64 = (t.val / 32 % 4 * 128 + l.val) / 64; omega)
  · exact Fin.ext (by show l.val % 64 = (t.val / 32 % 4 * 128 + l.val) % 64; omega)

/-- Every index of the result is in some point's block. -/
theorem covered (i : S4x4096x512.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 512 := (i 2).isLt
  let t : Fin cfg0.N := ⟨((i 0).val * 4 + (i 2).val / 128) * 32 + (i 1).val / 128, by show _ < 512; omega⟩
  refine ⟨t, flush0_4 t, ?_⟩
  have e := ((cfg0.win 4).blk t).view.emb_mem_set (ix3 0 ⟨(i 1).val % 128, by omega⟩ ⟨(i 2).val % 128, by omega⟩ : S1x128x128.Idx)
  rw [emb4] at e
  refine (congrArg (· ∈ ((cfg0.win 4).blk t).view.set) ?_).mp e
  funext a; apply Fin.ext
  match a with
  | ⟨0, _⟩ => show (((i 0).val * 4 + (i 2).val / 128) * 32 + (i 1).val / 128) / 128 = (i 0).val; omega
  | ⟨1, _⟩ => show (((i 0).val * 4 + (i 2).val / 128) * 32 + (i 1).val / 128) % 32 * 128 + (i 1).val % 128 = (i 1).val; omega
  | ⟨2, _⟩ => show (((i 0).val * 4 + (i 2).val / 128) * 32 + (i 1).val / 128) / 32 % 4 * 128 + (i 2).val % 128 = (i 2).val; omega

/-- The result array after the run is the attention of the arguments. -/
theorem final (hf : Fin3 m c) : (dats m 0 c).arrAt 4 cfg0.N = result (launched m c) :=
  (dats m 0 c).arrAt_eq_of_cover 4 (result (launched m c)) (fun t _ => flushed_eq hf t) covered

end Cert.KernelIdeal.Hand
-- ==== Proof.Finite.lean ====
/-
  THE PRECONDITION. Where `finite` is true, every entry of the three argument arrays is a real number.
-/
module

public import proofs.«01_k».proof.Pre_finite
public import proofs.«01_k».proof.Proof.Gen.Pre_finite
public import proofs.«01_k».proof.Proof.Final
public import Idealize.ShloMosaic.Lib.ReduceAll

@[expose] public section

noncomputable section

namespace Cert.Pre_finite.Hand

open Cert.Pre_finite Cert.Pre_finite.Gen Idealize.ShloMosaic
open Cert.KernelIdeal.Hand (Finite lit_top)

/-- An extended real whose absolute value is below infinity is a real. -/
theorem real_of_abs_lt (x : EReal) (h : max x (-x) < ⊤) : x = (x.toReal : EReal) := by
  induction x with
  | bot => exact absurd h (by simp)
  | coe r => rfl
  | top => exact absurd h (by simp)

/-- The test of one entry. -/
theorem real_of_olt (x : Ideal .f32) (h : FloatOps.cmpf .olt (FloatOps.hostAbsf x) (FloatOps.ofBits .f32 0x7F800000#32 : Ideal .f32) = 1#1) :
    (x : EReal) = (EReal.toReal x : EReal) := by
  refine real_of_abs_lt x ?_
  have h2 : Ideal.cmp .olt (max (x : EReal) (-(x : EReal))) (Ideal.ofBits .f32 0x7F800000#32) = 1#1 := h
  rw [lit_top] at h2
  by_contra hn
  have : Ideal.cmp .olt (max (x : EReal) (-(x : EReal))) (⊤ : EReal) = 0#1 := by simp [Ideal.cmp, hn]
  rw [this] at h2
  exact absurd h2 (by decide)

instance : Subsingleton S_.Idx := ⟨fun a b => funext fun k => k.elim0⟩

/-- The test of a whole array. -/
theorem real_of_all {s : Shape} {axes : List (Fin s.rank)} (x : FVec Ideal s .f32) (hb : S_.BroadcastsInDim s (![] : Fin 0 → Fin s.rank))
    (hr : s.ReducesTo axes S_) (h0 : 0 < S_.numel) (j : S_.Idx)
    (h : Host.reduce IntOp.andi (cmpf .olt (Host.absf x) (broadcastInDim s ![] hb (constant S_ .f32 0x7F800000#32))) (constantI S_ 1 1#1) hr h0 j = 1#1) :
    Finite (s := s) x := fun i => real_of_olt (x i) (Host.reduce_andi_all _ _ hr h0 j h i)

/-- The whole test. -/
theorem real_of_fn (a0 : FVec Ideal S4x4096x1536 .f32) (a1 : FVec Ideal S4x4096x1024 .bf16) (a2 : FVec Ideal S4x16x512 .f32)
    (h : fn a0 a1 a2 = fun _ => 1#1) : Finite (s := S4x4096x1536) a0 ∧ Finite (s := S4x4096x1024) a1 ∧ Finite (s := S4x16x512) a2 := by
  have hj := congrFun h (fun k => k.elim0)
  obtain ⟨h01, h2⟩ := IntOp.andi_eq_one.1 hj
  obtain ⟨h0, h1⟩ := IntOp.andi_eq_one.1 h01
  exact ⟨real_of_all a0 _ _ _ _ h0, real_of_all (s := S4x4096x1024) (extf .f32 a1 bitsLt_bf16_f32) _ _ _ _ h1, real_of_all a2 _ _ _ _ h2⟩

end Cert.Pre_finite.Hand
-- ==== Proof.Ref.Stages.lean ====
/-
  THE REFERENCE IN STAGES. The reference's operations, gathered into the steps of the text: heads and blocks, gates, selection, gathered
  keys and values, scores, mask, softmax, mixture.
-/
module

public import proofs.«01_k».proof.Proof.Gen.ReferenceIdeal.Run

@[expose] public section

noncomputable section

namespace Cert.ReferenceIdeal.Hand

open Cert.ReferenceIdeal Cert.ReferenceIdeal.Gen Cert.ReferenceIdeal.Value Idealize.ShloMosaic Idealize.ShloMosaic.TcCoe Idealize.SL.Sem

variable {F : FTy → Type} [FloatOps F]

/-- The queries by head. -/
def queries (a : FVec F S4x4096x1536 .f32) : FVec F S4x4096x8x64 .f32 :=
  shapeCast S4x4096x8x64 (extractStridedSlice S4x4096x512 ![0, 0, 0] a slices_S4x4096x1536_S4x4096x512_0_0_0) shapeCasts_S4x4096x512_S4x4096x8x64

/-- The keys by head and block. -/
def keys (a : FVec F S4x4096x1024 .bf16) : FVec F S4x8x16x256x64 .f32 :=
  transpose S4x8x16x256x64 [0, 3, 1, 2, 4]
    (shapeCast S4x16x256x8x64 (extractStridedSlice S4x4096x512 ![0, 0, 0] (extf .f32 a bitsLt_bf16_f32) slices_S4x4096x1024_S4x4096x512_0_0_0)
      shapeCasts_S4x4096x512_S4x16x256x8x64)
    transposes_S4x16x256x8x64_S4x8x16x256x64_0_3_1_2_4

/-- The values by head and block. -/
def vals (a : FVec F S4x4096x1024 .bf16) : FVec F S4x8x16x256x64 .f32 :=
  transpose S4x8x16x256x64 [0, 3, 1, 2, 4]
    (shapeCast S4x16x256x8x64 (extractStridedSlice S4x4096x512 ![0, 0, 512] (extf .f32 a bitsLt_bf16_f32) slices_S4x4096x1024_S4x4096x512_0_0_512)
      shapeCasts_S4x4096x512_S4x16x256x8x64)
    transposes_S4x16x256x8x64_S4x8x16x256x64_0_3_1_2_4

/-- The means by head and block. -/
def means (a : FVec F S4x16x512 .f32) : FVec F S4x8x16x64 .f32 :=
  transpose S4x8x16x64 [0, 2, 1, 3] (shapeCast S4x16x8x64 a shapeCasts_S4x16x512_S4x16x8x64) transposes_S4x16x8x64_S4x8x16x64_0_2_1_3

/-- The number 256, and the positions. -/
def width : IVec S_ 32 := id (constantI S_ 32 256#32)
def places : IVec S4096 32 := iotaInDim S4096 32 0
def spread (x : IVec S_ 32) : IVec S4096 32 := broadcastInDim S4096 ![] bcast_S_S4096 x

/-- The block that a position lies in: division rounding down. -/
def own : IVec S4096 32 :=
  select
    (andi (cmpi .ne (signi places) (spread (signi width)))
      (cmpi .ne (Host.remsi places (spread width)) (spread (constantI S_ 32 0#32))))
    (subi (Host.divsi places (spread width)) (spread (constantI S_ 32 1#32)))
    (Host.divsi places (spread width))

/-- The gates: −∞ at blocks that are not past. -/
def gates (q : FVec F S4x4096x8x64 .f32) (km : FVec F S4x8x16x64 .f32) : FVec F S4x8x4096x16 .f32 :=
  select
    (broadcastInDim S4x8x4096x16 ![0, 1, 2, 3] bcast_S1x1x4096x16_S4x8x4096x16_0_1_2_3
      (broadcastInDim S1x1x4096x16 ![2, 3] bcast_S4096x16_S1x1x4096x16_2_3
        (cmpi .slt
          (broadcastInDim S4096x16 ![0, 1] bcast_S1x16_S4096x16_0_1 (broadcastInDim S1x16 ![1] bcast_S16_S1x16_1 (iotaInDim S16 32 0)))
          (broadcastInDim S4096x16 ![0, 1] bcast_S4096x1_S4096x16_0_1 (broadcastInDim S4096x1 ![0] bcast_S4096_S4096x1_0 own)))))
    (Host.dotGeneral dot_S4x4096x8x64_S4x8x16x64_S4x8x4096x16_3_3_1_2_02_01 none q km)
    (broadcastInDim S4x8x4096x16 ![] bcast_S_S4x8x4096x16 (id (constant S_ .f32 0xFF800000#32)))

/-- The three selected blocks. -/
def sel (g : FVec F S4x8x4096x16 .f32) : IVec S4x8x4096x3 32 :=
  (Host.topK S4x8x4096x3 3 (FloatOps.cmpfTotal .gt) g sliceFits_S4x8x4096x16_S4x8x4096x3).2

/-- Which of them are past. -/
def selOk (s : IVec S4x8x4096x3 32) : IVec S4x8x4096x3 1 :=
  cmpi .slt s
    (broadcastInDim S4x8x4096x3 ![0, 1, 2, 3] bcast_S1x1x4096x1_S4x8x4096x3_0_1_2_3 (broadcastInDim S1x1x4096x1 ![2] bcast_S4096_S1x1x4096x1_2 own))

/-- The selected blocks and the own one. -/
def blocks (s : IVec S4x8x4096x3 32) : IVec S4x8x4096x4 32 :=
  concatenate S4x8x4096x4 3
    [⟨S4x8x4096x3, s⟩,
     ⟨S4x8x4096x1, broadcastInDim S4x8x4096x1 ![0, 1, 2, 3] bcast_S1x1x4096x1_S4x8x4096x1_0_1_2_3
        (broadcastInDim S1x1x4096x1 ![2] bcast_S4096_S1x1x4096x1_2 own)⟩]
    concatenates_S4x8x4096x3_S4x8x4096x1_S4x8x4096x4_d3

/-- A negative index counts from the end: the batch's, the head's and the block's index. -/
def batchIx : IVec S4x1x1x1 32 := broadcastInDim S4x1x1x1 ![0] bcast_S4_S4x1x1x1_0 (iotaInDim S4 32 0)
def headIx : IVec S1x8x1x1 32 := broadcastInDim S1x8x1x1 ![1] bcast_S8_S1x8x1x1_1 (iotaInDim S8 32 0)
def batchAt : IVec S4x1x1x1 32 :=
  select (cmpi .slt batchIx (broadcastInDim S4x1x1x1 ![] bcast_S_S4x1x1x1 (constantI S_ 32 0#32)))
    (addi batchIx (broadcastInDim S4x1x1x1 ![] bcast_S_S4x1x1x1 (constantI S_ 32 4#32))) batchIx
def headAt : IVec S1x8x1x1 32 :=
  select (cmpi .slt headIx (broadcastInDim S1x8x1x1 ![] bcast_S_S1x8x1x1 (constantI S_ 32 0#32)))
    (addi headIx (broadcastInDim S1x8x1x1 ![] bcast_S_S1x8x1x1 (constantI S_ 32 8#32))) headIx
def blockAt (b : IVec S4x8x4096x4 32) : IVec S4x8x4096x4 32 :=
  select (cmpi .slt b (broadcastInDim S4x8x4096x4 ![] bcast_S_S4x8x4096x4 (constantI S_ 32 0#32)))
    (addi b (broadcastInDim S4x8x4096x4 ![] bcast_S_S4x8x4096x4 (constantI S_ 32 16#32))) b

/-- The three indices of a gathered block. -/
def indices (b : IVec S4x8x4096x4 32) : IVec S4x8x4096x4x3 32 :=
  concatenate S4x8x4096x4x3 4
    [⟨S4x8x4096x4x1, broadcastInDim S4x8x4096x4x1 ![0, 1, 2, 3] bcast_S4x8x4096x4_S4x8x4096x4x1_0_1_2_3
        (broadcastInDim S4x8x4096x4 ![0, 1, 2, 3] bcast_S4x1x1x1_S4x8x4096x4_0_1_2_3 batchAt)⟩,
     ⟨S4x8x4096x4x1, broadcastInDim S4x8x4096x4x1 ![0, 1, 2, 3] bcast_S4x8x4096x4_S4x8x4096x4x1_0_1_2_3
        (broadcastInDim S4x8x4096x4 ![0, 1, 2, 3] bcast_S1x8x1x1_S4x8x4096x4_0_1_2_3 headAt)⟩,
     ⟨S4x8x4096x4x1, broadcastInDim S4x8x4096x4x1 ![0, 1, 2, 3] bcast_S4x8x4096x4_S4x8x4096x4x1_0_1_2_3 (blockAt b)⟩]
    concatenates_S4x8x4096x4x1_S4x8x4096x4x1_S4x8x4096x4x1_S4x8x4096x4x3_d4

/-- The gathered blocks of keys or values. -/
def gathered (x : FVec F S4x8x16x256x64 .f32) (i : IVec S4x8x4096x4x3 32) : FVec F S4x8x4096x4x256x64 .f32 :=
  Host.gather gather_S4x8x16x256x64_S4x8x4096x4x3_S4x8x4096x4x256x64_45_012_n_n_012_4_11125664 x i

/-- The scaled scores. -/
def scores (q : FVec F S4x4096x8x64 .f32) (k : FVec F S4x8x4096x4x256x64 .f32) : FVec F S4x8x4096x4x256 .f32 :=
  mulf (Host.dotGeneral dot_S4x4096x8x64_S4x8x4096x4x256x64_S4x8x4096x4x256_3_5_n_34_021_012 none q k)
    (broadcastInDim S4x8x4096x4x256 ![] bcast_S_S4x8x4096x4x256 (constant S_ .f32 0x3E000000#32))

/-- Whether a key of the own block is not later than the query. -/
def causal (b : IVec S4x8x4096x4 32) : IVec S4x8x4096x1x256 1 :=
  cmpi .sle
    (addi
      (broadcastInDim S4x8x4096x1x256 ![0, 1, 2, 3, 4] bcast_S4x8x4096x1x1_S4x8x4096x1x256_0_1_2_3_4
        (muli
          (broadcastInDim S4x8x4096x1x1 ![0, 1, 2, 3] bcast_S4x8x4096x1_S4x8x4096x1x1_0_1_2_3
            (extractStridedSlice S4x8x4096x1 ![0, 0, 0, 3] b slices_S4x8x4096x4_S4x8x4096x1_0_0_0_3))
          (broadcastInDim S4x8x4096x1x1 ![] bcast_S_S4x8x4096x1x1 (constantI S_ 32 256#32))))
      (broadcastInDim S4x8x4096x1x256 ![0, 1, 2, 3, 4] bcast_S1x1x1x1x256_S4x8x4096x1x256_0_1_2_3_4
        (broadcastInDim S1x1x1x1x256 ![4] bcast_S256_S1x1x1x1x256_4 (iotaInDim S256 32 0))))
    (broadcastInDim S4x8x4096x1x256 ![0, 1, 2, 3, 4] bcast_S1x1x4096x1x1_S4x8x4096x1x256_0_1_2_3_4
      (broadcastInDim S1x1x4096x1x1 ![2] bcast_S4096_S1x1x4096x1x1_2 places))

/-- Whether a gathered key is seen. -/
def seen (s : IVec S4x8x4096x3 32) : IVec S4x8x4096x4x256 1 :=
  concatenate S4x8x4096x4x256 3
    [⟨S4x8x4096x3x256, broadcastInDim S4x8x4096x3x256 ![0, 1, 2, 3, 4] bcast_S4x8x4096x3x1_S4x8x4096x3x256_0_1_2_3_4
        (broadcastInDim S4x8x4096x3x1 ![0, 1, 2, 3] bcast_S4x8x4096x3_S4x8x4096x3x1_0_1_2_3 (selOk s))⟩,
     ⟨S4x8x4096x1x256, causal (blocks s)⟩]
    concatenates_S4x8x4096x3x256_S4x8x4096x1x256_S4x8x4096x4x256_d3

/-- The scores, −∞ at keys that are not seen, in one row per query. -/
def row (ok : IVec S4x8x4096x4x256 1) (x : FVec F S4x8x4096x4x256 .f32) : FVec F S4x8x4096x1024 .f32 :=
  shapeCast S4x8x4096x1024
    (select ok x (broadcastInDim S4x8x4096x4x256 ![] bcast_S_S4x8x4096x4x256 (id (constant S_ .f32 0xFF800000#32))))
    shapeCasts_S4x8x4096x4x256_S4x8x4096x1024

/-- A row's greatest score. -/
def top (x : FVec F S4x8x4096x1024 .f32) : FVec F S4x8x4096 .f32 :=
  maximumf (broadcastInDim S4x8x4096 ![] bcast_S_S4x8x4096 (constant S_ .f32 0xFF800000#32))
    (Host.reduce FloatOps.maximumf x (constant S_ .f32 0xFF800000#32) reducesTo_S4x8x4096x1024_S4x8x4096_d3 h_S_)

/-- One number per row, along the row. -/
def along (x : FVec F S4x8x4096 .f32) : FVec F S4x8x4096x1024 .f32 :=
  broadcastInDim S4x8x4096x1024 ![0, 1, 2, 3] bcast_S4x8x4096x1_S4x8x4096x1024_0_1_2_3
    (broadcastInDim S4x8x4096x1 ![0, 1, 2] bcast_S4x8x4096_S4x8x4096x1_0_1_2 x)

/-- The exponentials. -/
def expo (x : FVec F S4x8x4096x1024 .f32) : FVec F S4x8x4096x1024 .f32 := Host.exp (subf x (along (top x)))

/-- The softmax of a row. -/
def soft (y : FVec F S4x8x4096x1024 .f32) : FVec F S4x8x4096x1024 .f32 :=
  Host.divf y (along (Host.reduceAdd y (constant S_ .f32 0x00000000#32) reducesTo_S4x8x4096x1024_S4x8x4096_d3 h_S_))

/-- The mixture of the gathered values. -/
def mix (p : FVec F S4x8x4096x1024 .f32) (v : FVec F S4x8x4096x4x256x64 .f32) : FVec F S4x4096x512 .f32 :=
  shapeCast S4x4096x512
    (Host.dotGeneral dot_S4x8x4096x4x256_S4x8x4096x4x256x64_S4x4096x8x64_34_34_n_5_021_021 none
      (shapeCast S4x8x4096x4x256 p shapeCasts_S4x8x4096x1024_S4x8x4096x4x256) v)
    shapeCasts_S4x4096x8x64_S4x4096x512

/-- All of it. -/
def whole (a0 : FVec F S4x4096x1536 .f32) (a1 : FVec F S4x4096x1024 .bf16) (a2 : FVec F S4x16x512 .f32) : FVec F S4x4096x512 .f32 :=
  mix
    (soft (expo (row (seen (sel (gates (queries a0) (means a2))))
      (scores (queries a0) (gathered (keys a1) (indices (blocks (sel (gates (queries a0) (means a2))))))))))
    (gathered (vals a1) (indices (blocks (sel (gates (queries a0) (means a2))))))

set_option maxRecDepth 8192 in
theorem res_eq (m : (ℓ : Loc nD τ sig) → Buf (Elt F) ℓ) (c : Dev nD) :
    res_main_v109 m c = whole (m ((c.tc : Thread nD τ).loc main_arg0)) (m ((c.tc : Thread nD τ).loc main_arg1)) (m ((c.tc : Thread nD τ).loc main_arg2)) := by
  rfl

end Cert.ReferenceIdeal.Hand
-- ==== Proof.Ref.Order.lean ====
/-
  THE STABLE SORT ORDERS BY RANK. Sorting positions by "greater first", equal ones in their order, puts each position at its rank.
-/
module

public import proofs.«01_k».proof.Proof.Rank
public import Idealize.ShloMosaic.Lib.SortFacts

@[expose] public section

namespace Cert.Hand

open Idealize.ShloMosaic

variable {N : ℕ} {g : Fin N → EReal} {R : Fin N → Fin N → Bool} (hR : ∀ a b, R a b = true ↔ g b < g a)

include hR

/-- Inserting a position that is earlier than all of an ordered list keeps the list ordered. -/
theorem insert_ordered (a : Fin N) (l : List (Fin N)) (ha : ∀ b ∈ l, a < b) (hl : l.Pairwise (Beats g)) :
    (insertBefore R a l).Pairwise (Beats g) := by
  induction l with
  | nil => exact List.pairwise_singleton _ _
  | cons b l ih =>
    rw [List.pairwise_cons] at hl
    unfold insertBefore
    split
    · next hb =>
      refine List.pairwise_cons.2 ⟨fun c hc => ?_, ih (fun c hc => ha c (List.mem_cons_of_mem b hc)) hl.2⟩
      rcases List.mem_cons.1 ((perm_insertBefore R a l).mem_iff.1 hc) with h | h
      · rw [h]; exact .inl ((hR b a).1 hb)
      · exact hl.1 c h
    · next hb =>
      have hab : Beats g a b := by
        rcases lt_or_eq_of_le (not_lt.1 fun h => hb ((hR b a).2 h)) with h | h
        · exact .inl h
        · exact .inr ⟨h.symm, ha b List.mem_cons_self⟩
      refine List.pairwise_cons.2 ⟨fun c hc => ?_, List.pairwise_cons.2 hl⟩
      rcases List.mem_cons.1 hc with h | h
      · rw [h]; exact hab
      · exact hab.trans g (hl.1 c h)

/-- Sorting a list of ascending positions orders it. -/
theorem sort_ordered (l : List (Fin N)) (hl : l.Pairwise (· < ·)) : (stableSort R l).Pairwise (Beats g) := by
  induction l with
  | nil => exact List.Pairwise.nil
  | cons a l ih =>
    rw [List.pairwise_cons] at hl
    exact insert_ordered hR a _ (fun b hb => hl.1 b ((perm_stableSort R l).mem_iff.1 hb)) (ih hl.2)

/-- The position that the sort puts at `j` has rank `j`. -/
theorem rank_sortedFrom (j : Fin N) : rank g (sortedFrom R j) = j.val := by
  refine rank_sorted g ⟨sortedFrom_injective R, sortedFrom_surjective R⟩ (fun j k hjk h => ?_) j
  have hp := List.pairwise_iff_get.1 (sort_ordered hR (List.finRange N) (List.pairwise_lt_finRange N))
  have := hp (j.cast (length_sortPositions N R).symm) (k.cast (length_sortPositions N R).symm) hjk
  exact Beats.irrefl g _ (this.trans g h)

end Cert.Hand
-- ==== Proof.Ref.Gather.lean ====
/-
  THE GATHERED BLOCKS AND THE SELECTION, READ AT AN INDEX. A gathered entry is the array's entry at the block that the indices name; the
  selected blocks are the first three positions of the stable sort of the gates.
-/
module

public import proofs.«01_k».proof.Proof.Ref.Stages
public import proofs.«01_k».proof.Proof.Ref.Order
public import Idealize.ShloMosaic.Lib.Pointwise

@[expose] public section

noncomputable section

namespace Cert.ReferenceIdeal.Hand

open Cert.ReferenceIdeal Cert.ReferenceIdeal.Gen Idealize.ShloMosaic Idealize.ShloMosaic.TcCoe Cert.Hand

theorem gathered_apply (x : FVec Ideal S4x8x16x256x64 .f32) (i : IVec S4x8x4096x4x3 32) (b : Fin 4) (h : Fin 8) (t : Fin 4096) (j : Fin 4)
    (s : Fin 256) (d : Fin 64) (b' : Fin 4) (h' : Fin 8) (n : Fin 16) (e0 : i (ix5 b h t j 0) = BitVec.ofNat 32 b'.val)
    (e1 : i (ix5 b h t j 1) = BitVec.ofNat 32 h'.val) (e2 : i (ix5 b h t j 2) = BitVec.ofNat 32 n.val) :
    gathered x i (ix6 b h t j s d) = x (ix5 b' h' n s d) := by
  have small : ∀ m : Fin 16, (BitVec.ofNat 32 m.val).toInt.toNat = m.val := by decide
  have at_c : ∀ c : Fin 3, gather_S4x8x16x256x64_S4x8x4096x4x3_S4x8x4096x4x256x64_45_012_n_n_012_4_11125664.siIdx (ix6 b h t j s d) c
      = ix5 b h t j c := fun c => by
    funext a
    match a with
    | ⟨0, _⟩ => rfl
    | ⟨1, _⟩ => rfl
    | ⟨2, _⟩ => rfl
    | ⟨3, _⟩ => rfl
    | ⟨4, _⟩ => rfl
  refine congrArg x (funext fun a => Fin.ext ?_)
  match a with
  | ⟨0, _⟩ =>
    show min (i (gather_S4x8x16x256x64_S4x8x4096x4x3_S4x8x4096x4x256x64_45_012_n_n_012_4_11125664.siIdx (ix6 b h t j s d) (0 : Fin 3))).toInt.toNat 3 + 0 + 0 = b'.val
    rw [at_c, e0, small ⟨b'.val, by omega⟩]; show min b'.val 3 + 0 + 0 = b'.val; omega
  | ⟨1, _⟩ =>
    show min (i (gather_S4x8x16x256x64_S4x8x4096x4x3_S4x8x4096x4x256x64_45_012_n_n_012_4_11125664.siIdx (ix6 b h t j s d) (1 : Fin 3))).toInt.toNat 7 + 0 + 0 = h'.val
    rw [at_c, e1, small ⟨h'.val, by omega⟩]; show min h'.val 7 + 0 + 0 = h'.val; omega
  | ⟨2, _⟩ =>
    show min (i (gather_S4x8x16x256x64_S4x8x4096x4x3_S4x8x4096x4x256x64_45_012_n_n_012_4_11125664.siIdx (ix6 b h t j s d) (2 : Fin 3))).toInt.toNat 15 + 0 + 0 = n.val
    rw [at_c, e2, small n]; omega
  | ⟨3, _⟩ => show 0 + 0 + s.val = s.val; omega
  | ⟨4, _⟩ => show 0 + 0 + d.val = d.val; omega

/-- "Greater first" on a query's gates. -/
def before (g : FVec Ideal S4x8x4096x16 .f32) (b : Fin 4) (h : Fin 8) (t : Fin 4096) (k k' : Fin 16) : Bool :=
  FloatOps.cmpfTotal .gt (g (ix4 b h t k)) (g (ix4 b h t k')) == 1#1

/-- Sorting the positions along with the gates puts at `k` the position that the sort takes there. -/
theorem sorted_apply (g : FVec Ideal S4x8x4096x16 .f32) (b : Fin 4) (h : Fin 8) (t : Fin 4096) (k : Fin 16) :
    (Host.sort2 S4x8x4096x16 3 (fun l r => FloatOps.cmpfTotal .gt l.1 r.1) g
      (fun i => if hd : 3 < S4x8x4096x16.rank then iotaInDim S4x8x4096x16 32 ⟨3, hd⟩ i else 0#32)).2 (ix4 b h t k)
      = BitVec.ofNat 32 (sortedFrom (before g b h t) k).val := by
  have al : ∀ k' : Fin 16, Shape.Idx.along (s := S4x8x4096x16) (ix4 b h t k) (3 : Fin 4) k' = ix4 b h t k' := fun k' => by
    funext a
    match a with
    | ⟨0, _⟩ => rfl
    | ⟨1, _⟩ => rfl
    | ⟨2, _⟩ => rfl
    | ⟨3, _⟩ => rfl
  have ord : (fun k' k'' : Fin 16 => FloatOps.cmpfTotal .gt (g (Shape.Idx.along (s := S4x8x4096x16) (ix4 b h t k) (3 : Fin 4) k'))
      (g (Shape.Idx.along (s := S4x8x4096x16) (ix4 b h t k) (3 : Fin 4) k'')) == 1#1) = before g b h t := by
    funext k' k''; rw [al, al]; rfl
  have key : ∀ f : Fin 16 → Fin 16 → Bool, f = before g b h t →
      BitVec.ofNat 32 ((Shape.Idx.along (s := S4x8x4096x16) (ix4 b h t k) (3 : Fin 4) (sortedFrom (n := 16) f k)) (3 : Fin 4)).val
        = BitVec.ofNat 32 (sortedFrom (before g b h t) k).val := by
    rintro _ rfl
    generalize sortedFrom (before g b h t) k = z
    exact congrArg (fun i : S4x8x4096x16.Idx => BitVec.ofNat 32 (i (3 : Fin 4)).val) (al z)
  show BitVec.ofNat 32 ((Shape.Idx.along (s := S4x8x4096x16) (ix4 b h t k) (3 : Fin 4) (sortedFrom (n := 16) (fun k' k'' : Fin 16 =>
    FloatOps.cmpfTotal .gt (g (Shape.Idx.along (s := S4x8x4096x16) (ix4 b h t k) (3 : Fin 4) k'))
      (g (Shape.Idx.along (s := S4x8x4096x16) (ix4 b h t k) (3 : Fin 4) k'')) == 1#1) k)) (3 : Fin 4)).val = _
  exact key _ ord

theorem sel_apply (g : FVec Ideal S4x8x4096x16 .f32) (b : Fin 4) (h : Fin 8) (t : Fin 4096) (j : Fin 3) :
    sel g (ix4 b h t j) = BitVec.ofNat 32 (sortedFrom (before g b h t) ⟨j.val, by omega⟩).val := by
  refine (congrArg (Host.sort2 S4x8x4096x16 3 (fun l r => FloatOps.cmpfTotal .gt l.1 r.1) g
      (fun i => if hd : 3 < S4x8x4096x16.rank then iotaInDim S4x8x4096x16 32 ⟨3, hd⟩ i else 0#32)).2 ?_).trans
    (sorted_apply g b h t ⟨j.val, by omega⟩)
  funext a; apply Fin.ext
  match a with
  | ⟨0, _⟩ => exact Nat.zero_add _
  | ⟨1, _⟩ => exact Nat.zero_add _
  | ⟨2, _⟩ => exact Nat.zero_add _
  | ⟨3, _⟩ => exact Nat.zero_add _

theorem before_iff (g : FVec Ideal S4x8x4096x16 .f32) (b : Fin 4) (h : Fin 8) (t : Fin 4096) (k k' : Fin 16) :
    before g b h t k k' = true ↔ (show EReal from g (ix4 b h t k')) < g (ix4 b h t k) := by
  unfold before
  show (BitVec.ofBool (decide ((show EReal from g (ix4 b h t k')) < g (ix4 b h t k))) == 1#1) = true ↔ _
  by_cases hh : (show EReal from g (ix4 b h t k')) < g (ix4 b h t k) <;> simp [hh]

end Cert.ReferenceIdeal.Hand
-- ==== Proof.Ref.Reads.lean ====
/-
  THE REFERENCE'S STAGES AT AN INDEX.
-/
module

public import proofs.«01_k».proof.Proof.Ref.Gather
public import proofs.«01_k».proof.Proof.Words
public import proofs.«01_k».proof.Proof.Lits
public import proofs.«01_k».proof.Proof.Spec

@[expose] public section

noncomputable section

namespace Cert.ReferenceIdeal.Hand

open Cert.ReferenceIdeal Cert.ReferenceIdeal.Gen Idealize.ShloMosaic Idealize.ShloMosaic.TcCoe Cert.Hand
open Cert.KernelIdeal.Hand (toInt_small eq_small lit_bot lit_scale)

/-- The argument arrays hold real numbers. -/
structure Holds (A : Arrays) (a0 : FVec Ideal S4x4096x1536 .f32) (a1 : FVec Ideal S4x4096x1024 .bf16) (a2 : FVec Ideal S4x16x512 .f32) : Prop where
  q : ∀ b t (w : Fin 512), a0 (ix3 b t ⟨w.val, by omega⟩) = ((A.q b t w : ℝ) : EReal)
  k : ∀ b t (w : Fin 512), a1 (ix3 b t ⟨w.val, by omega⟩) = ((A.k b t w : ℝ) : EReal)
  v : ∀ b t (w : Fin 512), a1 (ix3 b t ⟨512 + w.val, by omega⟩) = ((A.v b t w : ℝ) : EReal)
  km : ∀ b n w, a2 (ix3 b n w) = ((A.km b n w : ℝ) : EReal)

theorem places_apply (t : Fin 4096) : places (ix1 t) = BitVec.ofNat 32 t.val := by
  pointwise [places]

/-- A word's sign. -/
def signW (p : BitVec 32) : BitVec 32 := if p = 0 then 0 else if p.msb = true then -1 else 1

/-- Division of a position by 256, rounding down, as the host spells it. -/
def ownW (p : BitVec 32) : BitVec 32 :=
  Scalar.select
    (IntOp.andi
      (IntOp.cmpi .ne (signW p) (signW 256#32))
      (IntOp.cmpi .ne (IntOp.remsi .host p 256#32) 0#32))
    (IntOp.subi (IntOp.divsi .host p 256#32) 1#32) (IntOp.divsi .host p 256#32)

theorem ownW_small : ∀ t : Fin 4096, ownW (BitVec.ofNat 32 t.val) = BitVec.ofNat 32 (t.val / 256) := by decide +kernel

theorem own_apply (t : Fin 4096) : own (ix1 t) = BitVec.ofNat 32 (t.val / 256) := by
  refine Eq.trans ?_ (ownW_small t)
  pointwise [own, places, spread, width]
  rfl

theorem slt_small {a b : ℕ} (ha : a < 4096) (hb : b < 4096) :
    IntOp.cmpi .slt (BitVec.ofNat 32 a) (BitVec.ofNat 32 b) = if a < b then 1#1 else 0#1 := by
  have : (BitVec.ofNat 32 a).slt (BitVec.ofNat 32 b) = decide (a < b) := by
    rw [BitVec.slt, toInt_small ha, toInt_small hb]; simp
  simp only [IntOp.cmpi, this]
  by_cases h : a < b <;> simp [h]

theorem sle_small {a b : ℕ} (ha : a < 4096) (hb : b < 4096) :
    IntOp.cmpi .sle (BitVec.ofNat 32 a) (BitVec.ofNat 32 b) = if a ≤ b then 1#1 else 0#1 := by
  have : (BitVec.ofNat 32 a).sle (BitVec.ofNat 32 b) = decide (a ≤ b) := by
    rw [BitVec.sle, toInt_small ha, toInt_small hb]; simp
  simp only [IntOp.cmpi, this]
  by_cases h : a ≤ b <;> simp [h]

theorem select_if {α : Type} (p : Prop) [Decidable p] (x y : α) : Scalar.select (if p then 1#1 else 0#1) x y = if p then x else y := by
  by_cases h : p <;> simp [h, Scalar.select]

theorem bot_apply : (id (constant S_ FTy.f32 0xFF800000#32) : FVec Ideal S_ .f32) ix0 = (⊥ : EReal) := lit_bot

section
variable {A : Arrays} {a0 : FVec Ideal S4x4096x1536 .f32} {a1 : FVec Ideal S4x4096x1024 .bf16} {a2 : FVec Ideal S4x16x512 .f32}
  (H : Holds A a0 a1 a2)
include H

theorem queries_apply (b : Fin 4) (t : Fin 4096) (h : Fin 8) (d : Fin 64) : queries a0 (ix4 b t h d) = ((A.q b t (lane h d) : ℝ) : EReal) := by
  pointwise [queries]
  exact H.q b t (lane h d)

theorem keys_apply (b : Fin 4) (h : Fin 8) (n : Fin 16) (s : Fin 256) (d : Fin 64) :
    keys a1 (ix5 b h n s d) = ((A.k b ⟨n.val * 256 + s.val, by omega⟩ (lane h d) : ℝ) : EReal) := by
  pointwise [keys]
  exact H.k b _ (lane h d)

theorem vals_apply (b : Fin 4) (h : Fin 8) (n : Fin 16) (s : Fin 256) (d : Fin 64) :
    vals a1 (ix5 b h n s d) = ((A.v b ⟨n.val * 256 + s.val, by omega⟩ (lane h d) : ℝ) : EReal) := by
  pointwise [vals]
  exact H.v b _ (lane h d)

theorem means_apply (b : Fin 4) (h : Fin 8) (n : Fin 16) (d : Fin 64) : means a2 (ix4 b h n d) = ((A.km b n (lane h d) : ℝ) : EReal) := by
  pointwise [means]
  exact H.km b n (lane h d)

theorem gates_apply (b : Fin 4) (h : Fin 8) (t : Fin 4096) (n : Fin 16) :
    gates (queries a0) (means a2) (ix4 b h t n) = gate A b h t n := by
  pointwise [gates]
  rw [own_apply, slt_small (by omega) (by omega), select_if, bot_apply]
  unfold gate
  simp only [queries_apply H, means_apply H, coe_sum, EReal.coe_mul]

/-- The position that the sort of a query's gates takes at `j`. -/
theorem rank_at (b : Fin 4) (h : Fin 8) (t : Fin 4096) (j : Fin 16) :
    rank (gate A b h t) (sortedFrom (before (gates (queries a0) (means a2)) b h t) j) = j.val := by
  refine rank_sortedFrom (fun k k' => ?_) j
  rw [before_iff]
  show (show EReal from gates (queries a0) (means a2) (ix4 b h t k')) < (show EReal from gates (queries a0) (means a2) (ix4 b h t k)) ↔ _
  rw [gates_apply H, gates_apply H]

end

variable (s : IVec S4x8x4096x3 32)

/-- The block of a query's `j`-th slot, when the selected ones are `σ`: the own block comes last. -/
def slot (σ : Fin 16 → Fin 16) (t : Fin 4096) (j : Fin 4) : Fin 16 :=
  if j.val < 3 then σ ⟨j.val, by omega⟩ else ⟨t.val / 256, by omega⟩

theorem blocks_apply {σ : Fin 16 → Fin 16} {b : Fin 4} {h : Fin 8} {t : Fin 4096}
    (hs : ∀ j : Fin 3, s (ix4 b h t j) = BitVec.ofNat 32 (σ ⟨j.val, by omega⟩).val) (j : Fin 4) :
    blocks s (ix4 b h t j) = BitVec.ofNat 32 (slot σ t j).val := by
  pointwise [blocks]
  unfold slot
  by_cases hj : j.val < 3
  · rw [dif_pos hj, if_pos hj, hs]
  · rw [dif_neg hj, if_neg hj, own_apply]

theorem batchAt_apply (b : Fin 4) : batchAt (ix4 b 0 0 0) = BitVec.ofNat 32 b.val := by
  pointwise [batchAt, batchIx]
  revert b; decide

theorem headAt_apply (h : Fin 8) : headAt (ix4 0 h 0 0) = BitVec.ofNat 32 h.val := by
  pointwise [headAt, headIx]
  revert h; decide

theorem blockAt_apply (u : IVec S4x8x4096x4 32) (b : Fin 4) (h : Fin 8) (t : Fin 4096) (j : Fin 4) (n : Fin 16)
    (e : u (ix4 b h t j) = BitVec.ofNat 32 n.val) : blockAt u (ix4 b h t j) = BitVec.ofNat 32 n.val := by
  pointwise [blockAt]
  rw [e]
  clear e
  revert n; decide

/-- A gathered entry is the array's entry in the slot's block. -/
theorem gathered_blocks (x : FVec Ideal S4x8x16x256x64 .f32) {σ : Fin 16 → Fin 16} {b : Fin 4} {h : Fin 8} {t : Fin 4096}
    (hs : ∀ j : Fin 3, s (ix4 b h t j) = BitVec.ofNat 32 (σ ⟨j.val, by omega⟩).val) (j : Fin 4) (r : Fin 256) (d : Fin 64) :
    gathered x (indices (blocks s)) (ix6 b h t j r d) = x (ix5 b h (slot σ t j) r d) := by
  refine gathered_apply x _ b h t j r d b h _ ?_ ?_ ?_
  · pointwise [indices]; exact batchAt_apply b
  · pointwise [indices]; exact headAt_apply h
  · pointwise [indices]; exact blockAt_apply _ b h t j _ (blocks_apply s hs j)

/-- Whether a slot's key is seen. -/
def Seen (σ : Fin 16 → Fin 16) (t : Fin 4096) (j : Fin 4) (r : Fin 256) : Prop :=
  if j.val < 3 then (slot σ t j).val < t.val / 256 else t.val / 256 * 256 + r.val ≤ t.val

instance (σ : Fin 16 → Fin 16) (t : Fin 4096) (j : Fin 4) (r : Fin 256) : Decidable (Seen σ t j r) := by unfold Seen; infer_instance

theorem seen_apply {σ : Fin 16 → Fin 16} {b : Fin 4} {h : Fin 8} {t : Fin 4096}
    (hs : ∀ j : Fin 3, s (ix4 b h t j) = BitVec.ofNat 32 (σ ⟨j.val, by omega⟩).val) (j : Fin 4) (r : Fin 256) :
    seen s (ix5 b h t j r) = if Seen σ t j r then 1#1 else 0#1 := by
  pointwise [seen]
  by_cases hj : j.val < 3
  · rw [dif_pos hj]
    pointwise [selOk]
    rw [hs, own_apply, slt_small (by omega) (by omega)]
    refine if_congr ?_ rfl rfl
    unfold Seen slot; rw [if_pos hj, if_pos hj]
  · rw [dif_neg hj]
    have e : (⟨j.val - 3, by omega⟩ : Fin 1) = 0 := Fin.ext (by show j.val - 3 = 0; omega)
    rw [e]
    pointwise [causal]
    rw [blocks_apply s hs, places_apply]
    have e3 : (slot σ t 3).val = t.val / 256 := rfl
    rw [e3]
    have : IntOp.addi (IntOp.muli (BitVec.ofNat 32 (t.val / 256)) 256#32) (BitVec.ofNat 32 r.val) = BitVec.ofNat 32 (t.val / 256 * 256 + r.val) := by
      show BitVec.ofNat 32 (t.val / 256) * BitVec.ofNat 32 256 + BitVec.ofNat 32 r.val = _
      rw [BitVec.ofNat_add, BitVec.ofNat_mul]
    rw [this, sle_small (by omega) (by omega)]
    refine if_congr ?_ rfl rfl
    unfold Seen; rw [if_neg hj]

end Cert.ReferenceIdeal.Hand
-- ==== Proof.Ref.Keys.lean ====
/-
  THE KEYS A QUERY SEES. The places of a query's row of 1024 that are seen are the allowed keys, each once.
-/
module

public import proofs.«01_k».proof.Proof.Ref.Reads

@[expose] public section

noncomputable section

namespace Cert.ReferenceIdeal.Hand

open Cert.ReferenceIdeal Cert.ReferenceIdeal.Gen Idealize.ShloMosaic Idealize.ShloMosaic.TcCoe Cert.Hand
open Cert.KernelIdeal.Hand (lit_bot lit_scale)

/-- The key of a query's row of 1024: slot `l / 256`, place `l % 256`. -/
def keyAt (σ : Fin 16 → Fin 16) (t : Fin 4096) (l : Fin 1024) : Fin 4096 :=
  ⟨(slot σ t ⟨l.val / 256, by omega⟩).val * 256 + l.val % 256, by have := (slot σ t ⟨l.val / 256, by omega⟩).isLt; omega⟩

/-- Whether it is seen. -/
def SeenAt (σ : Fin 16 → Fin 16) (t : Fin 4096) (l : Fin 1024) : Prop := Seen σ t ⟨l.val / 256, by omega⟩ ⟨l.val % 256, by omega⟩

instance (σ : Fin 16 → Fin 16) (t : Fin 4096) (l : Fin 1024) : Decidable (SeenAt σ t l) := by unfold SeenAt; infer_instance

section
variable {A : Arrays} {b : Fin 4} {h : Fin 8} {t : Fin 4096} {σ : Fin 16 → Fin 16} (hσ : Function.Bijective σ)
  (hr : ∀ j, rank (gate A b h t) (σ j) = j.val)

theorem slot_past {j : Fin 4} (hj : j.val < 3) : slot σ t j = σ ⟨j.val, by omega⟩ := if_pos hj
theorem slot_own {j : Fin 4} (hj : ¬ j.val < 3) : (slot σ t j).val = t.val / 256 := by unfold slot; rw [if_neg hj]

/-- A seen key is past in a selected block, or in the own block and not later than the query. -/
theorem seenAt_iff (l : Fin 1024) : SeenAt σ t l ↔ (l.val / 256 < 3 ∧ (keyAt σ t l).val / 256 < t.val / 256)
    ∨ (¬ l.val / 256 < 3 ∧ (keyAt σ t l).val ≤ t.val) := by
  have hs : (keyAt σ t l).val = (slot σ t ⟨l.val / 256, by omega⟩).val * 256 + l.val % 256 := rfl
  unfold SeenAt Seen
  by_cases hj : l.val / 256 < 3
  · rw [if_pos hj]
    constructor
    · intro e; exact .inl ⟨hj, by omega⟩
    · rintro (⟨_, e⟩ | ⟨e, _⟩)
      · omega
      · exact absurd hj e
  · rw [if_neg hj]
    have ho := slot_own (σ := σ) (t := t) (j := ⟨l.val / 256, by omega⟩) hj
    constructor
    · intro e; exact .inr ⟨hj, by rw [hs, ho]; exact e⟩
    · rintro (⟨e, _⟩ | ⟨_, e⟩)
      · exact absurd e hj
      · rw [hs, ho] at e; exact e

include hr in
theorem allowed_of_seen (l : Fin 1024) (e : SeenAt σ t l) : Allowed A b h t (keyAt σ t l) := by
  have hs : (keyAt σ t l).val = (slot σ t ⟨l.val / 256, by omega⟩).val * 256 + l.val % 256 := rfl
  rcases (seenAt_iff l).1 e with ⟨hj, e⟩ | ⟨hj, e⟩
  · have hp : slot σ t ⟨l.val / 256, by omega⟩ = σ ⟨l.val / 256, by omega⟩ := slot_past (j := ⟨l.val / 256, by omega⟩) hj
    have hd : (keyAt σ t l).val / 256 = (σ ⟨l.val / 256, by omega⟩).val := by rw [hs, hp]; omega
    refine ⟨by omega, .inr ⟨e, by omega, ?_⟩⟩
    have e2 : (⟨(keyAt σ t l).val / 256, by omega⟩ : Fin 16) = σ ⟨l.val / 256, by omega⟩ := Fin.ext hd
    rw [e2, hr]; exact hj
  · have ho := slot_own (σ := σ) (t := t) (j := ⟨l.val / 256, by omega⟩) hj
    exact ⟨e, .inl (by rw [hs, ho]; omega)⟩

include hσ in
theorem keyAt_inj (l l' : Fin 1024) (e : SeenAt σ t l) (e' : SeenAt σ t l') (h : keyAt σ t l = keyAt σ t l') : l = l' := by
  have hs : (keyAt σ t l).val = (slot σ t ⟨l.val / 256, by omega⟩).val * 256 + l.val % 256 := rfl
  have hs' : (keyAt σ t l').val = (slot σ t ⟨l'.val / 256, by omega⟩).val * 256 + l'.val % 256 := rfl
  have hv := congrArg Fin.val h
  have hd : slot σ t ⟨l.val / 256, by omega⟩ = slot σ t ⟨l'.val / 256, by omega⟩ := Fin.ext (by omega)
  have hm : l.val % 256 = l'.val % 256 := by omega
  rcases (seenAt_iff l).1 e with ⟨hj, e⟩ | ⟨hj, e⟩ <;> rcases (seenAt_iff l').1 e' with ⟨hj', e'⟩ | ⟨hj', e'⟩
  · rw [slot_past (j := ⟨l.val / 256, by omega⟩) hj, slot_past (j := ⟨l'.val / 256, by omega⟩) hj'] at hd
    have := congrArg Fin.val (hσ.1 hd)
    have : l.val / 256 = l'.val / 256 := this
    exact Fin.ext (by omega)
  · have ho := slot_own (σ := σ) (t := t) (j := ⟨l'.val / 256, by omega⟩) hj'; omega
  · have ho := slot_own (σ := σ) (t := t) (j := ⟨l.val / 256, by omega⟩) hj; omega
  · exact Fin.ext (by omega)

include hσ hr in
theorem seen_of_allowed (k : Fin 4096) (e : Allowed A b h t k) : ∃ l, SeenAt σ t l ∧ keyAt σ t l = k := by
  obtain ⟨hk, ho | ⟨hlt, hn, hrk⟩⟩ := e
  · have e3 : (768 + k.val % 256) / 256 = 3 := by omega
    have hl : keyAt σ t ⟨768 + k.val % 256, by omega⟩ = k := Fin.ext (by
      have := slot_own (σ := σ) (t := t) (j := ⟨(768 + k.val % 256) / 256, by omega⟩) (by show ¬ (768 + k.val % 256) / 256 < 3; omega)
      show (slot σ t ⟨(768 + k.val % 256) / 256, _⟩).val * 256 + (768 + k.val % 256) % 256 = k.val
      rw [this]; omega)
    exact ⟨_, (seenAt_iff _).2 (.inr ⟨by show ¬ (768 + k.val % 256) / 256 < 3; omega, by rw [hl]; exact hk⟩), hl⟩
  · obtain ⟨m, hm⟩ := hσ.2 ⟨k.val / 256, hn⟩
    have hm3 : m.val < 3 := by rw [← hr m, hm]; exact hrk
    have hl : keyAt σ t ⟨m.val * 256 + k.val % 256, by omega⟩ = k := Fin.ext (by
      have e1 : (m.val * 256 + k.val % 256) / 256 = m.val := by omega
      have hp := slot_past (σ := σ) (t := t) (j := ⟨(m.val * 256 + k.val % 256) / 256, by omega⟩) (by show (m.val * 256 + k.val % 256) / 256 < 3; omega)
      show (slot σ t ⟨(m.val * 256 + k.val % 256) / 256, _⟩).val * 256 + (m.val * 256 + k.val % 256) % 256 = k.val
      rw [hp]
      have e2 : (⟨(m.val * 256 + k.val % 256) / 256, by omega⟩ : Fin 16) = m := Fin.ext e1
      rw [e2, hm]
      show k.val / 256 * 256 + (m.val * 256 + k.val % 256) % 256 = k.val
      omega)
    exact ⟨_, (seenAt_iff _).2 (.inl ⟨by show (m.val * 256 + k.val % 256) / 256 < 3; omega, by rw [hl]; exact hlt⟩), hl⟩

include hσ hr in
/-- A sum over the seen keys is the sum over the allowed ones. -/
theorem sum_seen (f : Fin 4096 → ℝ) :
    ∑ l, (if SeenAt σ t l then f (keyAt σ t l) else 0) = ∑ k, (if Allowed A b h t k then f k else 0) := by
  rw [← Finset.sum_filter, ← Finset.sum_filter]
  refine Finset.sum_bij (fun l _ => keyAt σ t l) (fun l hl => ?_) (fun l hl l' hl' e => ?_) (fun k hk => ?_) (fun _ _ => rfl)
  · simp only [Finset.mem_filter, Finset.mem_univ, true_and] at hl ⊢
    exact allowed_of_seen hr l hl
  · simp only [Finset.mem_filter, Finset.mem_univ, true_and] at hl hl'
    exact keyAt_inj hσ l l' hl hl' e
  · simp only [Finset.mem_filter, Finset.mem_univ, true_and] at hk
    obtain ⟨l, hl, e⟩ := seen_of_allowed hσ hr k hk
    exact ⟨l, by simpa only [Finset.mem_filter, Finset.mem_univ, true_and] using hl, e⟩

include hσ hr in
/-- So is the mean of the values. -/
theorem mean_seen (d : Fin 64) :
    mean (SeenAt σ t) (fun l => score A b h t (keyAt σ t l)) (fun l => A.v b (keyAt σ t l) (lane h d)) = attn A b h t d := by
  have hw : ∀ l, weight (SeenAt σ t) (fun l => score A b h t (keyAt σ t l)) l
      = if SeenAt σ t l then Real.exp (score A b h t (keyAt σ t l)) else 0 := fun _ => rfl
  have hw' : ∀ k, weight (Allowed A b h t) (score A b h t) k = if Allowed A b h t k then Real.exp (score A b h t k) else 0 := fun _ => rfl
  unfold attn mean
  simp only [hw, hw', ite_mul, zero_mul]
  rw [sum_seen hσ hr (fun k => Real.exp (score A b h t k)),
    sum_seen hσ hr (fun k => Real.exp (score A b h t k) * A.v b k (lane h d))]

include hσ hr in
theorem some_seen : ∃ l, SeenAt σ t l := by
  obtain ⟨l, hl, _⟩ := seen_of_allowed (A := A) (b := b) (h := h) hσ hr t (allowed_self A b h t)
  exact ⟨l, hl⟩

end

end Cert.ReferenceIdeal.Hand
-- ==== Proof.Ref.Rows.lean ====
/-
  THE ROW OF SCORES. What the masked row, its largest, its softmax and the mixture hold, entry by entry.
-/
module

public import proofs.«01_k».proof.Proof.Ref.Reads

@[expose] public section

noncomputable section

namespace Cert.ReferenceIdeal.Hand

open Cert.ReferenceIdeal Cert.ReferenceIdeal.Gen Idealize.ShloMosaic Idealize.ShloMosaic.TcCoe Cert.Hand
open Cert.KernelIdeal.Hand (lit_bot lit_scale)

/-- The row of scores: slot's keys' scores where seen, else −∞. -/
theorem row_apply (ok : IVec S4x8x4096x4x256 1) (x : FVec Ideal S4x8x4096x4x256 .f32) (b : Fin 4) (h : Fin 8) (t : Fin 4096) (l : Fin 1024) :
    row ok x (ix4 b h t l) = Scalar.select (ok (ix5 b h t ⟨l.val / 256, by omega⟩ ⟨l.val % 256, by omega⟩))
      (show EReal from x (ix5 b h t ⟨l.val / 256, by omega⟩ ⟨l.val % 256, by omega⟩)) ⊥ := by
  pointwise [row]
  rw [bot_apply]

theorem scores_apply (q : FVec Ideal S4x4096x8x64 .f32) (k : FVec Ideal S4x8x4096x4x256x64 .f32) (b : Fin 4) (h : Fin 8) (t : Fin 4096)
    (j : Fin 4) (r : Fin 256) :
    scores q k (ix5 b h t j r) = ((∑ d : Fin 64, q (ix4 b t h d) * k (ix6 b h t j r d)) * ((1 / 8 : ℝ) : EReal) : EReal) := by
  pointwise [scores]
  rw [lit_scale]

theorem max_apply (x : FVec Ideal S4x8x4096x1024 .f32) (v : FVec Ideal S_ .f32) (j : S4x8x4096.Idx) :
    Host.reduce FloatOps.maximumf x v reducesTo_S4x8x4096x1024_S4x8x4096_d3 h_S_ j
      = (Finset.univ.fold FloatOps.maximumf (v (Shape.Idx.first h_S_)) fun k : Fin 1024 => x (ix4 (j 0) (j 1) (j 2) k)) := by
  rw [Host.reduce_eq_fold]
  exact Shape.ReducesTo.fold_fiber_r4_a3 reducesTo_S4x8x4096x1024_S4x8x4096_d3 j FloatOps.maximumf (v (Shape.Idx.first h_S_)) x

/-- The largest of a row: the smallest value there is does not change it. -/
theorem maximumf_bot (y z : Ideal .f32) (hy : y = (⊥ : EReal)) : FloatOps.maximumf y z = z := by
  subst hy
  exact max_eq_right (bot_le (a := (z : EReal)))

theorem fold_maximumf (v : Ideal .f32) (hv : v = (⊥ : EReal)) (f : Fin 1024 → Ideal .f32) :
    Finset.univ.fold FloatOps.maximumf v f = (Finset.univ.fold max (⊥ : EReal) f : EReal) := by
  subst hv
  rfl

theorem maximumf_at (y z : FVec Ideal S4x8x4096 .f32) (j : S4x8x4096.Idx) : maximumf y z j = FloatOps.maximumf (y j) (z j) := rfl

theorem least_at (j : S4x8x4096.Idx) :
    (broadcastInDim S4x8x4096 ![] bcast_S_S4x8x4096 (constant S_ .f32 0xFF800000#32) : FVec Ideal S4x8x4096 .f32) j = (⊥ : EReal) := lit_bot

theorem least_first : (constant S_ .f32 0xFF800000#32 : FVec Ideal S_ .f32) (Shape.Idx.first h_S_) = (⊥ : EReal) := lit_bot

theorem top_apply (x : FVec Ideal S4x8x4096x1024 .f32) (b : Fin 4) (h : Fin 8) (t : Fin 4096) :
    top x (ix3 b h t) = ((Finset.univ.fold max (⊥ : EReal) fun l : Fin 1024 => (show EReal from x (ix4 b h t l))) : EReal) := by
  unfold top
  rw [maximumf_at, maximumf_bot _ _ (least_at _), max_apply, fold_maximumf _ least_first]
  rfl

theorem along_apply (x : FVec Ideal S4x8x4096 .f32) (b : Fin 4) (h : Fin 8) (t : Fin 4096) (l : Fin 1024) :
    along x (ix4 b h t l) = x (ix3 b h t) := by
  pointwise [along]

theorem expo_apply (x : FVec Ideal S4x8x4096x1024 .f32) (b : Fin 4) (h : Fin 8) (t : Fin 4096) (l : Fin 1024) :
    expo x (ix4 b h t l) = Ideal.exp ((show EReal from x (ix4 b h t l)) - (show EReal from top x (ix3 b h t))) := by
  show Ideal.exp ((show EReal from x (ix4 b h t l)) - (show EReal from along (top x) (ix4 b h t l))) = _
  rw [along_apply]

theorem total_apply (x : FVec Ideal S4x8x4096x1024 .f32) (b : Fin 4) (h : Fin 8) (t : Fin 4096) :
    (Host.reduceAdd x (constant S_ .f32 0x00000000#32) reducesTo_S4x8x4096x1024_S4x8x4096_d3 h_S_ : FVec Ideal _ _) (ix3 b h t)
      = (∑ l : Fin 1024, (show EReal from x (ix4 b h t l)) : EReal) := by
  pointwise

theorem soft_apply (x : FVec Ideal S4x8x4096x1024 .f32) (b : Fin 4) (h : Fin 8) (t : Fin 4096) (l : Fin 1024) :
    soft x (ix4 b h t l) = Ideal.div (x (ix4 b h t l)) (∑ l : Fin 1024, (show EReal from x (ix4 b h t l))) := by
  show Ideal.div (show EReal from x (ix4 b h t l)) (show EReal from along (F := Ideal) (Host.reduceAdd x (constant S_ .f32 0x00000000#32)
    reducesTo_S4x8x4096x1024_S4x8x4096_d3 h_S_) (ix4 b h t l)) = _
  rw [along_apply, total_apply]

/-- The mixture at a head's lane, as one sum over the row. -/
theorem mix_apply (p : FVec Ideal S4x8x4096x1024 .f32) (v : FVec Ideal S4x8x4096x4x256x64 .f32) (b : Fin 4) (h : Fin 8) (t : Fin 4096) (d : Fin 64) :
    mix p v (ix3 b t (lane h d)) = (∑ l : Fin 1024, (show EReal from p (ix4 b h t l))
      * v (ix6 b h t ⟨l.val / 256, by omega⟩ ⟨l.val % 256, by omega⟩ d) : EReal) := by
  pointwise [mix]
  have e1 : (⟨(lane h d).val / 64, by have := (lane h d).isLt; omega⟩ : Fin 8) = h := Fin.ext (by show (h.val * 64 + d.val) / 64 = h.val; omega)
  have e2 : (⟨(lane h d).val % 64, by omega⟩ : Fin 64) = d := Fin.ext (by show (h.val * 64 + d.val) % 64 = d.val; omega)
  simp only [e1, e2]
  rw [← Equiv.sum_comp (finProdFinEquiv (m := 4) (n := 256)), Fintype.sum_prod_type]
  refine Finset.sum_congr rfl fun j _ => Finset.sum_congr rfl fun r _ => ?_
  have e3 : (finProdFinEquiv (j, r)).val = r.val + 256 * j.val := rfl
  have a1 : (⟨(finProdFinEquiv (j, r)).val / 256, by omega⟩ : Fin 4) = j := Fin.ext (by show (finProdFinEquiv (j, r)).val / 256 = j.val; omega)
  have a2 : (⟨(finProdFinEquiv (j, r)).val % 256, by omega⟩ : Fin 256) = r := Fin.ext (by show (finProdFinEquiv (j, r)).val % 256 = r.val; omega)
  have a3 : (⟨j.val * 256 + r.val, by omega⟩ : Fin 1024) = finProdFinEquiv (j, r) := Fin.ext (by show j.val * 256 + r.val = (finProdFinEquiv (j, r)).val; omega)
  rw [a1, a2, a3]

end Cert.ReferenceIdeal.Hand
-- ==== Proof.Ref.Whole.lean ====
/-
  THE REFERENCE'S RESULT. Its gathered keys that are seen are the allowed keys, each once, so its softmax and mixture over them are the
  attention.
-/
module

public import proofs.«01_k».proof.Proof.Ref.Keys
public import proofs.«01_k».proof.Proof.Ref.Rows

@[expose] public section

noncomputable section

namespace Cert.ReferenceIdeal.Hand

open Cert.ReferenceIdeal Cert.ReferenceIdeal.Gen Idealize.ShloMosaic Idealize.ShloMosaic.TcCoe Cert.Hand
open Cert.KernelIdeal.Hand (lit_bot lit_scale)

section
variable {A : Arrays} {a0 : FVec Ideal S4x4096x1536 .f32} {a1 : FVec Ideal S4x4096x1024 .bf16} {a2 : FVec Ideal S4x16x512 .f32}
  (H : Holds A a0 a1 a2)
include H

/-- The reference computes the attention. -/
theorem whole_apply (b : Fin 4) (t : Fin 4096) (h : Fin 8) (d : Fin 64) :
    whole a0 a1 a2 (ix3 b t (lane h d)) = ((attn A b h t d : ℝ) : EReal) := by
  let σ : Fin 16 → Fin 16 := sortedFrom (before (gates (queries a0) (means a2)) b h t)
  have hσ : Function.Bijective σ := ⟨sortedFrom_injective _, sortedFrom_surjective _⟩
  have hr : ∀ j, rank (gate A b h t) (σ j) = j.val := rank_at H b h t
  have hs : ∀ j : Fin 3, sel (gates (queries a0) (means a2)) (ix4 b h t j) = BitVec.ofNat 32 (σ ⟨j.val, by omega⟩).val := sel_apply _ b h t
  obtain ⟨s, es⟩ : ∃ s, s = sel (gates (queries a0) (means a2)) := ⟨_, rfl⟩
  rw [← es] at hs
  have hrow : ∀ l, row (seen s) (scores (queries a0) (gathered (keys a1) (indices (blocks s)))) (ix4 b h t l)
      = masked (SeenAt σ t) (fun l => score A b h t (keyAt σ t l)) l := fun l => by
    rw [row_apply, seen_apply s hs, scores_apply]
    simp only [gathered_blocks s _ hs, queries_apply H, keys_apply H, select_if]
    unfold masked score
    refine if_congr Iff.rfl ?_ rfl
    rw [EReal.coe_mul, coe_sum]
    simp only [EReal.coe_mul]
    rfl
  obtain ⟨x, ex⟩ : ∃ x, x = row (seen s) (scores (queries a0) (gathered (keys a1) (indices (blocks s)))) := ⟨_, rfl⟩
  rw [← ex] at hrow
  have hex := some_seen (A := A) (b := b) (h := h) hσ hr
  obtain ⟨m, hm⟩ := max_real (fun l => score A b h t (keyAt σ t l)) hex
  have htop : top x (ix3 b h t) = (m : EReal) := by
    rw [top_apply, ← hm]
    exact congrArg (fun f => Finset.univ.fold max ⊥ f) (funext hrow)
  have hexp : ∀ l, expo x (ix4 b h t l) = ((weight (SeenAt σ t) (fun l => score A b h t (keyAt σ t l)) l * Real.exp (-m) : ℝ) : EReal) := fun l => by
    rw [expo_apply, htop, hrow]
    exact exp_masked _ _ m l
  unfold whole
  rw [← es, ← ex, mix_apply]
  simp only [soft_apply, hexp, gathered_blocks s _ hs, vals_apply H]
  rw [← mean_seen hσ hr d]
  exact mean_of_divided _ hex (fun l => A.v b (keyAt σ t l) (lane h d)) m

end

end Cert.ReferenceIdeal.Hand
-- ==== Proof.Proj.Product.lean ====
/-
  ENTRIES OF THE PROJECTION. One entry of the product of the stream and the projection's weights, and how the tiles of 512 rows lie in it.
-/
module

public import Idealize.ShloMosaic.Lib.Pointwise
public import Idealize.ShloMosaic.Lib.Pipeline.Value

@[expose] public section

noncomputable section

namespace Cert.Hand

open Idealize.ShloMosaic

/-- Row `r` of the stream times column `j` of the weights. -/
def entry (h : (⟨2, ![16384, 1024]⟩ : Shape).Idx → EReal) (w : (⟨2, ![1024, 8136]⟩ : Shape).Idx → EReal) (r : Fin 16384) (j : Fin 8136) : EReal :=
  ∑ k : Fin 1024, h (ix2 r k) * w (ix2 k j)

/-- The row of the stream that is row `r` of tile `n`. -/
def tileRow {n : ℕ} (hn : n < 32) (r : Fin 512) : Fin 16384 := ⟨n * 512 + r.val, by omega⟩

/-- An index of two axes is the pair of its coordinates. -/
theorem idx2 {a b : ℕ} (j : (⟨2, ![a, b]⟩ : Shape).Idx) : ∃ (r : Fin a) (l : Fin b), j = (ix2 r l : (⟨2, ![a, b]⟩ : Shape).Idx) :=
  ⟨j 0, j 1, funext fun i => by
    match i with
    | ⟨0, _⟩ => rfl
    | ⟨1, _⟩ => rfl⟩

/-- The zero offset of two axes. -/
theorem zero2 : (![0, 0] : Fin 2 → Nat) = fun _ => 0 := funext fun a => by fin_cases a <;> rfl

end Cert.Hand
-- ==== Proof.Proj.Queries.lean ====
/-
  THE QUERIES' PROJECTION. Every grid point's block of the result holds the stream's rows times the columns of its tile, and the blocks cover
  the result; the reference's slice of the whole product has the same entries.
-/
module

public import proofs.«01_k».proof.Proof.Proj.Product
public import proofs.«01_k».proof.Proof.Gen.QueriesIdeal.Value
public import proofs.«01_k».proof.Proof.Gen.QueriesRefIdeal.Run

@[expose] public section

noncomputable section

namespace Cert.QueriesIdeal.Hand

open Cert.QueriesIdeal Cert.QueriesIdeal.Gen Cert.QueriesIdeal.Value Idealize.ShloMosaic Idealize.ShloMosaic.TcCoe Idealize.SL.Sem Cert.Hand

/-- The column of the projection that is the queries' column `l`: three runs of 512, the first at the left end, the other two further right. -/
def col (l : Fin 1536) : Fin 8136 :=
  if l.val < 512 then ⟨l.val, by omega⟩ else if l.val < 1024 then ⟨3712 + (l.val - 512), by omega⟩ else ⟨4224 + (l.val - 1024), by omega⟩

theorem col_left (l : Fin 1536) (h : l.val < 512) : col l = ⟨l.val, by omega⟩ := if_pos h
theorem col_middle (l : Fin 1536) (h : ¬l.val < 512) (h' : l.val - 512 < 512) : col l = ⟨3712 + (l.val - 512), by omega⟩ :=
  (if_neg h).trans (if_pos (by omega))
theorem col_right (l : Fin 1536) (h : ¬l.val - 512 < 512) : col l = ⟨4224 + (l.val - 512 - 512), by omega⟩ :=
  (if_neg (by omega)).trans ((if_neg (by omega)).trans (Fin.ext (by show 4224 + (l.val - 1024) = 4224 + (l.val - 512 - 512); omega)))

/-- The result array. -/
def result (h : S16384x1024.Idx → EReal) (w : S1024x8136.Idx → EReal) : S16384x1536.Idx → EReal := fun j => entry h w (j 0) (col (j 1))

theorem index0 : ∀ t : Fin cfg0.N, win0_0.index t (0 : Fin 2) = t.val % 32 ∧ win0_0.index t (1 : Fin 2) = 0 :=
  (by decide +kernel : ∀ t : Fin grid0.N, _)

theorem index1 : ∀ t : Fin cfg0.N, win0_1.index t (0 : Fin 2) = 0 ∧ win0_1.index t (1 : Fin 2) = t.val / 32 :=
  (by decide +kernel : ∀ t : Fin grid0.N, _)

theorem index2 : ∀ t : Fin cfg0.N, win0_2.index t (0 : Fin 2) = t.val % 32 ∧ win0_2.index t (1 : Fin 2) = t.val / 32 :=
  (by decide +kernel : ∀ t : Fin grid0.N, _)

section
variable (t : Fin cfg0.N)

theorem lt_N : t.val < 96 := t.isLt

theorem row_lt : t.val % 32 < 32 := by omega

/-- Column `l` of a point's tile. -/
def tileCol (l : Fin 512) : Fin 1536 := ⟨t.val / 32 * 512 + l.val, by have := lt_N t; omega⟩

theorem emb0 (r : Fin 512) (k : Fin 1024) : ((cfg0.win 0).blk t).view.emb (ix2 r k : S512x1024.Idx)
    = (ix2 (tileRow (row_lt t) r) k : S16384x1024.Idx) := by
  obtain ⟨e0, e1⟩ := index0 t
  funext a; apply Fin.ext
  match a with
  | ⟨0, _⟩ => show win0_0.index t (0 : Fin 2) * 512 + 1 * r.val = t.val % 32 * 512 + r.val; omega
  | ⟨1, _⟩ => show win0_0.index t (1 : Fin 2) * 1024 + 1 * k.val = k.val; omega

theorem emb1 (k : Fin 1024) (l : Fin 512) : ((cfg0.win 1).blk t).view.emb (ix2 k l : S1024x512.Idx)
    = (ix2 k (tileCol t l) : S1024x1536.Idx) := by
  obtain ⟨e0, e1⟩ := index1 t
  funext a; apply Fin.ext
  match a with
  | ⟨0, _⟩ => show win0_1.index t (0 : Fin 2) * 1024 + 1 * k.val = k.val; omega
  | ⟨1, _⟩ => show win0_1.index t (1 : Fin 2) * 512 + 1 * l.val = t.val / 32 * 512 + l.val; omega

theorem emb2 (r : Fin 512) (l : Fin 512) : ((cfg0.win 2).blk t).view.emb (ix2 r l : S512x512.Idx)
    = (ix2 (tileRow (row_lt t) r) (tileCol t l) : S16384x1536.Idx) := by
  obtain ⟨e0, e1⟩ := index2 t
  funext a; apply Fin.ext
  match a with
  | ⟨0, _⟩ => show win0_2.index t (0 : Fin 2) * 512 + 1 * r.val = t.val % 32 * 512 + r.val; omega
  | ⟨1, _⟩ => show win0_2.index t (1 : Fin 2) * 512 + 1 * l.val = t.val / 32 * 512 + l.val; omega

end

/-- What the body stores: the product of its blocks. -/
theorem block_eq (x0 : Vec Ideal S512x1024 .bf16) (x1 : Vec Ideal S1024x512 .bf16) (r : Fin 512) (l : Fin 512) :
    (show EReal from out0_2 x0 x1 (ix2 r l : S512x512.Idx)) = ∑ k : Fin 1024, (show EReal from x0 (ix2 r k)) * (show EReal from x1 (ix2 k l)) := by
  unfold out0_2
  rw [View.canon_unit_zero zero2, View.ld_unit_zero (S := S512x1024) zero2, View.ld_unit_zero (S := S1024x512) zero2]
  show (show EReal from k0_pay1 x0 x1 (ix2 r l)) = _
  pointwise [k0_pay1]

variable (m : (ℓ : Loc nD τ sig) → Buf (Elt Ideal) ℓ) (c : Dev nD)

/-- The weights that the host puts together from three parts of the projection. -/
theorem weights_eq (k : Fin 1024) (l : Fin 1536) : (show EReal from V m c main_v4 (ix2 k l : S1024x1536.Idx))
    = (show EReal from m ((c : Thread nD τ).loc main_arg1) (ix2 k (col l) : S1024x8136.Idx)) := by
  have e : V m c main_v4 = (truncf (F := Ideal) .bf16 (concatenate S1024x1536 1
      [⟨S1024x512, (extractStridedSlice S1024x512 ![0, 0] (show FVec Ideal S1024x8136 .f32 from m ((c : Thread nD τ).loc main_arg1)) slices_S1024x8136_S1024x512_0_0)⟩,
       ⟨S1024x512, (extractStridedSlice S1024x512 ![0, 3712] (show FVec Ideal S1024x8136 .f32 from m ((c : Thread nD τ).loc main_arg1)) slices_S1024x8136_S1024x512_0_3712)⟩,
       ⟨S1024x512, (extractStridedSlice S1024x512 ![0, 4224] (show FVec Ideal S1024x8136 .f32 from m ((c : Thread nD τ).loc main_arg1)) slices_S1024x8136_S1024x512_0_4224)⟩]
      concatenates_S1024x512_S1024x512_S1024x512_S1024x1536_d1) bitsLt_bf16_f32 : FVec Ideal S1024x1536 .bf16) := by
    show StableHlo.after hostOps0 (fun b => m (c, b)) (Proc.devRef .tc main_v4) = _
    after_results
    rfl
  rw [e]
  pointwise
  split
  · exact congrArg (fun j => m ((c : Thread nD τ).loc main_arg1) (ix2 k j : S1024x8136.Idx)) (col_left l (by assumption)).symm
  · split
    · exact congrArg (fun j => m ((c : Thread nD τ).loc main_arg1) (ix2 k j : S1024x8136.Idx)) (col_middle l (by assumption) (by assumption)).symm
    · exact congrArg (fun j => m ((c : Thread nD τ).loc main_arg1) (ix2 k j : S1024x8136.Idx)) (col_right l (by assumption)).symm

/-- What a point writes back is its block of the result. -/
theorem flushed_eq (t : Fin cfg0.N) : (dats m 0 c).flushed 2 t
    = ((cfg0.win 2).blk t).view.read (Elt Ideal) (result (m ((c : Thread nD τ).loc main_arg0)) (m ((c : Thread nD τ).loc main_arg1))) := by
  rw [flushed2]
  funext j
  show @Eq EReal (out0_2 (iblk m c 0 t) (iblk m c 1 t) j)
    (result (m ((c : Thread nD τ).loc main_arg0)) (m ((c : Thread nD τ).loc main_arg1)) (((cfg0.win 2).blk t).view.emb j))
  obtain ⟨r, l, rfl⟩ := idx2 (a := 512) (b := 512) j
  rw [emb2]
  refine (block_eq _ _ r l).trans ?_
  unfold result entry
  refine Finset.sum_congr rfl fun k _ => ?_
  have e0 : @Eq EReal (iblk m c 0 t (ix2 r k : S512x1024.Idx)) (m ((c : Thread nD τ).loc main_arg0) (ix2 (tileRow (row_lt t) r) k : S16384x1024.Idx)) := by
    show V m c main_arg0 (((cfg0.win 0).blk t).view.emb (ix2 r k : S512x1024.Idx)) = _
    rw [emb0, V_main_arg0]
  have e1 : @Eq EReal (iblk m c 1 t (ix2 k l : S1024x512.Idx)) (m ((c : Thread nD τ).loc main_arg1) (ix2 k (col (tileCol t l)) : S1024x8136.Idx)) := by
    show V m c main_v4 (((cfg0.win 1).blk t).view.emb (ix2 k l : S1024x512.Idx)) = _
    rw [emb1]; exact weights_eq m c _ _
  exact congrArg₂ (fun a b : EReal => a * b) e0 e1

/-- Every index of the result is in some point's block. -/
theorem covered (i : S16384x1536.Idx) : ∃ t : Fin cfg0.N, (cfg0.win 2).flush t = true ∧ i ∈ ((cfg0.win 2).blk t).view.set := by
  have h0 : (i 0).val < 16384 := (i 0).isLt
  have h1 : (i 1).val < 1536 := (i 1).isLt
  let t : Fin cfg0.N := ⟨(i 1).val / 512 * 32 + (i 0).val / 512, by show _ < 96; omega⟩
  refine ⟨t, flush0_2 t, ?_⟩
  have e := ((cfg0.win 2).blk t).view.emb_mem_set (ix2 ⟨(i 0).val % 512, by omega⟩ ⟨(i 1).val % 512, by omega⟩ : S512x512.Idx)
  rw [emb2] at e
  refine (congrArg (· ∈ ((cfg0.win 2).blk t).view.set) ?_).mp e
  funext a; apply Fin.ext
  match a with
  | ⟨0, _⟩ => show ((i 1).val / 512 * 32 + (i 0).val / 512) % 32 * 512 + (i 0).val % 512 = (i 0).val; omega
  | ⟨1, _⟩ => show ((i 1).val / 512 * 32 + (i 0).val / 512) / 32 * 512 + (i 1).val % 512 = (i 1).val; omega

/-- The result array after the run is the product. -/
theorem final : (dats m 0 c).arrAt 2 cfg0.N = result (m ((c : Thread nD τ).loc main_arg0)) (m ((c : Thread nD τ).loc main_arg1)) :=
  (dats m 0 c).arrAt_eq_of_cover 2 _ (fun t _ => flushed_eq m c t) covered

end Cert.QueriesIdeal.Hand

namespace Cert.QueriesRefIdeal.Hand

open Cert.QueriesRefIdeal Cert.QueriesRefIdeal.Gen Idealize.ShloMosaic Idealize.ShloMosaic.TcCoe Cert.Hand

/-- The whole product. -/
def whole (h : S16384x1024.Idx → EReal) (w : S1024x8136.Idx → EReal) : FVec Ideal S16384x8136 .f32 :=
  Host.dotGeneral (F := Ideal) dot_S16384x1024_S1024x8136_S16384x8136_1_0_0_1_n_n none (extf .f32 (show FVec Ideal S16384x1024 .bf16 from h) bitsLt_bf16_f32)
    (show FVec Ideal S1024x8136 .f32 from w)

/-- An entry of the whole product. -/
theorem whole_apply (h : S16384x1024.Idx → EReal) (w : S1024x8136.Idx → EReal) (r : Fin 16384) (j : Fin 8136) :
    (show EReal from whole h w (ix2 r j : S16384x8136.Idx)) = entry h w r j := by
  unfold whole
  pointwise
  rfl

/-- The reference's result is the same array. -/
theorem reference_eq (h : S16384x1024.Idx → EReal) (w : S1024x8136.Idx → EReal) :
    concatenate S16384x1536 1
      [⟨S16384x512, (extractStridedSlice S16384x512 ![0, 0] (whole h w) slices_S16384x8136_S16384x512_0_0)⟩,
       ⟨S16384x512, (extractStridedSlice S16384x512 ![0, 3712] (whole h w) slices_S16384x8136_S16384x512_0_3712)⟩,
       ⟨S16384x512, (extractStridedSlice S16384x512 ![0, 4224] (whole h w) slices_S16384x8136_S16384x512_0_4224)⟩]
      concatenates_S16384x512_S16384x512_S16384x512_S16384x1536_d1
      = Cert.QueriesIdeal.Hand.result h w := by
  funext j
  obtain ⟨r, l, rfl⟩ := idx2 (a := 16384) (b := 1536) j
  show _ = entry h w r (Cert.QueriesIdeal.Hand.col l)
  rw [← whole_apply]
  pointwise
  split
  · exact congrArg (fun j => whole h w (ix2 r j : S16384x8136.Idx)) (Cert.QueriesIdeal.Hand.col_left l (by assumption)).symm
  · split
    · exact congrArg (fun j => whole h w (ix2 r j : S16384x8136.Idx)) (Cert.QueriesIdeal.Hand.col_middle l (by assumption) (by assumption)).symm
    · exact congrArg (fun j => whole h w (ix2 r j : S16384x8136.Idx)) (Cert.QueriesIdeal.Hand.col_right l (by assumption)).symm

end Cert.QueriesRefIdeal.Hand
-- ==== Proof.Proj.MobaRows.lean ====
/-
  THE BLOCK-SPARSE ATTENTION'S PROJECTION. Every grid point's block of the result holds the stream's rows times the columns of its tile, and the blocks cover
  the result; the reference's slice of the whole product has the same entries.
-/
module

public import proofs.«01_k».proof.Proof.Proj.Product
public import proofs.«01_k».proof.Proof.Gen.MobaRowsIdeal.Value
public import proofs.«01_k».proof.Proof.Gen.MobaRowsRefIdeal.Run

@[expose] public section

noncomputable section

namespace Cert.MobaRowsIdeal.Hand

open Cert.MobaRowsIdeal Cert.MobaRowsIdeal.Gen Cert.MobaRowsIdeal.Value Idealize.ShloMosaic Idealize.ShloMosaic.TcCoe Idealize.SL.Sem Cert.Hand

/-- The column of the projection that is the block-sparse attention's column `l`. -/
def col (l : Fin 1024) : Fin 8136 := ⟨512 + l.val, by omega⟩

/-- The result array. -/
def result (h : S16384x1024.Idx → EReal) (w : S1024x8136.Idx → EReal) : S16384x1024.Idx → EReal := fun j => entry h w (j 0) (col (j 1))

theorem index0 : ∀ t : Fin cfg0.N, win0_0.index t (0 : Fin 2) = t.val % 32 ∧ win0_0.index t (1 : Fin 2) = 0 :=
  (by decide +kernel : ∀ t : Fin grid0.N, _)

theorem index1 : ∀ t : Fin cfg0.N, win0_1.index t (0 : Fin 2) = 0 ∧ win0_1.index t (1 : Fin 2) = t.val / 32 :=
  (by decide +kernel : ∀ t : Fin grid0.N, _)

theorem index2 : ∀ t : Fin cfg0.N, win0_2.index t (0 : Fin 2) = t.val % 32 ∧ win0_2.index t (1 : Fin 2) = t.val / 32 :=
  (by decide +kernel : ∀ t : Fin grid0.N, _)

section
variable (t : Fin cfg0.N)

theorem lt_N : t.val < 32 := t.isLt

theorem row_lt : t.val % 32 < 32 := by omega

/-- Column `l` of a point's tile. -/
def tileCol (l : Fin 1024) : Fin 1024 := ⟨t.val / 32 * 1024 + l.val, by have := lt_N t; omega⟩

theorem emb0 (r : Fin 512) (k : Fin 1024) : ((cfg0.win 0).blk t).view.emb (ix2 r k : S512x1024.Idx)
    = (ix2 (tileRow (row_lt t) r) k : S16384x1024.Idx) := by
  obtain ⟨e0, e1⟩ := index0 t
  funext a; apply Fin.ext
  match a with
  | ⟨0, _⟩ => show win0_0.index t (0 : Fin 2) * 512 + 1 * r.val = t.val % 32 * 512 + r.val; omega
  | ⟨1, _⟩ => show win0_0.index t (1 : Fin 2) * 1024 + 1 * k.val = k.val; omega

theorem emb1 (k : Fin 1024) (l : Fin 1024) : ((cfg0.win 1).blk t).view.emb (ix2 k l : S1024x1024.Idx)
    = (ix2 k (tileCol t l) : S1024x1024.Idx) := by
  obtain ⟨e0, e1⟩ := index1 t
  funext a; apply Fin.ext
  match a with
  | ⟨0, _⟩ => show win0_1.index t (0 : Fin 2) * 1024 + 1 * k.val = k.val; omega
  | ⟨1, _⟩ => show win0_1.index t (1 : Fin 2) * 1024 + 1 * l.val = t.val / 32 * 1024 + l.val; omega

theorem emb2 (r : Fin 512) (l : Fin 1024) : ((cfg0.win 2).blk t).view.emb (ix2 r l : S512x1024.Idx)
    = (ix2 (tileRow (row_lt t) r) (tileCol t l) : S16384x1024.Idx) := by
  obtain ⟨e0, e1⟩ := index2 t
  funext a; apply Fin.ext
  match a with
  | ⟨0, _⟩ => show win0_2.index t (0 : Fin 2) * 512 + 1 * r.val = t.val % 32 * 512 + r.val; omega
  | ⟨1, _⟩ => show win0_2.index t (1 : Fin 2) * 1024 + 1 * l.val = t.val / 32 * 1024 + l.val; omega

end

/-- What the body stores: the product of its blocks. -/
theorem block_eq (x0 : Vec Ideal S512x1024 .bf16) (x1 : Vec Ideal S1024x1024 .bf16) (r : Fin 512) (l : Fin 1024) :
    (show EReal from out0_2 x0 x1 (ix2 r l : S512x1024.Idx)) = ∑ k : Fin 1024, (show EReal from x0 (ix2 r k)) * (show EReal from x1 (ix2 k l)) := by
  unfold out0_2
  rw [View.canon_unit_zero zero2, View.ld_unit_zero (S := S512x1024) zero2, View.ld_unit_zero (S := S1024x1024) zero2]
  show (show EReal from k0_pay1 x0 x1 (ix2 r l)) = _
  pointwise [k0_pay1]

variable (m : (ℓ : Loc nD τ sig) → Buf (Elt Ideal) ℓ) (c : Dev nD)

/-- The weights that the host cuts out of the projection. -/
theorem weights_eq (k : Fin 1024) (l : Fin 1024) : (show EReal from V m c main_v1 (ix2 k l : S1024x1024.Idx))
    = (show EReal from m ((c : Thread nD τ).loc main_arg1) (ix2 k (col l) : S1024x8136.Idx)) := by
  have e : V m c main_v1 = (truncf (F := Ideal) .bf16
      (extractStridedSlice S1024x1024 ![0, 512] (show FVec Ideal S1024x8136 .f32 from m ((c : Thread nD τ).loc main_arg1))
        slices_S1024x8136_S1024x1024_0_512) bitsLt_bf16_f32 : FVec Ideal S1024x1024 .bf16) := by
    show StableHlo.after hostOps0 (fun b => m (c, b)) (Proc.devRef .tc main_v1) = _
    after_results
  rw [e]
  pointwise
  rfl

/-- What a point writes back is its block of the result. -/
theorem flushed_eq (t : Fin cfg0.N) : (dats m 0 c).flushed 2 t
    = ((cfg0.win 2).blk t).view.read (Elt Ideal) (result (m ((c : Thread nD τ).loc main_arg0)) (m ((c : Thread nD τ).loc main_arg1))) := by
  rw [flushed2]
  funext j
  show @Eq EReal (out0_2 (iblk m c 0 t) (iblk m c 1 t) j)
    (result (m ((c : Thread nD τ).loc main_arg0)) (m ((c : Thread nD τ).loc main_arg1)) (((cfg0.win 2).blk t).view.emb j))
  obtain ⟨r, l, rfl⟩ := idx2 (a := 512) (b := 1024) j
  rw [emb2]
  refine (block_eq _ _ r l).trans ?_
  unfold result entry
  refine Finset.sum_congr rfl fun k _ => ?_
  have e0 : @Eq EReal (iblk m c 0 t (ix2 r k : S512x1024.Idx)) (m ((c : Thread nD τ).loc main_arg0) (ix2 (tileRow (row_lt t) r) k : S16384x1024.Idx)) := by
    show V m c main_arg0 (((cfg0.win 0).blk t).view.emb (ix2 r k : S512x1024.Idx)) = _
    rw [emb0, V_main_arg0]
  have e1 : @Eq EReal (iblk m c 1 t (ix2 k l : S1024x1024.Idx)) (m ((c : Thread nD τ).loc main_arg1) (ix2 k (col (tileCol t l)) : S1024x8136.Idx)) := by
    show V m c main_v1 (((cfg0.win 1).blk t).view.emb (ix2 k l : S1024x1024.Idx)) = _
    rw [emb1]; exact weights_eq m c _ _
  exact congrArg₂ (fun a b : EReal => a * b) e0 e1

/-- Every index of the result is in some point's block. -/
theorem covered (i : S16384x1024.Idx) : ∃ t : Fin cfg0.N, (cfg0.win 2).flush t = true ∧ i ∈ ((cfg0.win 2).blk t).view.set := by
  have h0 : (i 0).val < 16384 := (i 0).isLt
  have h1 : (i 1).val < 1024 := (i 1).isLt
  let t : Fin cfg0.N := ⟨(i 1).val / 1024 * 32 + (i 0).val / 512, by show _ < 32; omega⟩
  refine ⟨t, flush0_2 t, ?_⟩
  have e := ((cfg0.win 2).blk t).view.emb_mem_set (ix2 ⟨(i 0).val % 512, by omega⟩ ⟨(i 1).val % 1024, by omega⟩ : S512x1024.Idx)
  rw [emb2] at e
  refine (congrArg (· ∈ ((cfg0.win 2).blk t).view.set) ?_).mp e
  funext a; apply Fin.ext
  match a with
  | ⟨0, _⟩ => show ((i 1).val / 1024 * 32 + (i 0).val / 512) % 32 * 512 + (i 0).val % 512 = (i 0).val; omega
  | ⟨1, _⟩ => show ((i 1).val / 1024 * 32 + (i 0).val / 512) / 32 * 1024 + (i 1).val % 1024 = (i 1).val; omega

/-- The result array after the run is the product. -/
theorem final : (dats m 0 c).arrAt 2 cfg0.N = result (m ((c : Thread nD τ).loc main_arg0)) (m ((c : Thread nD τ).loc main_arg1)) :=
  (dats m 0 c).arrAt_eq_of_cover 2 _ (fun t _ => flushed_eq m c t) covered

end Cert.MobaRowsIdeal.Hand

namespace Cert.MobaRowsRefIdeal.Hand

open Cert.MobaRowsRefIdeal Cert.MobaRowsRefIdeal.Gen Idealize.ShloMosaic Idealize.ShloMosaic.TcCoe Cert.Hand

/-- The reference's result is the same array. -/
theorem reference_eq (h : S16384x1024.Idx → EReal) (w : S1024x8136.Idx → EReal) :
    (extractStridedSlice (α := Elt Ideal .f32) S16384x1024 ![0, 512]
        (Host.dotGeneral (F := Ideal) dot_S16384x1024_S1024x8136_S16384x8136_1_0_0_1_n_n none (extf .f32 (show FVec Ideal S16384x1024 .bf16 from h) bitsLt_bf16_f32)
          (show FVec Ideal S1024x8136 .f32 from w)) slices_S16384x8136_S16384x1024_0_512)
      = Cert.MobaRowsIdeal.Hand.result h w := by
  funext j
  obtain ⟨r, l, rfl⟩ := idx2 (a := 16384) (b := 1024) j
  pointwise
  rfl

end Cert.MobaRowsRefIdeal.Hand
-- ==== Proof.Proj.RwkvRows.lean ====
/-
  THE RECURRENCE'S PROJECTION. Every grid point's block of the result holds the stream's rows times the columns of its tile, and the blocks cover
  the result; the reference's slice of the whole product has the same entries.
-/
module

public import proofs.«01_k».proof.Proof.Proj.Product
public import proofs.«01_k».proof.Proof.Gen.RwkvRowsIdeal.Value
public import proofs.«01_k».proof.Proof.Gen.RwkvRowsRefIdeal.Run

@[expose] public section

noncomputable section

namespace Cert.RwkvRowsIdeal.Hand

open Cert.RwkvRowsIdeal Cert.RwkvRowsIdeal.Gen Cert.RwkvRowsIdeal.Value Idealize.ShloMosaic Idealize.ShloMosaic.TcCoe Idealize.SL.Sem Cert.Hand

/-- The column of the projection that is the recurrence's column `l`. -/
def col (l : Fin 2176) : Fin 8136 := ⟨1536 + l.val, by omega⟩

/-- The result array. -/
def result (h : S16384x1024.Idx → EReal) (w : S1024x8136.Idx → EReal) : S16384x2176.Idx → EReal := fun j => entry h w (j 0) (col (j 1))

theorem index0 : ∀ t : Fin cfg0.N, win0_0.index t (0 : Fin 2) = t.val % 32 ∧ win0_0.index t (1 : Fin 2) = 0 :=
  (by decide +kernel : ∀ t : Fin grid0.N, _)

theorem index1 : ∀ t : Fin cfg0.N, win0_1.index t (0 : Fin 2) = 0 ∧ win0_1.index t (1 : Fin 2) = t.val / 32 :=
  (by decide +kernel : ∀ t : Fin grid0.N, _)

theorem index2 : ∀ t : Fin cfg0.N, win0_2.index t (0 : Fin 2) = t.val % 32 ∧ win0_2.index t (1 : Fin 2) = t.val / 32 :=
  (by decide +kernel : ∀ t : Fin grid0.N, _)

section
variable (t : Fin cfg0.N)

theorem lt_N : t.val < 32 := t.isLt

theorem row_lt : t.val % 32 < 32 := by omega

/-- Column `l` of a point's tile. -/
def tileCol (l : Fin 2176) : Fin 2176 := ⟨t.val / 32 * 2176 + l.val, by have := lt_N t; omega⟩

theorem emb0 (r : Fin 512) (k : Fin 1024) : ((cfg0.win 0).blk t).view.emb (ix2 r k : S512x1024.Idx)
    = (ix2 (tileRow (row_lt t) r) k : S16384x1024.Idx) := by
  obtain ⟨e0, e1⟩ := index0 t
  funext a; apply Fin.ext
  match a with
  | ⟨0, _⟩ => show win0_0.index t (0 : Fin 2) * 512 + 1 * r.val = t.val % 32 * 512 + r.val; omega
  | ⟨1, _⟩ => show win0_0.index t (1 : Fin 2) * 1024 + 1 * k.val = k.val; omega

theorem emb1 (k : Fin 1024) (l : Fin 2176) : ((cfg0.win 1).blk t).view.emb (ix2 k l : S1024x2176.Idx)
    = (ix2 k (tileCol t l) : S1024x2176.Idx) := by
  obtain ⟨e0, e1⟩ := index1 t
  funext a; apply Fin.ext
  match a with
  | ⟨0, _⟩ => show win0_1.index t (0 : Fin 2) * 1024 + 1 * k.val = k.val; omega
  | ⟨1, _⟩ => show win0_1.index t (1 : Fin 2) * 2176 + 1 * l.val = t.val / 32 * 2176 + l.val; omega

theorem emb2 (r : Fin 512) (l : Fin 2176) : ((cfg0.win 2).blk t).view.emb (ix2 r l : S512x2176.Idx)
    = (ix2 (tileRow (row_lt t) r) (tileCol t l) : S16384x2176.Idx) := by
  obtain ⟨e0, e1⟩ := index2 t
  funext a; apply Fin.ext
  match a with
  | ⟨0, _⟩ => show win0_2.index t (0 : Fin 2) * 512 + 1 * r.val = t.val % 32 * 512 + r.val; omega
  | ⟨1, _⟩ => show win0_2.index t (1 : Fin 2) * 2176 + 1 * l.val = t.val / 32 * 2176 + l.val; omega

end

/-- What the body stores: the product of its blocks. -/
theorem block_eq (x0 : Vec Ideal S512x1024 .bf16) (x1 : Vec Ideal S1024x2176 .bf16) (r : Fin 512) (l : Fin 2176) :
    (show EReal from out0_2 x0 x1 (ix2 r l : S512x2176.Idx)) = ∑ k : Fin 1024, (show EReal from x0 (ix2 r k)) * (show EReal from x1 (ix2 k l)) := by
  unfold out0_2
  rw [View.canon_unit_zero zero2, View.ld_unit_zero (S := S512x1024) zero2, View.ld_unit_zero (S := S1024x2176) zero2]
  show (show EReal from k0_pay1 x0 x1 (ix2 r l)) = _
  pointwise [k0_pay1]

variable (m : (ℓ : Loc nD τ sig) → Buf (Elt Ideal) ℓ) (c : Dev nD)

/-- The weights that the host cuts out of the projection. -/
theorem weights_eq (k : Fin 1024) (l : Fin 2176) : (show EReal from V m c main_v1 (ix2 k l : S1024x2176.Idx))
    = (show EReal from m ((c : Thread nD τ).loc main_arg1) (ix2 k (col l) : S1024x8136.Idx)) := by
  have e : V m c main_v1 = (truncf (F := Ideal) .bf16
      (extractStridedSlice S1024x2176 ![0, 1536] (show FVec Ideal S1024x8136 .f32 from m ((c : Thread nD τ).loc main_arg1))
        slices_S1024x8136_S1024x2176_0_1536) bitsLt_bf16_f32 : FVec Ideal S1024x2176 .bf16) := by
    show StableHlo.after hostOps0 (fun b => m (c, b)) (Proc.devRef .tc main_v1) = _
    after_results
  rw [e]
  pointwise
  rfl

/-- What a point writes back is its block of the result. -/
theorem flushed_eq (t : Fin cfg0.N) : (dats m 0 c).flushed 2 t
    = ((cfg0.win 2).blk t).view.read (Elt Ideal) (result (m ((c : Thread nD τ).loc main_arg0)) (m ((c : Thread nD τ).loc main_arg1))) := by
  rw [flushed2]
  funext j
  show @Eq EReal (out0_2 (iblk m c 0 t) (iblk m c 1 t) j)
    (result (m ((c : Thread nD τ).loc main_arg0)) (m ((c : Thread nD τ).loc main_arg1)) (((cfg0.win 2).blk t).view.emb j))
  obtain ⟨r, l, rfl⟩ := idx2 (a := 512) (b := 2176) j
  rw [emb2]
  refine (block_eq _ _ r l).trans ?_
  unfold result entry
  refine Finset.sum_congr rfl fun k _ => ?_
  have e0 : @Eq EReal (iblk m c 0 t (ix2 r k : S512x1024.Idx)) (m ((c : Thread nD τ).loc main_arg0) (ix2 (tileRow (row_lt t) r) k : S16384x1024.Idx)) := by
    show V m c main_arg0 (((cfg0.win 0).blk t).view.emb (ix2 r k : S512x1024.Idx)) = _
    rw [emb0, V_main_arg0]
  have e1 : @Eq EReal (iblk m c 1 t (ix2 k l : S1024x2176.Idx)) (m ((c : Thread nD τ).loc main_arg1) (ix2 k (col (tileCol t l)) : S1024x8136.Idx)) := by
    show V m c main_v1 (((cfg0.win 1).blk t).view.emb (ix2 k l : S1024x2176.Idx)) = _
    rw [emb1]; exact weights_eq m c _ _
  exact congrArg₂ (fun a b : EReal => a * b) e0 e1

/-- Every index of the result is in some point's block. -/
theorem covered (i : S16384x2176.Idx) : ∃ t : Fin cfg0.N, (cfg0.win 2).flush t = true ∧ i ∈ ((cfg0.win 2).blk t).view.set := by
  have h0 : (i 0).val < 16384 := (i 0).isLt
  have h1 : (i 1).val < 2176 := (i 1).isLt
  let t : Fin cfg0.N := ⟨(i 1).val / 2176 * 32 + (i 0).val / 512, by show _ < 32; omega⟩
  refine ⟨t, flush0_2 t, ?_⟩
  have e := ((cfg0.win 2).blk t).view.emb_mem_set (ix2 ⟨(i 0).val % 512, by omega⟩ ⟨(i 1).val % 2176, by omega⟩ : S512x2176.Idx)
  rw [emb2] at e
  refine (congrArg (· ∈ ((cfg0.win 2).blk t).view.set) ?_).mp e
  funext a; apply Fin.ext
  match a with
  | ⟨0, _⟩ => show ((i 1).val / 2176 * 32 + (i 0).val / 512) % 32 * 512 + (i 0).val % 512 = (i 0).val; omega
  | ⟨1, _⟩ => show ((i 1).val / 2176 * 32 + (i 0).val / 512) / 32 * 2176 + (i 1).val % 2176 = (i 1).val; omega

/-- The result array after the run is the product. -/
theorem final : (dats m 0 c).arrAt 2 cfg0.N = result (m ((c : Thread nD τ).loc main_arg0)) (m ((c : Thread nD τ).loc main_arg1)) :=
  (dats m 0 c).arrAt_eq_of_cover 2 _ (fun t _ => flushed_eq m c t) covered

end Cert.RwkvRowsIdeal.Hand

namespace Cert.RwkvRowsRefIdeal.Hand

open Cert.RwkvRowsRefIdeal Cert.RwkvRowsRefIdeal.Gen Idealize.ShloMosaic Idealize.ShloMosaic.TcCoe Cert.Hand

/-- The reference's result is the same array. -/
theorem reference_eq (h : S16384x1024.Idx → EReal) (w : S1024x8136.Idx → EReal) :
    (extractStridedSlice (α := Elt Ideal .f32) S16384x2176 ![0, 1536]
        (Host.dotGeneral (F := Ideal) dot_S16384x1024_S1024x8136_S16384x8136_1_0_0_1_n_n none (extf .f32 (show FVec Ideal S16384x1024 .bf16 from h) bitsLt_bf16_f32)
          (show FVec Ideal S1024x8136 .f32 from w)) slices_S16384x8136_S16384x2176_0_1536)
      = Cert.RwkvRowsIdeal.Hand.result h w := by
  funext j
  obtain ⟨r, l, rfl⟩ := idx2 (a := 16384) (b := 2176) j
  pointwise
  rfl

end Cert.RwkvRowsRefIdeal.Hand
-- ==== Proof.Proj.DsaRows.lean ====
/-
  THE LATENT ATTENTION'S PROJECTION. Every grid point's block of the result holds the stream's rows times the columns of its tile, and the blocks cover
  the result; the reference's slice of the whole product has the same entries.
-/
module

public import proofs.«01_k».proof.Proof.Proj.Product
public import proofs.«01_k».proof.Proof.Gen.DsaRowsIdeal.Value
public import proofs.«01_k».proof.Proof.Gen.DsaRowsRefIdeal.Run

@[expose] public section

noncomputable section

namespace Cert.DsaRowsIdeal.Hand

open Cert.DsaRowsIdeal Cert.DsaRowsIdeal.Gen Cert.DsaRowsIdeal.Value Idealize.ShloMosaic Idealize.ShloMosaic.TcCoe Idealize.SL.Sem Cert.Hand

/-- The column of the projection that is column `l` of the rows: 320 of the latent keys and values, then 8 of the index weights. -/
def col (l : Fin 384) (h : l.val < 328) : Fin 8136 := if l.val < 320 then ⟨4744 + l.val, by omega⟩ else ⟨4736 + (l.val - 320), by omega⟩

theorem col_left (l : Fin 384) (h : l.val < 328) (h' : l.val < 320) : col l h = ⟨4744 + l.val, by omega⟩ := if_pos h'
theorem col_right (l : Fin 384) (h : l.val < 328) (h' : ¬l.val < 320) : col l h = ⟨4736 + (l.val - 320), by omega⟩ := if_neg h'

/-- The result array: the 56 last columns are zero. -/
def result (h : S16384x1024.Idx → EReal) (w : S1024x8136.Idx → EReal) : S16384x384.Idx → EReal := fun j =>
  if hl : (j 1).val < 328 then entry h w (j 0) (col (j 1) hl) else 0

theorem index0 : ∀ t : Fin cfg0.N, win0_0.index t (0 : Fin 2) = t.val % 32 ∧ win0_0.index t (1 : Fin 2) = 0 :=
  (by decide +kernel : ∀ t : Fin grid0.N, _)

theorem index1 : ∀ t : Fin cfg0.N, win0_1.index t (0 : Fin 2) = 0 ∧ win0_1.index t (1 : Fin 2) = t.val / 32 :=
  (by decide +kernel : ∀ t : Fin grid0.N, _)

theorem index2 : ∀ t : Fin cfg0.N, win0_2.index t (0 : Fin 2) = t.val % 32 ∧ win0_2.index t (1 : Fin 2) = t.val / 32 :=
  (by decide +kernel : ∀ t : Fin grid0.N, _)

section
variable (t : Fin cfg0.N)

theorem lt_N : t.val < 32 := t.isLt

theorem row_lt : t.val % 32 < 32 := by omega

/-- Column `l` of a point's tile. -/
def tileCol (l : Fin 384) : Fin 384 := ⟨t.val / 32 * 384 + l.val, by have := lt_N t; omega⟩

theorem emb0 (r : Fin 512) (k : Fin 1024) : ((cfg0.win 0).blk t).view.emb (ix2 r k : S512x1024.Idx)
    = (ix2 (tileRow (row_lt t) r) k : S16384x1024.Idx) := by
  obtain ⟨e0, e1⟩ := index0 t
  funext a; apply Fin.ext
  match a with
  | ⟨0, _⟩ => show win0_0.index t (0 : Fin 2) * 512 + 1 * r.val = t.val % 32 * 512 + r.val; omega
  | ⟨1, _⟩ => show win0_0.index t (1 : Fin 2) * 1024 + 1 * k.val = k.val; omega

theorem emb1 (k : Fin 1024) (l : Fin 384) : ((cfg0.win 1).blk t).view.emb (ix2 k l : S1024x384.Idx)
    = (ix2 k (tileCol t l) : S1024x384.Idx) := by
  obtain ⟨e0, e1⟩ := index1 t
  funext a; apply Fin.ext
  match a with
  | ⟨0, _⟩ => show win0_1.index t (0 : Fin 2) * 1024 + 1 * k.val = k.val; omega
  | ⟨1, _⟩ => show win0_1.index t (1 : Fin 2) * 384 + 1 * l.val = t.val / 32 * 384 + l.val; omega

theorem emb2 (r : Fin 512) (l : Fin 384) : ((cfg0.win 2).blk t).view.emb (ix2 r l : S512x384.Idx)
    = (ix2 (tileRow (row_lt t) r) (tileCol t l) : S16384x384.Idx) := by
  obtain ⟨e0, e1⟩ := index2 t
  funext a; apply Fin.ext
  match a with
  | ⟨0, _⟩ => show win0_2.index t (0 : Fin 2) * 512 + 1 * r.val = t.val % 32 * 512 + r.val; omega
  | ⟨1, _⟩ => show win0_2.index t (1 : Fin 2) * 384 + 1 * l.val = t.val / 32 * 384 + l.val; omega

end

/-- What the body stores: the product of its blocks. -/
theorem block_eq (x0 : Vec Ideal S512x1024 .bf16) (x1 : Vec Ideal S1024x384 .bf16) (r : Fin 512) (l : Fin 384) :
    (show EReal from out0_2 x0 x1 (ix2 r l : S512x384.Idx)) = ∑ k : Fin 1024, (show EReal from x0 (ix2 r k)) * (show EReal from x1 (ix2 k l)) := by
  unfold out0_2
  rw [View.canon_unit_zero zero2, View.ld_unit_zero (S := S512x1024) zero2, View.ld_unit_zero (S := S1024x384) zero2]
  show (show EReal from k0_pay1 x0 x1 (ix2 r l)) = _
  pointwise [k0_pay1]

variable (m : (ℓ : Loc nD τ sig) → Buf (Elt Ideal) ℓ) (c : Dev nD)

/-- The padding's word is zero. -/
theorem zero_word : @Eq EReal (FloatOps.sitofp (F := Ideal) FTy.f32 0#32) 0 := by
  show (((0#32 : BitVec 32).toInt : ℝ) : EReal) = 0
  simp

/-- The weights that the host puts together from two parts of the projection and a run of zeros. -/
theorem weights_eq (k : Fin 1024) (l : Fin 384) : (show EReal from V m c main_v4 (ix2 k l : S1024x384.Idx))
    = if hl : l.val < 328 then (show EReal from m ((c : Thread nD τ).loc main_arg1) (ix2 k (col l hl) : S1024x8136.Idx)) else 0 := by
  have e : V m c main_v4 = (truncf (F := Ideal) .bf16 (pad S1024x384 ![0, 0] ![0, 56] ![0, 0] (concatenate S1024x328 1
      [⟨S1024x320, (extractStridedSlice S1024x320 ![0, 4744] (show FVec Ideal S1024x8136 .f32 from m ((c : Thread nD τ).loc main_arg1)) slices_S1024x8136_S1024x320_0_4744)⟩,
       ⟨S1024x8, (extractStridedSlice S1024x8 ![0, 4736] (show FVec Ideal S1024x8136 .f32 from m ((c : Thread nD τ).loc main_arg1)) slices_S1024x8136_S1024x8_0_4736)⟩]
      concatenates_S1024x320_S1024x8_S1024x328_d1) (sitofp (F := Ideal) .f32 (constantI S_ 32 0#32)) pads_S1024x328_S1024x384_000_0560 h_S_) bitsLt_bf16_f32
      : FVec Ideal S1024x384 .bf16) := by
    show StableHlo.after (List.flatten [hostOps0, hostOps0_1, hostOps0_2]) (fun b => m (c, b)) (Proc.devRef .tc main_v4) = _
    simp only [List.flatten_cons, List.flatten_nil, List.append_nil, List.cons_append, List.nil_append]
    after_results
    rfl
  rw [e]
  pointwise
  by_cases hl : l.val < 328
  · rw [dif_pos hl, dif_pos hl]
    split
    · exact congrArg (fun j => m ((c : Thread nD τ).loc main_arg1) (ix2 k j : S1024x8136.Idx)) (col_left l hl (by assumption)).symm
    · exact congrArg (fun j => m ((c : Thread nD τ).loc main_arg1) (ix2 k j : S1024x8136.Idx)) (col_right l hl (by assumption)).symm
  · rw [dif_neg hl, dif_neg hl]
    exact zero_word

/-- What a point writes back is its block of the result. -/
theorem flushed_eq (t : Fin cfg0.N) : (dats m 0 c).flushed 2 t
    = ((cfg0.win 2).blk t).view.read (Elt Ideal) (result (m ((c : Thread nD τ).loc main_arg0)) (m ((c : Thread nD τ).loc main_arg1))) := by
  rw [flushed2]
  funext j
  show @Eq EReal (out0_2 (iblk m c 0 t) (iblk m c 1 t) j)
    (result (m ((c : Thread nD τ).loc main_arg0)) (m ((c : Thread nD τ).loc main_arg1)) (((cfg0.win 2).blk t).view.emb j))
  obtain ⟨r, l, rfl⟩ := idx2 (a := 512) (b := 384) j
  rw [emb2]
  refine (block_eq _ _ r l).trans ?_
  have e0 : ∀ k, @Eq EReal (iblk m c 0 t (ix2 r k : S512x1024.Idx)) (m ((c : Thread nD τ).loc main_arg0) (ix2 (tileRow (row_lt t) r) k : S16384x1024.Idx)) := by
    intro k
    show V m c main_arg0 (((cfg0.win 0).blk t).view.emb (ix2 r k : S512x1024.Idx)) = _
    rw [emb0, V_main_arg0]
  have e1 : ∀ k, @Eq EReal (iblk m c 1 t (ix2 k l : S1024x384.Idx)) (if hl : (tileCol t l).val < 328 then
      (show EReal from m ((c : Thread nD τ).loc main_arg1) (ix2 k (col (tileCol t l) hl) : S1024x8136.Idx)) else 0) := by
    intro k
    show V m c main_v4 (((cfg0.win 1).blk t).view.emb (ix2 k l : S1024x384.Idx)) = _
    rw [emb1]; exact weights_eq m c _ _
  show _ = if hl : (tileCol t l).val < 328 then entry (m ((c : Thread nD τ).loc main_arg0)) (m ((c : Thread nD τ).loc main_arg1))
    (tileRow (row_lt t) r) (col (tileCol t l) hl) else 0
  by_cases hl : (tileCol t l).val < 328
  · rw [dif_pos hl]
    unfold entry
    exact Finset.sum_congr rfl fun k _ => congrArg₂ (fun a b : EReal => a * b) (e0 k) ((e1 k).trans (dif_pos hl))
  · rw [dif_neg hl]
    exact Finset.sum_eq_zero fun k _ => (congrArg₂ (fun a b : EReal => a * b) (e0 k) ((e1 k).trans (dif_neg hl))).trans (mul_zero _)

/-- Every index of the result is in some point's block. -/
theorem covered (i : S16384x384.Idx) : ∃ t : Fin cfg0.N, (cfg0.win 2).flush t = true ∧ i ∈ ((cfg0.win 2).blk t).view.set := by
  have h0 : (i 0).val < 16384 := (i 0).isLt
  have h1 : (i 1).val < 384 := (i 1).isLt
  let t : Fin cfg0.N := ⟨(i 1).val / 384 * 32 + (i 0).val / 512, by show _ < 32; omega⟩
  refine ⟨t, flush0_2 t, ?_⟩
  have e := ((cfg0.win 2).blk t).view.emb_mem_set (ix2 ⟨(i 0).val % 512, by omega⟩ ⟨(i 1).val % 384, by omega⟩ : S512x384.Idx)
  rw [emb2] at e
  refine (congrArg (· ∈ ((cfg0.win 2).blk t).view.set) ?_).mp e
  funext a; apply Fin.ext
  match a with
  | ⟨0, _⟩ => show ((i 1).val / 384 * 32 + (i 0).val / 512) % 32 * 512 + (i 0).val % 512 = (i 0).val; omega
  | ⟨1, _⟩ => show ((i 1).val / 384 * 32 + (i 0).val / 512) / 32 * 384 + (i 1).val % 384 = (i 1).val; omega

/-- The result array after the run is the product. -/
theorem final : (dats m 0 c).arrAt 2 cfg0.N = result (m ((c : Thread nD τ).loc main_arg0)) (m ((c : Thread nD τ).loc main_arg1)) :=
  (dats m 0 c).arrAt_eq_of_cover 2 _ (fun t _ => flushed_eq m c t) covered

end Cert.DsaRowsIdeal.Hand

namespace Cert.DsaRowsRefIdeal.Hand

open Cert.DsaRowsRefIdeal Cert.DsaRowsRefIdeal.Gen Idealize.ShloMosaic Idealize.ShloMosaic.TcCoe Cert.Hand

/-- The whole product. -/
def whole (h : S16384x1024.Idx → EReal) (w : S1024x8136.Idx → EReal) : FVec Ideal S16384x8136 .f32 :=
  Host.dotGeneral (F := Ideal) dot_S16384x1024_S1024x8136_S16384x8136_1_0_0_1_n_n none (extf .f32 (show FVec Ideal S16384x1024 .bf16 from h) bitsLt_bf16_f32)
    (show FVec Ideal S1024x8136 .f32 from w)

/-- An entry of the whole product. -/
theorem whole_apply (h : S16384x1024.Idx → EReal) (w : S1024x8136.Idx → EReal) (r : Fin 16384) (j : Fin 8136) :
    (show EReal from whole h w (ix2 r j : S16384x8136.Idx)) = entry h w r j := by
  unfold whole
  pointwise
  rfl

/-- The reference's result is the same array. -/
theorem reference_eq (h : S16384x1024.Idx → EReal) (w : S1024x8136.Idx → EReal) :
    concatenate S16384x384 1
      [⟨S16384x320, (extractStridedSlice S16384x320 ![0, 4744] (whole h w) slices_S16384x8136_S16384x320_0_4744)⟩,
       ⟨S16384x8, (extractStridedSlice S16384x8 ![0, 4736] (whole h w) slices_S16384x8136_S16384x8_0_4736)⟩,
       ⟨S16384x56, (broadcastInDim S16384x56 ![] bcast_S_S16384x56 (constant (F := Ideal) S_ .f32 0x00000000#32))⟩]
      concatenates_S16384x320_S16384x8_S16384x56_S16384x384_d1
      = Cert.DsaRowsIdeal.Hand.result h w := by
  funext j
  obtain ⟨r, l, rfl⟩ := idx2 (a := 16384) (b := 384) j
  show _ = if hl : l.val < 328 then entry h w r (Cert.DsaRowsIdeal.Hand.col l hl) else 0
  pointwise
  by_cases hl : l.val < 328
  · rw [dif_pos hl]
    split
    · exact (whole_apply h w r _).trans (congrArg (entry h w r) (Cert.DsaRowsIdeal.Hand.col_left l hl (by assumption)).symm)
    · rw [dif_pos (by omega)]
      exact (whole_apply h w r _).trans (congrArg (entry h w r) (Cert.DsaRowsIdeal.Hand.col_right l hl (by assumption)).symm)
  · rw [dif_neg hl, dif_neg (by omega), dif_neg (by omega)]

end Cert.DsaRowsRefIdeal.Hand
-- ==== Proof.Proj.Gates.lean ====
/-
  THE GATES' PROJECTION. Every grid point's block of the result holds the stream's rows times the columns of its tile, and the blocks cover
  the result; the reference's slice of the whole product has the same entries.
-/
module

public import proofs.«01_k».proof.Proof.Proj.Product
public import proofs.«01_k».proof.Proof.Gen.GatesIdeal.Value
public import proofs.«01_k».proof.Proof.Gen.GatesRefIdeal.Run

@[expose] public section

noncomputable section

namespace Cert.GatesIdeal.Hand

open Cert.GatesIdeal Cert.GatesIdeal.Gen Cert.GatesIdeal.Value Idealize.ShloMosaic Idealize.ShloMosaic.TcCoe Idealize.SL.Sem Cert.Hand

/-- The column of the projection that is the gates' column `l`. -/
def col (l : Fin 3072) : Fin 8136 := ⟨5064 + l.val, by omega⟩

/-- The result array. -/
def result (h : S16384x1024.Idx → EReal) (w : S1024x8136.Idx → EReal) : S16384x3072.Idx → EReal := fun j => entry h w (j 0) (col (j 1))

theorem index0 : ∀ t : Fin cfg0.N, win0_0.index t (0 : Fin 2) = t.val % 32 ∧ win0_0.index t (1 : Fin 2) = 0 :=
  (by decide +kernel : ∀ t : Fin grid0.N, _)

theorem index1 : ∀ t : Fin cfg0.N, win0_1.index t (0 : Fin 2) = 0 ∧ win0_1.index t (1 : Fin 2) = t.val / 32 :=
  (by decide +kernel : ∀ t : Fin grid0.N, _)

theorem index2 : ∀ t : Fin cfg0.N, win0_2.index t (0 : Fin 2) = t.val % 32 ∧ win0_2.index t (1 : Fin 2) = t.val / 32 :=
  (by decide +kernel : ∀ t : Fin grid0.N, _)

section
variable (t : Fin cfg0.N)

theorem lt_N : t.val < 96 := t.isLt

theorem row_lt : t.val % 32 < 32 := by omega

/-- Column `l` of a point's tile. -/
def tileCol (l : Fin 1024) : Fin 3072 := ⟨t.val / 32 * 1024 + l.val, by have := lt_N t; omega⟩

theorem emb0 (r : Fin 512) (k : Fin 1024) : ((cfg0.win 0).blk t).view.emb (ix2 r k : S512x1024.Idx)
    = (ix2 (tileRow (row_lt t) r) k : S16384x1024.Idx) := by
  obtain ⟨e0, e1⟩ := index0 t
  funext a; apply Fin.ext
  match a with
  | ⟨0, _⟩ => show win0_0.index t (0 : Fin 2) * 512 + 1 * r.val = t.val % 32 * 512 + r.val; omega
  | ⟨1, _⟩ => show win0_0.index t (1 : Fin 2) * 1024 + 1 * k.val = k.val; omega

theorem emb1 (k l : Fin 1024) : ((cfg0.win 1).blk t).view.emb (ix2 k l : S1024x1024.Idx)
    = (ix2 k (tileCol t l) : S1024x3072.Idx) := by
  obtain ⟨e0, e1⟩ := index1 t
  funext a; apply Fin.ext
  match a with
  | ⟨0, _⟩ => show win0_1.index t (0 : Fin 2) * 1024 + 1 * k.val = k.val; omega
  | ⟨1, _⟩ => show win0_1.index t (1 : Fin 2) * 1024 + 1 * l.val = t.val / 32 * 1024 + l.val; omega

theorem emb2 (r : Fin 512) (l : Fin 1024) : ((cfg0.win 2).blk t).view.emb (ix2 r l : S512x1024.Idx)
    = (ix2 (tileRow (row_lt t) r) (tileCol t l) : S16384x3072.Idx) := by
  obtain ⟨e0, e1⟩ := index2 t
  funext a; apply Fin.ext
  match a with
  | ⟨0, _⟩ => show win0_2.index t (0 : Fin 2) * 512 + 1 * r.val = t.val % 32 * 512 + r.val; omega
  | ⟨1, _⟩ => show win0_2.index t (1 : Fin 2) * 1024 + 1 * l.val = t.val / 32 * 1024 + l.val; omega

end

/-- What the body stores: the product of its blocks. -/
theorem block_eq (x0 : Vec Ideal S512x1024 .bf16) (x1 : Vec Ideal S1024x1024 .bf16) (r : Fin 512) (l : Fin 1024) :
    (show EReal from out0_2 x0 x1 (ix2 r l : S512x1024.Idx)) = ∑ k : Fin 1024, (show EReal from x0 (ix2 r k)) * (show EReal from x1 (ix2 k l)) := by
  unfold out0_2
  rw [View.canon_unit_zero zero2, View.ld_unit_zero (S := S512x1024) zero2, View.ld_unit_zero (S := S1024x1024) zero2]
  show (show EReal from k0_pay1 x0 x1 (ix2 r l)) = _
  pointwise [k0_pay1]

variable (m : (ℓ : Loc nD τ sig) → Buf (Elt Ideal) ℓ) (c : Dev nD)

/-- The weights that the host cuts out of the projection. -/
theorem weights_eq (k : Fin 1024) (l : Fin 3072) : (show EReal from V m c main_v1 (ix2 k l : S1024x3072.Idx))
    = (show EReal from m ((c : Thread nD τ).loc main_arg1) (ix2 k (col l) : S1024x8136.Idx)) := by
  have e : V m c main_v1 = (truncf (F := Ideal) .bf16
      (extractStridedSlice S1024x3072 ![0, 5064] (show FVec Ideal S1024x8136 .f32 from m ((c : Thread nD τ).loc main_arg1))
        slices_S1024x8136_S1024x3072_0_5064) bitsLt_bf16_f32 : FVec Ideal S1024x3072 .bf16) := by
    show StableHlo.after hostOps0 (fun b => m (c, b)) (Proc.devRef .tc main_v1) = _
    after_results
  rw [e]
  pointwise
  rfl

/-- What a point writes back is its block of the result. -/
theorem flushed_eq (t : Fin cfg0.N) : (dats m 0 c).flushed 2 t
    = ((cfg0.win 2).blk t).view.read (Elt Ideal) (result (m ((c : Thread nD τ).loc main_arg0)) (m ((c : Thread nD τ).loc main_arg1))) := by
  rw [flushed2]
  funext j
  show @Eq EReal (out0_2 (iblk m c 0 t) (iblk m c 1 t) j)
    (result (m ((c : Thread nD τ).loc main_arg0)) (m ((c : Thread nD τ).loc main_arg1)) (((cfg0.win 2).blk t).view.emb j))
  obtain ⟨r, l, rfl⟩ := idx2 (a := 512) (b := 1024) j
  rw [emb2]
  refine (block_eq _ _ r l).trans ?_
  unfold result entry
  refine Finset.sum_congr rfl fun k _ => ?_
  have e0 : @Eq EReal (iblk m c 0 t (ix2 r k : S512x1024.Idx)) (m ((c : Thread nD τ).loc main_arg0) (ix2 (tileRow (row_lt t) r) k : S16384x1024.Idx)) := by
    show V m c main_arg0 (((cfg0.win 0).blk t).view.emb (ix2 r k : S512x1024.Idx)) = _
    rw [emb0, V_main_arg0]
  have e1 : @Eq EReal (iblk m c 1 t (ix2 k l : S1024x1024.Idx)) (m ((c : Thread nD τ).loc main_arg1) (ix2 k (col (tileCol t l)) : S1024x8136.Idx)) := by
    show V m c main_v1 (((cfg0.win 1).blk t).view.emb (ix2 k l : S1024x1024.Idx)) = _
    rw [emb1]; exact weights_eq m c _ _
  exact congrArg₂ (fun a b : EReal => a * b) e0 e1

/-- Every index of the result is in some point's block. -/
theorem covered (i : S16384x3072.Idx) : ∃ t : Fin cfg0.N, (cfg0.win 2).flush t = true ∧ i ∈ ((cfg0.win 2).blk t).view.set := by
  have h0 : (i 0).val < 16384 := (i 0).isLt
  have h1 : (i 1).val < 3072 := (i 1).isLt
  let t : Fin cfg0.N := ⟨(i 1).val / 1024 * 32 + (i 0).val / 512, by show _ < 96; omega⟩
  refine ⟨t, flush0_2 t, ?_⟩
  have e := ((cfg0.win 2).blk t).view.emb_mem_set (ix2 ⟨(i 0).val % 512, by omega⟩ ⟨(i 1).val % 1024, by omega⟩ : S512x1024.Idx)
  rw [emb2] at e
  refine (congrArg (· ∈ ((cfg0.win 2).blk t).view.set) ?_).mp e
  funext a; apply Fin.ext
  match a with
  | ⟨0, _⟩ => show ((i 1).val / 1024 * 32 + (i 0).val / 512) % 32 * 512 + (i 0).val % 512 = (i 0).val; omega
  | ⟨1, _⟩ => show ((i 1).val / 1024 * 32 + (i 0).val / 512) / 32 * 1024 + (i 1).val % 1024 = (i 1).val; omega

/-- The result array after the run is the product. -/
theorem final : (dats m 0 c).arrAt 2 cfg0.N = result (m ((c : Thread nD τ).loc main_arg0)) (m ((c : Thread nD τ).loc main_arg1)) :=
  (dats m 0 c).arrAt_eq_of_cover 2 _ (fun t _ => flushed_eq m c t) covered

end Cert.GatesIdeal.Hand

namespace Cert.GatesRefIdeal.Hand

open Cert.GatesRefIdeal Cert.GatesRefIdeal.Gen Idealize.ShloMosaic Idealize.ShloMosaic.TcCoe Cert.Hand

/-- The reference's result is the same array. -/
theorem reference_eq (h : S16384x1024.Idx → EReal) (w : S1024x8136.Idx → EReal) :
    truncf (F := Ideal) .bf16 (extractStridedSlice S16384x3072 ![0, 5064]
        (Host.dotGeneral dot_S16384x1024_S1024x8136_S16384x8136_1_0_0_1_n_n none (extf .f32 (show FVec Ideal S16384x1024 .bf16 from h) bitsLt_bf16_f32)
          (show FVec Ideal S1024x8136 .f32 from w)) slices_S16384x8136_S16384x3072_0_5064) bitsLt_bf16_f32
      = Cert.GatesIdeal.Hand.result h w := by
  funext j
  obtain ⟨r, l, rfl⟩ := idx2 (a := 16384) (b := 3072) j
  pointwise
  rfl

end Cert.GatesRefIdeal.Hand
-- ==== Proof.Merge.Spec.lean ====
/-
  THE MERGED BRANCHES. One entry of the result: the stream plus the gate times the mixed branches' product with the output's weights.
-/
module

public import Idealize.ShloMosaic.Lib.Pointwise
public import Idealize.ShloMosaic.Lib.Pipeline.Value

@[expose] public section

noncomputable section

namespace Cert.Hand

open Idealize.ShloMosaic

/-- Arrays of two and three axes. -/
abbrev Arr2 (a b : ℕ) : Type := (⟨2, ![a, b]⟩ : Shape).Idx → EReal
abbrev Arr3 (a b c : ℕ) : Type := (⟨3, ![a, b, c]⟩ : Shape).Idx → EReal

/-- The lane of the gates that branch `n` reads at lane `d`. -/
def gateLane (n : Fin 3) (d : Fin 1024) : Fin 3072 := ⟨n.val * 1024 + d.val, by omega⟩

/-- One branch at batch `b`, position `s` and lane `d`: its product with its weights, gated. -/
def branch (y : Arr3 4 4096 512) (gl : Arr3 4 4096 3072) (wb : Arr3 3 512 1024) (n : Fin 3) (b : Fin 4) (s : Fin 4096) (d : Fin 1024) : EReal :=
  Ideal.logistic (gl (ix3 b s (gateLane n d))) * ∑ k : Fin 512, y (ix3 b s k) * wb (ix3 n k d)

/-- The three branches' sum. -/
def mixed (ya yb yc : Arr3 4 4096 512) (gl : Arr3 4 4096 3072) (wb : Arr3 3 512 1024) (b : Fin 4) (s : Fin 4096) (d : Fin 1024) : EReal :=
  branch ya gl wb 0 b s d + branch yb gl wb 1 b s d + branch yc gl wb 2 b s d

/-- The result's entry. -/
def merged (ya yb yc : Arr3 4 4096 512) (gl : Arr3 4 4096 3072) (x : Arr3 4 4096 1024) (gt : Arr3 4 1 1024) (wb : Arr3 3 512 1024)
    (wo : Arr2 1024 1024) (b : Fin 4) (s : Fin 4096) (j : Fin 1024) : EReal :=
  x (ix3 b s j) + gt (ix3 b 0 j) * ∑ d : Fin 1024, mixed ya yb yc gl wb b s d * wo (ix2 d j)

end Cert.Hand
-- ==== Proof.Merge.Body.lean ====
/-
  ONE TILE OF THE MERGE. What the kernel's body stores for a tile of 256 positions, read at an index.
-/
module

public import proofs.«01_k».proof.Proof.Merge.Spec
public import proofs.«01_k».proof.Proof.Gen.MergeIdeal.Value

@[expose] public section

noncomputable section

namespace Cert.MergeIdeal.Hand

open Cert.MergeIdeal Cert.MergeIdeal.Gen Cert.MergeIdeal.Value Idealize.ShloMosaic Idealize.ShloMosaic.TcCoe Cert.Hand

/-- The zero offset of two and of three axes. -/
theorem hz2 : (![0, 0] : Fin 2 → Nat) = fun _ => 0 := funext fun a => by fin_cases a <;> rfl
theorem hz3 : (![0, 0, 0] : Fin 3 → Nat) = fun _ => 0 := funext fun a => by fin_cases a <;> rfl

variable (x0 x1 x2 : Vec Ideal S1x256x512 .f32) (x3 : Vec Ideal S1x256x3072 .bf16) (x4 : Vec Ideal S1x256x1024 .f32) (x5 : Vec Ideal S1x1x1024 .f32)
  (x6 : Vec Ideal S3x512x1024 .bf16) (x7 : Vec Ideal S1024x1024 .bf16)

/-- The two parts of the tile's mix that the body holds before the last branch. -/
def two : FVec Ideal S256x1024 .f32 := k0_pay2 x0 (View.ld x6 r0_1) (View.ld x3 r0_2) x1 (View.ld x6 r0_3) (View.ld x3 r0_4)
def third : FVec Ideal S256x1024 .f32 := k0_pay3 x2 (View.ld x6 r0_5)

/-- One branch of the tile. -/
def tileBranch (y : Vec Ideal S1x256x512 .f32) (n : Fin 3) (r : Fin 256) (d : Fin 1024) : EReal :=
  Ideal.logistic (show EReal from x3 (ix3 0 r (gateLane n d))) * ∑ k : Fin 512, (show EReal from y (ix3 0 r k)) * (show EReal from x6 (ix3 n k d))

theorem two_apply (r : Fin 256) (d : Fin 1024) :
    (show EReal from two x0 x1 x3 x6 (ix2 r d)) = tileBranch x3 x6 x0 0 r d + tileBranch x3 x6 x1 1 r d := by
  unfold two
  pointwise [k0_pay2]
  have e0 : gateLane 0 d = ⟨d.val, by omega⟩ := Fin.ext (by show 0 * 1024 + d.val = d.val; omega)
  have e1 : gateLane 1 d = ⟨1024 + d.val, by omega⟩ := Fin.ext (by show 1 * 1024 + d.val = 1024 + d.val; omega)
  unfold tileBranch
  rw [e0, e1]

theorem third_apply (r : Fin 256) (d : Fin 1024) :
    (show EReal from third x2 x6 (ix2 r d)) = ∑ k : Fin 512, (show EReal from x2 (ix3 0 r k)) * (show EReal from x6 (ix3 2 k d)) := by
  unfold third
  pointwise [k0_pay3]

theorem last_apply (u v : FVec Ideal S256x1024 .f32) (g : Vec Ideal S1x256x1024 .bf16) (r : Fin 256) (j : Fin 1024) :
    (show EReal from k0_pay1 u v g x4 x5 x7 (ix3 0 r j)) = (show EReal from x4 (ix3 0 r j)) + (show EReal from x5 (ix3 0 0 j))
      * ∑ d : Fin 1024, ((show EReal from u (ix2 r d)) + Ideal.logistic (show EReal from g (ix3 0 r d)) * (show EReal from v (ix2 r d))) * (show EReal from x7 (ix2 d j)) := by
  pointwise [k0_pay1]

/-- The last branch's gates. -/
theorem ld_last (r : Fin 256) (d : Fin 1024) : (show EReal from View.ld x3 r0_6 (ix3 0 r d)) = (show EReal from x3 (ix3 0 r (gateLane 2 d))) := by
  have e2 : gateLane 2 d = ⟨2048 + d.val, by omega⟩ := Fin.ext (by show 2 * 1024 + d.val = 2048 + d.val; omega)
  rw [e2]
  pointwise

theorem out_tile : out0_8 x0 x1 x2 x3 x4 x5 x6 x7 = k0_pay1 (two x0 x1 x3 x6) (third x2 x6) (View.ld x3 r0_6) x4 x5 x7 := by
  unfold out0_8 two third
  rw [View.canon_unit_zero hz3, View.ld_unit_zero (S := S1x256x512) hz3, View.ld_unit_zero (S := S1x256x512) hz3, View.ld_unit_zero (S := S1x256x512) hz3,
    View.ld_unit_zero (S := S1x256x1024) hz3, View.ld_unit_zero (S := S1x1x1024) hz3, View.ld_unit_zero (S := S1024x1024) hz2]

/-- The stored tile, read at a position and a lane. -/
theorem out_apply (r : Fin 256) (j : Fin 1024) :
    (show EReal from out0_8 x0 x1 x2 x3 x4 x5 x6 x7 (ix3 0 r j)) = (show EReal from x4 (ix3 0 r j)) + (show EReal from x5 (ix3 0 0 j))
      * ∑ d : Fin 1024, (tileBranch x3 x6 x0 0 r d + tileBranch x3 x6 x1 1 r d + tileBranch x3 x6 x2 2 r d) * (show EReal from x7 (ix2 d j)) := by
  rw [out_tile]
  refine (last_apply x4 x5 x7 _ _ _ r j).trans (congrArg (fun z : EReal => (show EReal from x4 (ix3 0 r j)) + (show EReal from x5 (ix3 0 0 j)) * z)
    (Finset.sum_congr rfl fun d _ => congrArg (fun z : EReal => z * (show EReal from x7 (ix2 d j))) ?_))
  exact congrArg₂ (fun u v : EReal => u + v) (two_apply x0 x1 x3 x6 r d)
    (congrArg₂ (fun u v : EReal => u * v) (congrArg Ideal.logistic (ld_last x3 r d)) (third_apply x2 x6 r d))

end Cert.MergeIdeal.Hand
-- ==== Proof.Merge.Final.lean ====
/-
  THE MERGE'S RESULT. Every grid point's block of the result holds the merged branches of its positions, and the blocks cover the array.
-/
module

public import proofs.«01_k».proof.Proof.Merge.Body

@[expose] public section

noncomputable section

namespace Cert.MergeIdeal.Hand

open Cert.MergeIdeal Cert.MergeIdeal.Gen Cert.MergeIdeal.Value Idealize.ShloMosaic Idealize.ShloMosaic.TcCoe Idealize.SL.Sem Cert.Hand

/-- The windows that follow the batch and the tile. -/
theorem index_tile : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = t.val % 16 ∧ win0_1.index t (2 : Fin 3) = 0)
    ∧ (win0_2.index t (0 : Fin 3) = t.val / 16 ∧ win0_2.index t (1 : Fin 3) = t.val % 16 ∧ win0_2.index t (2 : Fin 3) = 0)
    ∧ (win0_3.index t (0 : Fin 3) = t.val / 16 ∧ win0_3.index t (1 : Fin 3) = t.val % 16 ∧ win0_3.index t (2 : Fin 3) = 0)
    ∧ (win0_4.index t (0 : Fin 3) = t.val / 16 ∧ win0_4.index t (1 : Fin 3) = t.val % 16 ∧ win0_4.index t (2 : Fin 3) = 0)
    ∧ (win0_8.index t (0 : Fin 3) = t.val / 16 ∧ win0_8.index t (1 : Fin 3) = t.val % 16 ∧ win0_8.index t (2 : Fin 3) = 0) :=
  (by decide +kernel : ∀ t : Fin grid0.N, _)

/-- The windows that do not follow the tile. -/
theorem index_rest : ∀ t : Fin cfg0.N,
    (win0_5.index t (0 : Fin 3) = t.val / 16 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0) :=
  (by decide +kernel : ∀ t : Fin grid0.N, _)

section
variable (t : Fin cfg0.N)

theorem lt_N : t.val < 64 := t.isLt

/-- A point's batch, and the position of row `r` of its tile. -/
def bOf : Fin 4 := ⟨t.val / 16, by have := lt_N t; omega⟩
def posOf (r : Fin 256) : Fin 4096 := ⟨t.val % 16 * 256 + r.val, by omega⟩

/-- An index of a tile, whatever its lanes. -/
theorem tile_at {w : ℕ} (f : Fin 3 → ℕ) (h : f 0 = t.val / 16 ∧ f 1 = t.val % 16 ∧ f 2 = 0) (r : Fin 256) (k : Fin w) :
    f 0 * 1 + 1 * 0 = (bOf t).val ∧ f 1 * 256 + 1 * r.val = (posOf t r).val ∧ f 2 * w + 1 * k.val = k.val := by
  obtain ⟨h0, h1, h2⟩ := h
  rw [h0, h1, h2]
  exact ⟨by show t.val / 16 * 1 + 1 * 0 = t.val / 16; omega, by show t.val % 16 * 256 + 1 * r.val = t.val % 16 * 256 + r.val; omega, by omega⟩

theorem emb0 (r : Fin 256) (k : Fin 512) : ((cfg0.win 0).blk t).view.emb (ix3 0 r k : S1x256x512.Idx) = (ix3 (bOf t) (posOf t r) k : S4x4096x512.Idx) := by
  obtain ⟨e0, e1, e2⟩ := tile_at t (win0_0.index t) (index_tile t).1 r k
  funext a; apply Fin.ext
  match a with
  | ⟨0, _⟩ => exact e0
  | ⟨1, _⟩ => exact e1
  | ⟨2, _⟩ => exact e2

theorem emb1 (r : Fin 256) (k : Fin 512) : ((cfg0.win 1).blk t).view.emb (ix3 0 r k : S1x256x512.Idx) = (ix3 (bOf t) (posOf t r) k : S4x4096x512.Idx) := by
  obtain ⟨e0, e1, e2⟩ := tile_at t (win0_1.index t) (index_tile t).2.1 r k
  funext a; apply Fin.ext
  match a with
  | ⟨0, _⟩ => exact e0
  | ⟨1, _⟩ => exact e1
  | ⟨2, _⟩ => exact e2

theorem emb2 (r : Fin 256) (k : Fin 512) : ((cfg0.win 2).blk t).view.emb (ix3 0 r k : S1x256x512.Idx) = (ix3 (bOf t) (posOf t r) k : S4x4096x512.Idx) := by
  obtain ⟨e0, e1, e2⟩ := tile_at t (win0_2.index t) (index_tile t).2.2.1 r k
  funext a; apply Fin.ext
  match a with
  | ⟨0, _⟩ => exact e0
  | ⟨1, _⟩ => exact e1
  | ⟨2, _⟩ => exact e2

theorem emb3 (r : Fin 256) (k : Fin 3072) : ((cfg0.win 3).blk t).view.emb (ix3 0 r k : S1x256x3072.Idx) = (ix3 (bOf t) (posOf t r) k : S4x4096x3072.Idx) := by
  obtain ⟨e0, e1, e2⟩ := tile_at t (win0_3.index t) (index_tile t).2.2.2.1 r k
  funext a; apply Fin.ext
  match a with
  | ⟨0, _⟩ => exact e0
  | ⟨1, _⟩ => exact e1
  | ⟨2, _⟩ => exact e2

theorem emb4 (r : Fin 256) (k : Fin 1024) : ((cfg0.win 4).blk t).view.emb (ix3 0 r k : S1x256x1024.Idx) = (ix3 (bOf t) (posOf t r) k : S4x4096x1024.Idx) := by
  obtain ⟨e0, e1, e2⟩ := tile_at t (win0_4.index t) (index_tile t).2.2.2.2.1 r k
  funext a; apply Fin.ext
  match a with
  | ⟨0, _⟩ => exact e0
  | ⟨1, _⟩ => exact e1
  | ⟨2, _⟩ => exact e2

theorem emb8 (r : Fin 256) (k : Fin 1024) : ((cfg0.win 8).blk t).view.emb (ix3 0 r k : S1x256x1024.Idx) = (ix3 (bOf t) (posOf t r) k : S4x4096x1024.Idx) := by
  obtain ⟨e0, e1, e2⟩ := tile_at t (win0_8.index t) (index_tile t).2.2.2.2.2 r k
  funext a; apply Fin.ext
  match a with
  | ⟨0, _⟩ => exact e0
  | ⟨1, _⟩ => exact e1
  | ⟨2, _⟩ => exact e2

theorem emb5 (k : Fin 1024) : ((cfg0.win 5).blk t).view.emb (ix3 0 0 k : S1x1x1024.Idx) = (ix3 (bOf t) 0 k : S4x1x1024.Idx) := by
  obtain ⟨e0, e1, e2⟩ := (index_rest t).1
  funext a; apply Fin.ext
  match a with
  | ⟨0, _⟩ => show win0_5.index t (0 : Fin 3) * 1 + 1 * 0 = t.val / 16; omega
  | ⟨1, _⟩ => show win0_5.index t (1 : Fin 3) * 1 + 1 * 0 = 0; omega
  | ⟨2, _⟩ => show win0_5.index t (2 : Fin 3) * 1024 + 1 * k.val = k.val; omega

theorem emb6 (n : Fin 3) (k : Fin 512) (d : Fin 1024) : ((cfg0.win 6).blk t).view.emb (ix3 n k d : S3x512x1024.Idx) = (ix3 n k d : S3x512x1024.Idx) := by
  obtain ⟨e0, e1, e2⟩ := (index_rest t).2.1
  funext a; apply Fin.ext
  match a with
  | ⟨0, _⟩ => show win0_6.index t (0 : Fin 3) * 3 + 1 * n.val = n.val; omega
  | ⟨1, _⟩ => show win0_6.index t (1 : Fin 3) * 512 + 1 * k.val = k.val; omega
  | ⟨2, _⟩ => show win0_6.index t (2 : Fin 3) * 1024 + 1 * d.val = d.val; omega

theorem emb7 (d j : Fin 1024) : ((cfg0.win 7).blk t).view.emb (ix2 d j : S1024x1024.Idx) = (ix2 d j : S1024x1024.Idx) := by
  obtain ⟨e0, e1⟩ := (index_rest t).2.2
  funext a; apply Fin.ext
  match a with
  | ⟨0, _⟩ => show win0_7.index t (0 : Fin 2) * 1024 + 1 * d.val = d.val; omega
  | ⟨1, _⟩ => show win0_7.index t (1 : Fin 2) * 1024 + 1 * j.val = j.val; omega

end

variable (m : (ℓ : Loc nD τ sig) → Buf (Elt Ideal) ℓ) (c : Dev nD)

/-- The merged branches of the launched arguments. -/
def result : S4x4096x1024.Idx → EReal := fun i =>
  merged (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (i 0) (i 1) (i 2)

/-- The host rounds the two weights: the same reals. -/
theorem weights0 : V m c main_v0 = (truncf (F := Ideal) .bf16 (show FVec Ideal S3x512x1024 .f32 from m ((c : Thread nD τ).loc main_arg6)) bitsLt_bf16_f32 : FVec Ideal S3x512x1024 .bf16) := by
  show StableHlo.after hostOps0 (fun b => m (c, b)) (Proc.devRef .tc main_v0) = _
  after_results

theorem weights1 : V m c main_v1 = (truncf (F := Ideal) .bf16 (show FVec Ideal S1024x1024 .f32 from m ((c : Thread nD τ).loc main_arg7)) bitsLt_bf16_f32 : FVec Ideal S1024x1024 .bf16) := by
  show StableHlo.after hostOps0 (fun b => m (c, b)) (Proc.devRef .tc main_v1) = _
  after_results

section
variable (t : Fin cfg0.N)

theorem read0 (r : Fin 256) (k : Fin 512) : @Eq EReal (iblk m c 0 t (ix3 0 r k : S1x256x512.Idx)) (m ((c : Thread nD τ).loc main_arg0) (ix3 (bOf t) (posOf t r) k : S4x4096x512.Idx)) := by
  show V m c main_arg0 (((cfg0.win 0).blk t).view.emb (ix3 0 r k : S1x256x512.Idx)) = _
  rw [emb0, V_main_arg0]
theorem read1 (r : Fin 256) (k : Fin 512) : @Eq EReal (iblk m c 1 t (ix3 0 r k : S1x256x512.Idx)) (m ((c : Thread nD τ).loc main_arg1) (ix3 (bOf t) (posOf t r) k : S4x4096x512.Idx)) := by
  show V m c main_arg1 (((cfg0.win 1).blk t).view.emb (ix3 0 r k : S1x256x512.Idx)) = _
  rw [emb1, V_main_arg1]
theorem read2 (r : Fin 256) (k : Fin 512) : @Eq EReal (iblk m c 2 t (ix3 0 r k : S1x256x512.Idx)) (m ((c : Thread nD τ).loc main_arg2) (ix3 (bOf t) (posOf t r) k : S4x4096x512.Idx)) := by
  show V m c main_arg2 (((cfg0.win 2).blk t).view.emb (ix3 0 r k : S1x256x512.Idx)) = _
  rw [emb2, V_main_arg2]
theorem read3 (r : Fin 256) (k : Fin 3072) : @Eq EReal (iblk m c 3 t (ix3 0 r k : S1x256x3072.Idx)) (m ((c : Thread nD τ).loc main_arg3) (ix3 (bOf t) (posOf t r) k : S4x4096x3072.Idx)) := by
  show V m c main_arg3 (((cfg0.win 3).blk t).view.emb (ix3 0 r k : S1x256x3072.Idx)) = _
  rw [emb3, V_main_arg3]
theorem read4 (r : Fin 256) (k : Fin 1024) : @Eq EReal (iblk m c 4 t (ix3 0 r k : S1x256x1024.Idx)) (m ((c : Thread nD τ).loc main_arg4) (ix3 (bOf t) (posOf t r) k : S4x4096x1024.Idx)) := by
  show V m c main_arg4 (((cfg0.win 4).blk t).view.emb (ix3 0 r k : S1x256x1024.Idx)) = _
  rw [emb4, V_main_arg4]
theorem read5 (k : Fin 1024) : @Eq EReal (iblk m c 5 t (ix3 0 0 k : S1x1x1024.Idx)) (m ((c : Thread nD τ).loc main_arg5) (ix3 (bOf t) 0 k : S4x1x1024.Idx)) := by
  show V m c main_arg5 (((cfg0.win 5).blk t).view.emb (ix3 0 0 k : S1x1x1024.Idx)) = _
  rw [emb5, V_main_arg5]
theorem read6 (n : Fin 3) (k : Fin 512) (d : Fin 1024) : @Eq EReal (iblk m c 6 t (ix3 n k d : S3x512x1024.Idx)) (m ((c : Thread nD τ).loc main_arg6) (ix3 n k d : S3x512x1024.Idx)) := by
  show V m c main_v0 (((cfg0.win 6).blk t).view.emb (ix3 n k d : S3x512x1024.Idx)) = _
  rw [emb6, weights0]; rfl
theorem read7 (d j : Fin 1024) : @Eq EReal (iblk m c 7 t (ix2 d j : S1024x1024.Idx)) (m ((c : Thread nD τ).loc main_arg7) (ix2 d j : S1024x1024.Idx)) := by
  show V m c main_v1 (((cfg0.win 7).blk t).view.emb (ix2 d j : S1024x1024.Idx)) = _
  rw [emb7, weights1]; rfl

/-- A branch of the tile is the branch at its positions. -/
theorem branch_eq (y : Vec Ideal S1x256x512 .f32) (Y : Arr3 4 4096 512) (n : Fin 3) (r : Fin 256) (d : Fin 1024)
    (hy : ∀ k, @Eq EReal (y (ix3 0 r k)) (Y (ix3 (bOf t) (posOf t r) k))) :
    tileBranch (iblk m c 3 t) (iblk m c 6 t) y n r d
      = branch Y (m ((c : Thread nD τ).loc main_arg3)) (m ((c : Thread nD τ).loc main_arg6)) n (bOf t) (posOf t r) d := by
  unfold tileBranch branch
  exact congrArg₂ (fun u v : EReal => u * v) (congrArg Ideal.logistic (read3 m c t r (gateLane n d)))
    (Finset.sum_congr rfl fun k _ => congrArg₂ (fun u v : EReal => u * v) (hy k) (read6 m c t n k d))

/-- What a point writes back is its block of the result. -/
theorem flushed_eq : (dats m 0 c).flushed 8 t = ((cfg0.win 8).blk t).view.read (Elt Ideal) (result m c) := by
  rw [flushed8]
  funext i
  show @Eq EReal (out0_8 (iblk m c 0 t) (iblk m c 1 t) (iblk m c 2 t) (iblk m c 3 t) (iblk m c 4 t) (iblk m c 5 t) (iblk m c 6 t) (iblk m c 7 t) i)
    (result m c (((cfg0.win 8).blk t).view.emb i))
  have hi0 : (i 0).val < 1 := (i 0).isLt
  obtain ⟨r, j, rfl⟩ : ∃ (r : Fin 256) (j : Fin 1024), i = (ix3 0 r j : S1x256x1024.Idx) := ⟨i 1, i 2, funext fun a => by
    match a with
    | ⟨0, _⟩ => exact Fin.ext (by show (i 0).val = 0; omega)
    | ⟨1, _⟩ => rfl
    | ⟨2, _⟩ => rfl⟩
  rw [emb8]
  refine (out_apply _ _ _ _ _ _ _ _ r j).trans ?_
  unfold result merged mixed
  exact congrArg₂ (fun u v : EReal => u + v) (read4 m c t r j) (congrArg₂ (fun u v : EReal => u * v) (read5 m c t j)
    (Finset.sum_congr rfl fun d _ => congrArg₂ (fun u v : EReal => u * v)
      (congrArg₂ (fun u v : EReal => u + v) (congrArg₂ (fun u v : EReal => u + v)
        (branch_eq m c t _ _ 0 r d fun k => read0 m c t r k) (branch_eq m c t _ _ 1 r d fun k => read1 m c t r k))
        (branch_eq m c t _ _ 2 r d fun k => read2 m c t r k))
      (read7 m c t d j)))

end

/-- Every index of the result is in some point's block. -/
theorem covered (i : S4x4096x1024.Idx) : ∃ t : Fin cfg0.N, (cfg0.win 8).flush t = true ∧ i ∈ ((cfg0.win 8).blk t).view.set := by
  have h0 : (i 0).val < 4 := (i 0).isLt
  have h1 : (i 1).val < 4096 := (i 1).isLt
  have h2 : (i 2).val < 1024 := (i 2).isLt
  let t : Fin cfg0.N := ⟨(i 0).val * 16 + (i 1).val / 256, by show _ < 64; omega⟩
  refine ⟨t, flush0_8 t, ?_⟩
  have e := ((cfg0.win 8).blk t).view.emb_mem_set (ix3 0 ⟨(i 1).val % 256, by omega⟩ ⟨(i 2).val, h2⟩ : S1x256x1024.Idx)
  rw [emb8] at e
  refine (congrArg (· ∈ ((cfg0.win 8).blk t).view.set) ?_).mp e
  funext a; apply Fin.ext
  match a with
  | ⟨0, _⟩ => show ((i 0).val * 16 + (i 1).val / 256) / 16 = (i 0).val; omega
  | ⟨1, _⟩ => show ((i 0).val * 16 + (i 1).val / 256) % 16 * 256 + (i 1).val % 256 = (i 1).val; omega
  | ⟨2, _⟩ => rfl

/-- The result array after the run. -/
theorem final : (dats m 0 c).arrAt 8 cfg0.N = result m c :=
  (dats m 0 c).arrAt_eq_of_cover 8 (result m c) (fun t _ => flushed_eq m c t) covered

end Cert.MergeIdeal.Hand
-- ==== Proof.Norm.Spec.lean ====
/-
  THE ROOT-MEAN-SQUARE NORM. One entry of a normalized row of 1024 lanes.
-/
module

public import proofs.«01_k».proof.Proof.Proj.Product

@[expose] public section

noncomputable section

namespace Cert.Hand

open Idealize.ShloMosaic

/-- Lane `l` of a row, over the root of the row's mean square (and 1e-6), times the gain. -/
def normed (row : Fin 1024 → EReal) (gain : EReal) (l : Fin 1024) : EReal :=
  row l * Ideal.rsqrt (Ideal.div (∑ k : Fin 1024, row k * row k) (Ideal.ofBits .f32 0x44800000#32) + Ideal.ofBits .f32 0x358637BD#32) * gain

/-- Rows that agree have the same norm. -/
theorem normed_congr {row row' : Fin 1024 → EReal} {gain gain' : EReal} (h : ∀ k, row k = row' k) (hg : gain = gain') (l : Fin 1024) :
    normed row gain l = normed row' gain' l := by
  rw [funext h, hg]

end Cert.Hand
-- ==== Proof.Norm.Final.lean ====
/-
  THE FINAL NORM. Every grid point's block holds the normalized rows of its tile, and the blocks cover the result; the reference normalizes
  the same rows.
-/
module

public import proofs.«01_k».proof.Proof.Norm.Spec
public import proofs.«01_k».proof.Proof.Gen.FinalNormIdeal.Value
public import proofs.«01_k».proof.Proof.Gen.FinalNormRefIdeal.Run

@[expose] public section

noncomputable section

namespace Cert.FinalNormIdeal.Hand

open Cert.FinalNormIdeal Cert.FinalNormIdeal.Gen Cert.FinalNormIdeal.Value Idealize.ShloMosaic Idealize.ShloMosaic.TcCoe Idealize.SL.Sem Cert.Hand

/-- The result array. -/
def result (x : S16384x1024.Idx → EReal) (g : S1024.Idx → EReal) : S16384x1024.Idx → EReal :=
  fun j => normed (fun k => x (ix2 (j 0) k)) (g (ix1 (j 1))) (j 1)

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

theorem index2 : ∀ t : Fin cfg0.N, win0_2.index t (0 : Fin 2) = t.val ∧ win0_2.index t (1 : Fin 2) = 0 :=
  (by decide +kernel : ∀ t : Fin grid0.N, _)

section
variable (t : Fin cfg0.N)

theorem lt_N : t.val < 32 := t.isLt

theorem emb0 (r : Fin 512) (k : Fin 1024) : ((cfg0.win 0).blk t).view.emb (ix2 r k : S512x1024.Idx)
    = (ix2 (tileRow (lt_N t) r) k : S16384x1024.Idx) := by
  obtain ⟨e0, e1⟩ := index0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (k : Fin 1024) : ((cfg0.win 1).blk t).view.emb (ix2 0 k : S1x1024.Idx) = (ix2 0 k : S1x1024.Idx) := by
  obtain ⟨e0, e1⟩ := index1 t
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem emb2 (r : Fin 512) (k : Fin 1024) : ((cfg0.win 2).blk t).view.emb (ix2 r k : S512x1024.Idx)
    = (ix2 (tileRow (lt_N t) r) k : S16384x1024.Idx) := by
  obtain ⟨e0, e1⟩ := index2 t
  funext a; apply Fin.ext
  match a with
  | ⟨0, _⟩ => show win0_2.index t (0 : Fin 2) * 512 + 1 * r.val = t.val * 512 + r.val; omega
  | ⟨1, _⟩ => show win0_2.index t (1 : Fin 2) * 1024 + 1 * k.val = k.val; omega

end

/-- What the body stores: the normalized rows of its block. -/
theorem block_eq (x0 : Vec Ideal S512x1024 .f32) (x1 : Vec Ideal S1x1024 .f32) (r : Fin 512) (l : Fin 1024) :
    (show EReal from out0_2 x0 x1 (ix2 r l : S512x1024.Idx))
      = normed (fun k => (show EReal from x0 (ix2 r k))) (show EReal from x1 (ix2 0 l)) l := by
  unfold out0_2 normed
  rw [View.canon_unit_zero zero2, View.ld_unit_zero (S := S512x1024) zero2, View.ld_unit_zero (S := S1x1024) zero2]
  show (show EReal from k0_pay1 x0 x1 (ix2 r l)) = _
  pointwise [k0_pay1]

variable (m : (ℓ : Loc nD τ sig) → Buf (Elt Ideal) ℓ) (c : Dev nD)

/-- The gain that the host reshapes. -/
theorem gain_eq (l : Fin 1024) : (show EReal from V m c main_v0 (ix2 0 l : S1x1024.Idx)) = (show EReal from m ((c : Thread nD τ).loc main_arg1) (ix1 l : S1024.Idx)) := by
  have e : V m c main_v0 = (shapeCast S1x1024 (show FVec Ideal S1024 .f32 from m ((c : Thread nD τ).loc main_arg1)) shapeCasts_S1024_S1x1024 : FVec Ideal S1x1024 .f32) := by
    show StableHlo.after hostOps0 (fun b => m (c, b)) (Proc.devRef .tc main_v0) = _
    after_results
    rfl
  rw [e]
  pointwise

/-- What a point writes back is its block of the result. -/
theorem flushed_eq (t : Fin cfg0.N) : (dats m 0 c).flushed 2 t
    = ((cfg0.win 2).blk t).view.read (Elt Ideal) (result (m ((c : Thread nD τ).loc main_arg0)) (m ((c : Thread nD τ).loc main_arg1))) := by
  rw [flushed2]
  funext j
  show @Eq EReal (out0_2 (iblk m c 0 t) (iblk m c 1 t) j)
    (result (m ((c : Thread nD τ).loc main_arg0)) (m ((c : Thread nD τ).loc main_arg1)) (((cfg0.win 2).blk t).view.emb j))
  obtain ⟨r, l, rfl⟩ := idx2 (a := 512) (b := 1024) j
  rw [emb2]
  have e0 (k : Fin 1024) : @Eq EReal (iblk m c 0 t (ix2 r k : S512x1024.Idx)) (m ((c : Thread nD τ).loc main_arg0) (ix2 (tileRow (lt_N t) r) k : S16384x1024.Idx)) := by
    show V m c main_arg0 (((cfg0.win 0).blk t).view.emb (ix2 r k : S512x1024.Idx)) = _
    rw [emb0, V_main_arg0]
  have e1 : @Eq EReal (iblk m c 1 t (ix2 0 l : S1x1024.Idx)) (m ((c : Thread nD τ).loc main_arg1) (ix1 l : S1024.Idx)) := by
    show V m c main_v0 (((cfg0.win 1).blk t).view.emb (ix2 0 l : S1x1024.Idx)) = _
    rw [emb1]; exact gain_eq m c l
  exact (block_eq _ _ r l).trans (normed_congr e0 e1 l)

/-- Every index of the result is in some point's block. -/
theorem covered (i : S16384x1024.Idx) : ∃ t : Fin cfg0.N, (cfg0.win 2).flush t = true ∧ i ∈ ((cfg0.win 2).blk t).view.set := by
  have h0 : (i 0).val < 16384 := (i 0).isLt
  have h1 : (i 1).val < 1024 := (i 1).isLt
  let t : Fin cfg0.N := ⟨(i 0).val / 512, by show _ < 32; omega⟩
  refine ⟨t, flush0_2 t, ?_⟩
  have e := ((cfg0.win 2).blk t).view.emb_mem_set (ix2 ⟨(i 0).val % 512, by omega⟩ ⟨(i 1).val, h1⟩ : S512x1024.Idx)
  rw [emb2] at e
  refine (congrArg (· ∈ ((cfg0.win 2).blk t).view.set) ?_).mp e
  funext a; apply Fin.ext
  match a with
  | ⟨0, _⟩ => show (i 0).val / 512 * 512 + (i 0).val % 512 = (i 0).val; omega
  | ⟨1, _⟩ => rfl

/-- The result array after the run holds the normalized rows. -/
theorem final : (dats m 0 c).arrAt 2 cfg0.N = result (m ((c : Thread nD τ).loc main_arg0)) (m ((c : Thread nD τ).loc main_arg1)) :=
  (dats m 0 c).arrAt_eq_of_cover 2 _ (fun t _ => flushed_eq m c t) covered

end Cert.FinalNormIdeal.Hand

namespace Cert.FinalNormRefIdeal.Hand

open Cert.FinalNormRefIdeal Cert.FinalNormRefIdeal.Gen Idealize.ShloMosaic Idealize.ShloMosaic.TcCoe Cert.Hand

/-- The reference's result is the same array. -/
theorem reference_eq (x : FVec Ideal S16384x1024 .f32) (g : FVec Ideal S1024 .f32) :
    mulf (mulf x (broadcastInDim S16384x1024 ![0, 1] bcast_S16384x1_S16384x1024_0_1
        (Host.rsqrt (addf (Host.divf (broadcastInDim S16384x1 ![0] bcast_S16384_S16384x1_0
            (Host.reduceAdd (mulf x x) (constant S_ .f32 0x00000000#32) reducesTo_S16384x1024_S16384_d1 h_S_))
          (broadcastInDim S16384x1 ![] bcast_S_S16384x1 (constant S_ .f32 0x44800000#32)))
          (broadcastInDim S16384x1 ![] bcast_S_S16384x1 (constant S_ .f32 0x358637BD#32))))))
      (broadcastInDim S16384x1024 ![0, 1] bcast_S1x1024_S16384x1024_0_1 (broadcastInDim S1x1024 ![1] bcast_S1024_S1x1024_1 g))
      = Cert.FinalNormIdeal.Hand.result x g := by
  funext j
  obtain ⟨r, l, rfl⟩ := idx2 (a := 16384) (b := 1024) j
  pointwise
  rfl

end Cert.FinalNormRefIdeal.Hand
-- ==== Proof.Norm.Modulate.lean ====
/-
  THE MODULATED STREAM. Every grid point's block holds the normalized, scaled and shifted rows of its tile, and the blocks cover the result;
  the reference modulates the same rows.
-/
module

public import proofs.«01_k».proof.Proof.Norm.Spec
public import proofs.«01_k».proof.Proof.Gen.ModulateIdeal.Value
public import proofs.«01_k».proof.Proof.Gen.ModulateRefIdeal.Run

@[expose] public section

noncomputable section

namespace Cert.ModulateIdeal.Hand

open Cert.ModulateIdeal Cert.ModulateIdeal.Gen Cert.ModulateIdeal.Value Idealize.ShloMosaic Idealize.ShloMosaic.TcCoe Idealize.SL.Sem Cert.Hand

/-- The result array: the norm, times one plus the scale, plus the shift. -/
def result (x : S4x4096x1024.Idx → EReal) (sc sh : S4x1x1024.Idx → EReal) (g : S1024.Idx → EReal) : S4x4096x1024.Idx → EReal :=
  fun j => normed (fun k => x (ix3 (j 0) (j 1) k)) (g (ix1 (j 2))) (j 2) * (1 + sc (ix3 (j 0) 0 (j 2))) + sh (ix3 (j 0) 0 (j 2))

/-- The zero offset of three axes. -/
theorem zero3 : (![0, 0, 0] : Fin 3 → Nat) = fun _ => 0 := funext fun a => by fin_cases a <;> rfl

/-- An index of three axes is the triple of its coordinates. -/
theorem idx3 {a b c : ℕ} (j : (⟨3, ![a, b, c]⟩ : Shape).Idx) :
    ∃ (p : Fin a) (r : Fin b) (l : Fin c), j = (ix3 p r l : (⟨3, ![a, b, c]⟩ : Shape).Idx) :=
  ⟨j 0, j 1, j 2, funext fun i => by
    match i with
    | ⟨0, _⟩ => rfl
    | ⟨1, _⟩ => rfl
    | ⟨2, _⟩ => rfl⟩

theorem index0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)

theorem index1 : ∀ t : Fin cfg0.N, win0_1.index t (0 : Fin 3) = t.val / 8 ∧ win0_1.index t (1 : Fin 3) = 0 ∧ win0_1.index t (2 : Fin 3) = 0 :=
  (by decide +kernel : ∀ t : Fin grid0.N, _)

theorem index2 : ∀ t : Fin cfg0.N, win0_2.index t (0 : Fin 3) = t.val / 8 ∧ win0_2.index t (1 : Fin 3) = 0 ∧ win0_2.index t (2 : Fin 3) = 0 :=
  (by decide +kernel : ∀ t : Fin grid0.N, _)

theorem index3 : ∀ t : Fin cfg0.N, win0_3.index t (0 : Fin 2) = 0 ∧ win0_3.index t (1 : Fin 2) = 0 :=
  (by decide +kernel : ∀ t : Fin grid0.N, _)

theorem index4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)

section
variable (t : Fin cfg0.N)

theorem lt_N : t.val < 32 := t.isLt

/-- A point's sequence, and the position of row `r` of its tile. -/
def seqOf : Fin 4 := ⟨t.val / 8, by have := lt_N t; omega⟩
def posOf (r : Fin 512) : Fin 4096 := ⟨t.val % 8 * 512 + r.val, by omega⟩

theorem emb0 (r : Fin 512) (k : Fin 1024) : ((cfg0.win 0).blk t).view.emb (ix3 0 r k : S1x512x1024.Idx)
    = (ix3 (seqOf t) (posOf t r) k : S4x4096x1024.Idx) := by
  obtain ⟨e0, e1, e2⟩ := index0 t
  funext a; apply Fin.ext
  match a with
  | ⟨0, _⟩ => show win0_0.index t (0 : Fin 3) * 1 + 1 * 0 = t.val / 8; omega
  | ⟨1, _⟩ => show win0_0.index t (1 : Fin 3) * 512 + 1 * r.val = t.val % 8 * 512 + r.val; omega
  | ⟨2, _⟩ => show win0_0.index t (2 : Fin 3) * 1024 + 1 * k.val = k.val; omega

theorem emb1 (k : Fin 1024) : ((cfg0.win 1).blk t).view.emb (ix3 0 0 k : S1x1x1024.Idx) = (ix3 (seqOf t) 0 k : S4x1x1024.Idx) := by
  obtain ⟨e0, e1, e2⟩ := index1 t
  funext a; apply Fin.ext
  match a with
  | ⟨0, _⟩ => show win0_1.index t (0 : Fin 3) * 1 + 1 * 0 = t.val / 8; omega
  | ⟨1, _⟩ => show win0_1.index t (1 : Fin 3) * 1 + 1 * 0 = 0; omega
  | ⟨2, _⟩ => show win0_1.index t (2 : Fin 3) * 1024 + 1 * k.val = k.val; omega

theorem emb2 (k : Fin 1024) : ((cfg0.win 2).blk t).view.emb (ix3 0 0 k : S1x1x1024.Idx) = (ix3 (seqOf t) 0 k : S4x1x1024.Idx) := by
  obtain ⟨e0, e1, e2⟩ := index2 t
  funext a; apply Fin.ext
  match a with
  | ⟨0, _⟩ => show win0_2.index t (0 : Fin 3) * 1 + 1 * 0 = t.val / 8; omega
  | ⟨1, _⟩ => show win0_2.index t (1 : Fin 3) * 1 + 1 * 0 = 0; omega
  | ⟨2, _⟩ => show win0_2.index t (2 : Fin 3) * 1024 + 1 * k.val = k.val; omega

theorem emb3 (k : Fin 1024) : ((cfg0.win 3).blk t).view.emb (ix2 0 k : S1x1024.Idx) = (ix2 0 k : S1x1024.Idx) := by
  obtain ⟨e0, e1⟩ := index3 t
  funext a; apply Fin.ext
  match a with
  | ⟨0, _⟩ => show win0_3.index t (0 : Fin 2) * 1 + 1 * 0 = 0; omega
  | ⟨1, _⟩ => show win0_3.index t (1 : Fin 2) * 1024 + 1 * k.val = k.val; omega

theorem emb4 (r : Fin 512) (k : Fin 1024) : ((cfg0.win 4).blk t).view.emb (ix3 0 r k : S1x512x1024.Idx)
    = (ix3 (seqOf t) (posOf t r) k : S4x4096x1024.Idx) := by
  obtain ⟨e0, e1, e2⟩ := index4 t
  funext a; apply Fin.ext
  match a with
  | ⟨0, _⟩ => show win0_4.index t (0 : Fin 3) * 1 + 1 * 0 = t.val / 8; omega
  | ⟨1, _⟩ => show win0_4.index t (1 : Fin 3) * 512 + 1 * r.val = t.val % 8 * 512 + r.val; omega
  | ⟨2, _⟩ => show win0_4.index t (2 : Fin 3) * 1024 + 1 * k.val = k.val; omega

end

/-- What the body stores: the modulated rows of its block. -/
theorem block_eq (x0 : Vec Ideal S1x512x1024 .f32) (x1 x2 : Vec Ideal S1x1x1024 .f32) (x3 : Vec Ideal S1x1024 .f32) (r : Fin 512) (l : Fin 1024) :
    (show EReal from out0_4 x0 x1 x2 x3 (ix3 0 r l : S1x512x1024.Idx))
      = normed (fun k => (show EReal from x0 (ix3 0 r k))) (show EReal from x3 (ix2 0 l)) l * (1 + (show EReal from x1 (ix3 0 0 l)))
        + (show EReal from x2 (ix3 0 0 l)) := by
  unfold out0_4 normed
  rw [View.canon_unit_zero zero3, View.ld_unit_zero (S := S1x512x1024) zero3, View.ld_unit_zero (S := S1x1024) zero2,
    View.ld_unit_zero (S := S1x1x1024) zero3, View.ld_unit_zero (S := S1x1x1024) zero3]
  show (show EReal from k0_pay1 x0 x3 x1 x2 (ix3 0 r l)) = _
  pointwise [k0_pay1]

variable (m : (ℓ : Loc nD τ sig) → Buf (Elt Ideal) ℓ) (c : Dev nD)

/-- The gain that the host reshapes. -/
theorem gain_eq (l : Fin 1024) : (show EReal from V m c main_v0 (ix2 0 l : S1x1024.Idx)) = (show EReal from m ((c : Thread nD τ).loc main_arg3) (ix1 l : S1024.Idx)) := by
  have e : V m c main_v0 = (shapeCast S1x1024 (show FVec Ideal S1024 .f32 from m ((c : Thread nD τ).loc main_arg3)) shapeCasts_S1024_S1x1024 : FVec Ideal S1x1024 .f32) := by
    show StableHlo.after hostOps0 (fun b => m (c, b)) (Proc.devRef .tc main_v0) = _
    after_results
    rfl
  rw [e]
  pointwise

/-- The result of the launched arguments. -/
def whole : S4x4096x1024.Idx → EReal :=
  result (m ((c : Thread nD τ).loc main_arg0)) (m ((c : Thread nD τ).loc main_arg1)) (m ((c : Thread nD τ).loc main_arg2)) (m ((c : Thread nD τ).loc main_arg3))

/-- What a point writes back is its block of the result. -/
theorem flushed_eq (t : Fin cfg0.N) : (dats m 0 c).flushed 4 t = ((cfg0.win 4).blk t).view.read (Elt Ideal) (whole m c) := by
  rw [flushed4]
  funext j
  show @Eq EReal (out0_4 (iblk m c 0 t) (iblk m c 1 t) (iblk m c 2 t) (iblk m c 3 t) j) (whole m c (((cfg0.win 4).blk t).view.emb j))
  obtain ⟨p, r, l, rfl⟩ := idx3 (a := 1) (b := 512) (c := 1024) j
  obtain rfl : p = 0 := Subsingleton.elim _ _
  rw [emb4]
  have e0 (k : Fin 1024) : @Eq EReal (iblk m c 0 t (ix3 0 r k : S1x512x1024.Idx)) (m ((c : Thread nD τ).loc main_arg0) (ix3 (seqOf t) (posOf t r) k : S4x4096x1024.Idx)) := by
    show V m c main_arg0 (((cfg0.win 0).blk t).view.emb (ix3 0 r k : S1x512x1024.Idx)) = _
    rw [emb0, V_main_arg0]
  have e1 : @Eq EReal (iblk m c 1 t (ix3 0 0 l : S1x1x1024.Idx)) (m ((c : Thread nD τ).loc main_arg1) (ix3 (seqOf t) 0 l : S4x1x1024.Idx)) := by
    show V m c main_arg1 (((cfg0.win 1).blk t).view.emb (ix3 0 0 l : S1x1x1024.Idx)) = _
    rw [emb1, V_main_arg1]
  have e2 : @Eq EReal (iblk m c 2 t (ix3 0 0 l : S1x1x1024.Idx)) (m ((c : Thread nD τ).loc main_arg2) (ix3 (seqOf t) 0 l : S4x1x1024.Idx)) := by
    show V m c main_arg2 (((cfg0.win 2).blk t).view.emb (ix3 0 0 l : S1x1x1024.Idx)) = _
    rw [emb2, V_main_arg2]
  have e3 : @Eq EReal (iblk m c 3 t (ix2 0 l : S1x1024.Idx)) (m ((c : Thread nD τ).loc main_arg3) (ix1 l : S1024.Idx)) := by
    show V m c main_v0 (((cfg0.win 3).blk t).view.emb (ix2 0 l : S1x1024.Idx)) = _
    rw [emb3]; exact gain_eq m c l
  exact (block_eq _ _ _ _ r l).trans (congrArg₂ (fun u v : EReal => u + v)
    (congrArg₂ (fun u v : EReal => u * v) (normed_congr e0 e3 l) (congrArg (fun u : EReal => 1 + u) e1)) e2)

/-- Every index of the result is in some point's block. -/
theorem covered (i : S4x4096x1024.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 1024 := (i 2).isLt
  let t : Fin cfg0.N := ⟨(i 0).val * 8 + (i 1).val / 512, by show _ < 32; omega⟩
  refine ⟨t, flush0_4 t, ?_⟩
  have e := ((cfg0.win 4).blk t).view.emb_mem_set (ix3 0 ⟨(i 1).val % 512, by omega⟩ ⟨(i 2).val, h2⟩ : S1x512x1024.Idx)
  rw [emb4] at e
  refine (congrArg (· ∈ ((cfg0.win 4).blk t).view.set) ?_).mp e
  funext a; apply Fin.ext
  match a with
  | ⟨0, _⟩ => show ((i 0).val * 8 + (i 1).val / 512) / 8 = (i 0).val; omega
  | ⟨1, _⟩ => show ((i 0).val * 8 + (i 1).val / 512) % 8 * 512 + (i 1).val % 512 = (i 1).val; omega
  | ⟨2, _⟩ => rfl

/-- The result array after the run is the modulated stream. -/
theorem final : (dats m 0 c).arrAt 4 cfg0.N = whole m c :=
  (dats m 0 c).arrAt_eq_of_cover 4 _ (fun t _ => flushed_eq m c t) covered

end Cert.ModulateIdeal.Hand

namespace Cert.ModulateRefIdeal.Hand

open Cert.ModulateRefIdeal Cert.ModulateRefIdeal.Gen Idealize.ShloMosaic Idealize.ShloMosaic.TcCoe Cert.Hand

/-- The reference's result is the same array. -/
theorem reference_eq (x : FVec Ideal S4x4096x1024 .f32) (sc sh : FVec Ideal S4x1x1024 .f32) (g : FVec Ideal S1024 .f32) :
    truncf .bf16 (addf (mulf (mulf (mulf x (broadcastInDim S4x4096x1024 ![0, 1, 2] bcast_S4x4096x1_S4x4096x1024_0_1_2
        (Host.rsqrt (addf (Host.divf (broadcastInDim S4x4096x1 ![0, 1] bcast_S4x4096_S4x4096x1_0_1
            (Host.reduceAdd (mulf x x) (constant S_ .f32 0x00000000#32) reducesTo_S4x4096x1024_S4x4096_d2 h_S_))
          (broadcastInDim S4x4096x1 ![] bcast_S_S4x4096x1 (constant S_ .f32 0x44800000#32)))
          (broadcastInDim S4x4096x1 ![] bcast_S_S4x4096x1 (constant S_ .f32 0x358637BD#32))))))
        (broadcastInDim S4x4096x1024 ![0, 1, 2] bcast_S1x1x1024_S4x4096x1024_0_1_2 (broadcastInDim S1x1x1024 ![2] bcast_S1024_S1x1x1024_2 g)))
        (broadcastInDim S4x4096x1024 ![0, 1, 2] bcast_S4x1x1024_S4x4096x1024_0_1_2
          (addf (broadcastInDim S4x1x1024 ![] bcast_S_S4x1x1024 (constant S_ .f32 0x3F800000#32)) sc)))
        (broadcastInDim S4x4096x1024 ![0, 1, 2] bcast_S4x1x1024_S4x4096x1024_0_1_2 sh)) bitsLt_bf16_f32
      = Cert.ModulateIdeal.Hand.result x sc sh g := by
  funext j
  obtain ⟨p, r, l, rfl⟩ := Cert.ModulateIdeal.Hand.idx3 (a := 4) (b := 4096) (c := 1024) j
  pointwise
  rfl

end Cert.ModulateRefIdeal.Hand
-- ==== Proof.Merge.Reference.lean ====
/-
  THE REFERENCE OF THE MERGE. Its composed operations, read at an index, are the merged branches.
-/
module

public import proofs.«01_k».proof.Proof.Merge.Spec
public import proofs.«01_k».proof.Proof.Gen.MergeRefIdeal.Run

@[expose] public section

noncomputable section

namespace Cert.MergeRefIdeal.Hand

open Cert.MergeRefIdeal Cert.MergeRefIdeal.Gen Idealize.ShloMosaic Idealize.ShloMosaic.TcCoe Cert.Hand

variable (ya yb yc : FVec Ideal S4x4096x512 .f32) (gl : FVec Ideal S4x4096x3072 .bf16) (x : FVec Ideal S4x4096x1024 .f32) (gt : FVec Ideal S4x1x1024 .f32)
  (wb : FVec Ideal S3x512x1024 .f32) (wo : FVec Ideal S1024x1024 .f32)

/-- The gates, one array per branch. -/
def gates : FVec Ideal S3x4x4096x1024 .f32 :=
  transpose S3x4x4096x1024 [2, 0, 1, 3] (Host.divf (broadcastInDim S4x4096x3x1024 ![] bcast_S_S4x4096x3x1024 (constant S_ .f32 0x3F800000#32))
    (addf (broadcastInDim S4x4096x3x1024 ![] bcast_S_S4x4096x3x1024 (constant S_ .f32 0x3F800000#32))
      (Host.exp (Host.negf (shapeCast _ (extf .f32 gl bitsLt_bf16_f32) shapeCasts_S4x4096x3072_S4x4096x3x1024)))))
    transposes_S4x4096x3x1024_S3x4x4096x1024_2_0_1_3

/-- The branches, stacked. -/
def stacked : FVec Ideal S3x4x4096x512 .f32 :=
  concatenate S3x4x4096x512 0 [⟨S1x4x4096x512, broadcastInDim S1x4x4096x512 ![1, 2, 3] bcast_S4x4096x512_S1x4x4096x512_1_2_3 ya⟩,
    ⟨S1x4x4096x512, broadcastInDim S1x4x4096x512 ![1, 2, 3] bcast_S4x4096x512_S1x4x4096x512_1_2_3 yb⟩,
    ⟨S1x4x4096x512, broadcastInDim S1x4x4096x512 ![1, 2, 3] bcast_S4x4096x512_S1x4x4096x512_1_2_3 yc⟩]
    concatenates_S1x4x4096x512_S1x4x4096x512_S1x4x4096x512_S3x4x4096x512_d0

/-- The branches' products with their weights. -/
def products : FVec Ideal S3x4x4096x1024 .f32 :=
  Host.dotGeneral dot_S3x4x4096x512_S3x512x1024_S3x4x4096x1024_3_1_12_2_0_0 none (stacked ya yb yc) wb

/-- Their gated sum. -/
def mix : FVec Ideal S4x4096x1024 .f32 :=
  Host.reduceAdd (mulf (gates gl) (products ya yb yc wb)) (constant S_ .f32 0x00000000#32) reducesTo_S3x4x4096x1024_S4x4096x1024_d0 h_S_

/-- The reference's result. -/
def out : FVec Ideal S4x4096x1024 .f32 :=
  addf x (mulf (broadcastInDim S4x4096x1024 ![0, 1, 2] bcast_S4x1x1024_S4x4096x1024_0_1_2 gt)
    (Host.dotGeneral dot_S4x4096x1024_S1024x1024_S4x4096x1024_2_0_01_1_n_n none (mix ya yb yc gl wb) wo))

theorem gates_apply (n : Fin 3) (b : Fin 4) (s : Fin 4096) (d : Fin 1024) :
    (show EReal from gates gl (ix4 n b s d : S3x4x4096x1024.Idx)) = Ideal.logistic (show EReal from gl (ix3 b s (gateLane n d))) := by
  unfold gates
  pointwise
  rfl

theorem stacked_apply (n : Fin 3) (b : Fin 4) (s : Fin 4096) (k : Fin 512) :
    (show EReal from stacked ya yb yc (ix4 n b s k : S3x4x4096x512.Idx))
      = if n.val < 1 then (show EReal from ya (ix3 b s k)) else if n.val - 1 < 1 then (show EReal from yb (ix3 b s k)) else (show EReal from yc (ix3 b s k)) := by
  unfold stacked
  pointwise
  rfl

theorem products_apply (n : Fin 3) (b : Fin 4) (s : Fin 4096) (d : Fin 1024) :
    (show EReal from products ya yb yc wb (ix4 n b s d : S3x4x4096x1024.Idx))
      = ∑ k : Fin 512, (show EReal from stacked ya yb yc (ix4 n b s k)) * (show EReal from wb (ix3 n k d)) := by
  unfold products
  pointwise

theorem mix_apply (b : Fin 4) (s : Fin 4096) (d : Fin 1024) :
    (show EReal from mix ya yb yc gl wb (ix3 b s d : S4x4096x1024.Idx))
      = ∑ n : Fin 3, (show EReal from gates gl (ix4 n b s d)) * (show EReal from products ya yb yc wb (ix4 n b s d)) := by
  unfold mix
  pointwise

theorem out_apply (b : Fin 4) (s : Fin 4096) (j : Fin 1024) :
    (show EReal from out ya yb yc gl x gt wb wo (ix3 b s j : S4x4096x1024.Idx))
      = (show EReal from x (ix3 b s j)) + (show EReal from gt (ix3 b 0 j)) * ∑ d : Fin 1024, (show EReal from mix ya yb yc gl wb (ix3 b s d)) * (show EReal from wo (ix2 d j)) := by
  unfold out
  pointwise

/-- The stack's members. -/
theorem products_first (b : Fin 4) (s : Fin 4096) (d : Fin 1024) :
    (show EReal from products ya yb yc wb (ix4 0 b s d : S3x4x4096x1024.Idx)) = ∑ k : Fin 512, (show EReal from ya (ix3 b s k)) * (show EReal from wb (ix3 0 k d)) :=
  (products_apply ya yb yc wb 0 b s d).trans (Finset.sum_congr rfl fun k _ => congrArg (fun z : EReal => z * (show EReal from wb (ix3 0 k d)))
    ((stacked_apply ya yb yc 0 b s k).trans (if_pos (by decide))))

theorem products_second (b : Fin 4) (s : Fin 4096) (d : Fin 1024) :
    (show EReal from products ya yb yc wb (ix4 1 b s d : S3x4x4096x1024.Idx)) = ∑ k : Fin 512, (show EReal from yb (ix3 b s k)) * (show EReal from wb (ix3 1 k d)) :=
  (products_apply ya yb yc wb 1 b s d).trans (Finset.sum_congr rfl fun k _ => congrArg (fun z : EReal => z * (show EReal from wb (ix3 1 k d)))
    ((stacked_apply ya yb yc 1 b s k).trans ((if_neg (by decide)).trans (if_pos (by decide)))))

theorem products_third (b : Fin 4) (s : Fin 4096) (d : Fin 1024) :
    (show EReal from products ya yb yc wb (ix4 2 b s d : S3x4x4096x1024.Idx)) = ∑ k : Fin 512, (show EReal from yc (ix3 b s k)) * (show EReal from wb (ix3 2 k d)) :=
  (products_apply ya yb yc wb 2 b s d).trans (Finset.sum_congr rfl fun k _ => congrArg (fun z : EReal => z * (show EReal from wb (ix3 2 k d)))
    ((stacked_apply ya yb yc 2 b s k).trans ((if_neg (by decide)).trans (if_neg (by decide)))))

theorem mix_eq (b : Fin 4) (s : Fin 4096) (d : Fin 1024) :
    (show EReal from mix ya yb yc gl wb (ix3 b s d : S4x4096x1024.Idx)) = mixed ya yb yc gl wb b s d := by
  refine (mix_apply ya yb yc gl wb b s d).trans ((Fin.sum_univ_three _).trans ?_)
  unfold mixed branch
  exact congrArg₂ (fun u v : EReal => u + v)
    (congrArg₂ (fun u v : EReal => u + v)
      (congrArg₂ (fun u v : EReal => u * v) (gates_apply gl 0 b s d) (products_first ya yb yc wb b s d))
      (congrArg₂ (fun u v : EReal => u * v) (gates_apply gl 1 b s d) (products_second ya yb yc wb b s d)))
    (congrArg₂ (fun u v : EReal => u * v) (gates_apply gl 2 b s d) (products_third ya yb yc wb b s d))

/-- The reference's result is the merged branches. -/
theorem out_eq (b : Fin 4) (s : Fin 4096) (j : Fin 1024) :
    (show EReal from out ya yb yc gl x gt wb wo (ix3 b s j : S4x4096x1024.Idx)) = merged ya yb yc gl x gt wb wo b s j := by
  refine (out_apply ya yb yc gl x gt wb wo b s j).trans ?_
  unfold merged
  exact congrArg (fun z : EReal => (show EReal from x (ix3 b s j)) + (show EReal from gt (ix3 b 0 j)) * z)
    (Finset.sum_congr rfl fun d _ => congrArg (fun z : EReal => z * (show EReal from wo (ix2 d j))) (mix_eq ya yb yc gl wb b s d))

/-- The same at every index. -/
theorem whole_eq : out ya yb yc gl x gt wb wo = fun i => merged ya yb yc gl x gt wb wo (i 0) (i 1) (i 2) := by
  funext i
  have hi : i = (ix3 (i 0) (i 1) (i 2) : S4x4096x1024.Idx) := funext fun a => by
    match a with
    | ⟨0, _⟩ => rfl
    | ⟨1, _⟩ => rfl
    | ⟨2, _⟩ => rfl
  exact (congrArg (out ya yb yc gl x gt wb wo) hi).trans (out_eq ya yb yc gl x gt wb wo (i 0) (i 1) (i 2))

end Cert.MergeRefIdeal.Hand
-- ==== Proof.Route.Spec.lean ====
/-
  THE ROUTE'S SCORES. One entry of a head's scores: a sub-key times the token's query, and the query is the modulated row times its column of the weights.
-/
module

public import proofs.«01_k».proof.Proof.Norm.Spec

@[expose] public section

noncomputable section

namespace Cert.Hand.Route

open Idealize.ShloMosaic

/-- The zero offset of three axes. -/
theorem off3 : (![0, 0, 0] : Fin 3 → Nat) = fun _ => 0 := funext fun a => by fin_cases a <;> rfl

/-- An index of three axes is the triple of its coordinates. -/
theorem triple {a b c : ℕ} (j : (⟨3, ![a, b, c]⟩ : Shape).Idx) :
    ∃ (p : Fin a) (r : Fin b) (l : Fin c), j = (ix3 p r l : (⟨3, ![a, b, c]⟩ : Shape).Idx) :=
  ⟨j 0, j 1, j 2, funext fun i => by
    match i with
    | ⟨0, _⟩ => rfl
    | ⟨1, _⟩ => rfl
    | ⟨2, _⟩ => rfl⟩

/-- Which of the sixteen sets of sub-keys is half `s` of head `n`. -/
def keySet (s : Fin 2) (n : Fin 8) : Fin 16 := ⟨n.val * 2 + s.val, by omega⟩

/-- The query's lane `e` for half `s` of head `n`, among all the queries' lanes. -/
def queryLane (s : Fin 2) (n : Fin 8) (e : Fin 128) : Fin 2048 := ⟨(n.val * 2 + s.val) * 128 + e.val, by omega⟩

/-- A sub-key's score of a query. -/
def score (key : Fin 128 → EReal) (query : Fin 2048 → EReal) (s : Fin 2) (n : Fin 8) : EReal :=
  ∑ e : Fin 128, key e * query (queryLane s n e)

/-- Lane `j` of the query of a modulated row. -/
def query (row : Fin 1024 → EReal) (w : Fin 1024 → Fin 2048 → EReal) (j : Fin 2048) : EReal := ∑ d : Fin 1024, row d * w d j

theorem score_congr {key key' : Fin 128 → EReal} {q q' : Fin 2048 → EReal} (hk : ∀ e, key e = key' e) (hq : ∀ j, q j = q' j) (s : Fin 2) (n : Fin 8) :
    score key q s n = score key' q' s n := by
  rw [funext hk, funext hq]

theorem query_congr {row row' : Fin 1024 → EReal} {w w' : Fin 1024 → Fin 2048 → EReal} (hr : ∀ d, row d = row' d) (hw : ∀ d j, w d j = w' d j) (j : Fin 2048) :
    query row w j = query row' w' j := by
  rw [funext hr, funext fun d => funext (hw d)]

/-- The sequence and the position of a token. -/
def seqOf (n : Fin 16384) : Fin 4 := ⟨n.val / 4096, by omega⟩
def posOf (n : Fin 16384) : Fin 4096 := ⟨n.val % 4096, by omega⟩

section
variable (x : (⟨3, ![4, 4096, 1024]⟩ : Shape).Idx → EReal) (sc sh : (⟨3, ![4, 1, 1024]⟩ : Shape).Idx → EReal) (g : (⟨1, ![1024]⟩ : Shape).Idx → EReal)
  (w : (⟨2, ![1024, 2048]⟩ : Shape).Idx → EReal) (keys : (⟨4, ![8, 2, 128, 128]⟩ : Shape).Idx → EReal)

/-- Lane `d` of a token's modulated row. -/
def tokenLane (n : Fin 16384) (d : Fin 1024) : EReal :=
  normed (fun k => x (ix3 (seqOf n) (posOf n) k)) (g (ix1 d)) d * (1 + sc (ix3 (seqOf n) 0 d)) + sh (ix3 (seqOf n) 0 d)

/-- The modulated rows, transposed. -/
def routeRows : (⟨2, ![1024, 16384]⟩ : Shape).Idx → EReal := fun j => tokenLane x sc sh g (j 1) (j 0)

/-- The scores of half `s` of every head: of head, sub-key and token. -/
def routeScores (s : Fin 2) : (⟨3, ![8, 128, 16384]⟩ : Shape).Idx → EReal := fun j =>
  score (fun e => keys (ix4 (j 0) s (j 1) e)) (query (tokenLane x sc sh g (j 2)) fun d l => w (ix2 d l)) s (j 0)

end

end Cert.Hand.Route
-- ==== Proof.Route.Body.lean ====
/-
  ONE TILE OF THE ROUTE. What the kernel's body stores for a tile of 256 tokens, read at an index: the modulated rows, transposed, and the scores of both
  halves of every head.
-/
module

public import proofs.«01_k».proof.Proof.Route.Spec
public import proofs.«01_k».proof.Proof.Gen.RouteIdeal.Frame
public import Idealize.ShloMosaic.Lib.Pointwise
public import Idealize.ShloMosaic.Lib.Pipeline.Value

@[expose] public section

noncomputable section

namespace Cert.RouteIdeal.Hand

open Cert.RouteIdeal Cert.RouteIdeal.Gen Idealize.ShloMosaic Idealize.ShloMosaic.TcCoe Cert.Hand Cert.Hand.Route

variable (x0 : Vec Ideal S1x256x1024 .f32) (x1 x2 : Vec Ideal S1x1x1024 .f32) (x3 : Vec Ideal S1x1024 .f32) (x4 : Vec Ideal S1024x2048 .bf16)
  (x5 : Vec Ideal S16x128x128 .bf16)

/-- Lane `d` of row `r` of the tile, modulated. -/
def tileLane (r : Fin 256) (d : Fin 1024) : EReal :=
  normed (fun k => (show EReal from x0 (ix3 0 r k))) (show EReal from x3 (ix2 0 d)) d * (1 + (show EReal from x1 (ix3 0 0 d))) + (show EReal from x2 (ix3 0 0 d))

theorem rows_apply (r : Fin 256) (d : Fin 1024) : (show EReal from k0_pay2 x0 x3 x1 x2 (ix2 r d)) = tileLane x0 x1 x2 x3 r d := by
  unfold tileLane normed
  pointwise [k0_pay2]

/-- The transposed rows. -/
theorem block6 (d : Fin 1024) (r : Fin 256) : (show EReal from out0_6 x0 x1 x2 x3 x4 x5 (ix2 d r : S1024x256.Idx)) = tileLane x0 x1 x2 x3 r d := by
  unfold out0_6
  rw [View.canon_unit_zero zero2, View.ld_unit_zero (S := S1x256x1024) off3, View.ld_unit_zero (S := S1x1024) zero2,
    View.ld_unit_zero (S := S1x1x1024) off3, View.ld_unit_zero (S := S1x1x1024) off3]
  refine Eq.trans ?_ (rows_apply x0 x1 x2 x3 r d)
  show (show EReal from k0_pay3 x0 x3 x1 x2 (ix2 d r)) = _
  unfold k0_pay3
  generalize k0_pay2 x0 x3 x1 x2 = v
  pointwise

/-- The tile's queries. -/
theorem queries_apply (r : Fin 256) (j : Fin 2048) : (show EReal from k0_pay856 x0 x1 x2 x3 x4 x5 (ix2 r j))
    = query (tileLane x0 x1 x2 x3 r) (fun d j => (show EReal from x4 (ix2 d j))) j := by
  unfold k0_pay856
  rw [View.ld_unit_zero (S := S1x256x1024) off3, View.ld_unit_zero (S := S1x1024) zero2,
    View.ld_unit_zero (S := S1x1x1024) off3, View.ld_unit_zero (S := S1x1x1024) off3, View.ld_unit_zero (S := S1024x2048) zero2]
  unfold query k0_pay4
  refine Eq.trans ?_ (Finset.sum_congr rfl fun d _ => congrArg (fun u : EReal => u * (show EReal from x4 (ix2 d j))) (rows_apply x0 x1 x2 x3 r d))
  generalize k0_pay2 x0 x3 x1 x2 = v
  pointwise

/-- A head's rectangle of a block of scores. -/
theorem emb_head (n : Fin 8) (inb : ∀ a, (![n.val, 0, 0] : Fin 3 → Nat) a + S1x128x256.size a ≤ S8x128x256.size a) (k : Fin 128) (r : Fin 256) :
    (Rect.unit (s := S8x128x256) ![n.val, 0, 0] S1x128x256.size inb).emb (ix3 0 k r : S1x128x256.Idx) = (ix3 n k r : S8x128x256.Idx) := by
  funext a; apply Fin.ext
  match a with
  | ⟨0, _⟩ => show n.val + 1 * 0 = n.val; omega
  | ⟨1, _⟩ => show 0 + 1 * k.val = k.val; omega
  | ⟨2, _⟩ => show 0 + 1 * r.val = r.val; omega

/-- The scores of half `s` of every head, of queries `q`. -/
def scores (s : Fin 2) (q : FVec Ideal S256x2048 .f32) : Vec Ideal S8x128x256 .f32 := fun j =>
  (show Ideal .f32 from score (fun e => (show EReal from x5 (ix3 (keySet s (j 0)) (j 1) e))) (fun l => (show EReal from q (ix2 (j 2) l))) s (j 0))

/-- Membership in a block's eight pieces, head by head. -/
theorem pieces8 {G : S8x128x256.Idx → Elt Ideal .f32} {p0 p1 p2 p3 p4 p5 p6 p7 : Vec Ideal S1x128x256 .f32}
    (h7 : ∀ k r, p7 (ix3 0 k r : S1x128x256.Idx) = G (ix3 7 k r : S8x128x256.Idx)) (h6 : ∀ k r, p6 (ix3 0 k r : S1x128x256.Idx) = G (ix3 6 k r : S8x128x256.Idx))
    (h5 : ∀ k r, p5 (ix3 0 k r : S1x128x256.Idx) = G (ix3 5 k r : S8x128x256.Idx)) (h4 : ∀ k r, p4 (ix3 0 k r : S1x128x256.Idx) = G (ix3 4 k r : S8x128x256.Idx))
    (h3 : ∀ k r, p3 (ix3 0 k r : S1x128x256.Idx) = G (ix3 3 k r : S8x128x256.Idx)) (h2 : ∀ k r, p2 (ix3 0 k r : S1x128x256.Idx) = G (ix3 2 k r : S8x128x256.Idx))
    (h1 : ∀ k r, p1 (ix3 0 k r : S1x128x256.Idx) = G (ix3 1 k r : S8x128x256.Idx)) (h0 : ∀ k r, p0 (ix3 0 k r : S1x128x256.Idx) = G (ix3 0 k r : S8x128x256.Idx))
    (y : S8x128x256.Idx) :
    View.canon (Val := Elt Ideal) (s := S8x128x256) (e := .f32) [⟨r0_35, p7⟩, ⟨r0_31, p6⟩, ⟨r0_27, p5⟩, ⟨r0_23, p4⟩, ⟨r0_19, p3⟩, ⟨r0_15, p2⟩, ⟨r0_11, p1⟩, ⟨r0_7, p0⟩] y = G y := by
  have key (n : Fin 8) (inb) (p : Vec Ideal S1x128x256 .f32) (h : ∀ k r, p (ix3 0 k r : S1x128x256.Idx) = G (ix3 n k r : S8x128x256.Idx))
      (x : S1x128x256.Idx) : p x = G ((Rect.unit (s := S8x128x256) ![n.val, 0, 0] S1x128x256.size inb).emb x) := by
    obtain ⟨z, k, r, rfl⟩ := triple (a := 1) (b := 128) (c := 256) x
    obtain rfl : z = 0 := Subsingleton.elim _ _
    rw [emb_head]; exact h k r
  refine View.canon_apply_of_pieces G _ ?_ y (cover0_7 _ _ _ _ _ _ _ _ y)
  intro pc hpc
  rcases List.mem_cons.mp hpc with rfl | hpc
  · exact fun x => key 7 inb_S8x128x256_S1x128x256_7_0_0 p7 h7 x
  rcases List.mem_cons.mp hpc with rfl | hpc
  · exact fun x => key 6 inb_S8x128x256_S1x128x256_6_0_0 p6 h6 x
  rcases List.mem_cons.mp hpc with rfl | hpc
  · exact fun x => key 5 inb_S8x128x256_S1x128x256_5_0_0 p5 h5 x
  rcases List.mem_cons.mp hpc with rfl | hpc
  · exact fun x => key 4 inb_S8x128x256_S1x128x256_4_0_0 p4 h4 x
  rcases List.mem_cons.mp hpc with rfl | hpc
  · exact fun x => key 3 inb_S8x128x256_S1x128x256_3_0_0 p3 h3 x
  rcases List.mem_cons.mp hpc with rfl | hpc
  · exact fun x => key 2 inb_S8x128x256_S1x128x256_2_0_0 p2 h2 x
  rcases List.mem_cons.mp hpc with rfl | hpc
  · exact fun x => key 1 inb_S8x128x256_S1x128x256_1_0_0 p1 h1 x
  rcases List.mem_cons.mp hpc with rfl | hpc
  · exact fun x => key 0 inb_S8x128x256_S1x128x256_0_0_0 p0 h0 x
  nomatch hpc

end Cert.RouteIdeal.Hand
-- ==== Proof.Route.First.lean ====
/-
  THE FIRST HALVES. The eight pieces stored for a tile are the scores against every head's first sub-keys.
-/
module

public import proofs.«01_k».proof.Proof.Route.Body

@[expose] public section

noncomputable section

namespace Cert.RouteIdeal.Hand

open Cert.RouteIdeal Cert.RouteIdeal.Gen Idealize.ShloMosaic Idealize.ShloMosaic.TcCoe Cert.Hand Cert.Hand.Route

variable (x0 : Vec Ideal S1x256x1024 .f32) (x1 x2 : Vec Ideal S1x1x1024 .f32) (x3 : Vec Ideal S1x1024 .f32) (x4 : Vec Ideal S1024x2048 .bf16)
  (x5 : Vec Ideal S16x128x128 .bf16)

/-- The first halves' scores, head by head from the last. -/
theorem block7 (y : S8x128x256.Idx) : out0_7 x0 x1 x2 x3 x4 x5 y = scores x5 0 (k0_pay856 x0 x1 x2 x3 x4 x5) y := by
  unfold out0_7 k0_pay1164 k0_pay987
  generalize k0_pay856 x0 x1 x2 x3 x4 x5 = q
  apply pieces8 <;> intro k r <;> show @Eq EReal _ _
  · pointwise [k0_pay851, k0_pay743]
    rfl
  · pointwise [k0_pay739, k0_pay642]
    rfl
  · pointwise [k0_pay638, k0_pay539]
    rfl
  · pointwise [k0_pay533, k0_pay430]
    rfl
  · pointwise [k0_pay426, k0_pay318]
    rfl
  · pointwise [k0_pay314, k0_pay217]
    rfl
  · pointwise [k0_pay213, k0_pay114]
    rfl
  · pointwise [k0_pay108, k0_pay5]
    have lane (e : Fin 128) : (⟨e.val, by omega⟩ : Fin 2048) = queryLane 0 0 e := Fin.ext (by
      show e.val = (0 * 2 + 0) * 128 + e.val; omega)
    exact Finset.sum_congr rfl fun e _ => congrArg (fun l => (show EReal from x5 (ix3 0 k e)) * (show EReal from q (ix2 r l))) (lane e)

end Cert.RouteIdeal.Hand
-- ==== Proof.Route.Second.lean ====
/-
  THE SECOND HALVES. The eight pieces stored for a tile are the scores against every head's second sub-keys.
-/
module

public import proofs.«01_k».proof.Proof.Route.Body

@[expose] public section

noncomputable section

namespace Cert.RouteIdeal.Hand

open Cert.RouteIdeal Cert.RouteIdeal.Gen Idealize.ShloMosaic Idealize.ShloMosaic.TcCoe Cert.Hand Cert.Hand.Route

variable (x0 : Vec Ideal S1x256x1024 .f32) (x1 x2 : Vec Ideal S1x1x1024 .f32) (x3 : Vec Ideal S1x1024 .f32) (x4 : Vec Ideal S1024x2048 .bf16)
  (x5 : Vec Ideal S16x128x128 .bf16)

/-- The second halves' scores, head by head from the last. -/
theorem block8 (y : S8x128x256.Idx) : out0_8 x0 x1 x2 x3 x4 x5 y = scores x5 1 (k0_pay856 x0 x1 x2 x3 x4 x5) y := by
  unfold out0_8 k0_pay1165 k0_pay1125 k0_pay1080 k0_pay1034 k0_pay988 k0_pay948 k0_pay903 k0_pay857
  generalize k0_pay856 x0 x1 x2 x3 x4 x5 = q
  apply pieces8 <;> intro k r <;> show @Eq EReal _ _
  · pointwise [k0_pay852, k0_pay744]
    rfl
  · pointwise [k0_pay740, k0_pay643]
    rfl
  · pointwise [k0_pay639, k0_pay540]
    rfl
  · pointwise [k0_pay534, k0_pay431]
    rfl
  · pointwise [k0_pay427, k0_pay319]
    rfl
  · pointwise [k0_pay315, k0_pay218]
    rfl
  · pointwise [k0_pay214, k0_pay115]
    rfl
  · pointwise [k0_pay109, k0_pay6]
    rfl

end Cert.RouteIdeal.Hand
-- ==== Proof.Route.Final.lean ====
/-
  THE ROUTE'S RESULTS. Every grid point's blocks hold the rows and the scores of its 256 tokens, and the blocks cover the results.
-/
module

public import proofs.«01_k».proof.Proof.Route.First
public import proofs.«01_k».proof.Proof.Route.Second

@[expose] public section

noncomputable section

namespace Cert.RouteIdeal.Hand

open Cert.RouteIdeal Cert.RouteIdeal.Gen Idealize.ShloMosaic Idealize.ShloMosaic.TcCoe Idealize.SL.Sem Cert.Hand Cert.Hand.Route
open Idealize.ShloMosaic.Pipeline (Dat)

theorem index0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)

theorem index1 : ∀ t : Fin cfg0.N, win0_1.index t (0 : Fin 3) = t.val / 16 ∧ win0_1.index t (1 : Fin 3) = 0 ∧ win0_1.index t (2 : Fin 3) = 0 :=
  (by decide +kernel : ∀ t : Fin grid0.N, _)

theorem index2 : ∀ t : Fin cfg0.N, win0_2.index t (0 : Fin 3) = t.val / 16 ∧ win0_2.index t (1 : Fin 3) = 0 ∧ win0_2.index t (2 : Fin 3) = 0 :=
  (by decide +kernel : ∀ t : Fin grid0.N, _)

theorem index3 : ∀ t : Fin cfg0.N, win0_3.index t (0 : Fin 2) = 0 ∧ win0_3.index t (1 : Fin 2) = 0 :=
  (by decide +kernel : ∀ t : Fin grid0.N, _)

theorem index4 : ∀ t : Fin cfg0.N, win0_4.index t (0 : Fin 2) = 0 ∧ win0_4.index t (1 : Fin 2) = 0 :=
  (by decide +kernel : ∀ t : Fin grid0.N, _)

theorem index5 : ∀ t : Fin cfg0.N, win0_5.index t (0 : Fin 3) = 0 ∧ win0_5.index t (1 : Fin 3) = 0 ∧ win0_5.index t (2 : Fin 3) = 0 :=
  (by decide +kernel : ∀ t : Fin grid0.N, _)

theorem index6 : ∀ t : Fin cfg0.N, win0_6.index t (0 : Fin 2) = 0 ∧ win0_6.index t (1 : Fin 2) = t.val :=
  (by decide +kernel : ∀ t : Fin grid0.N, _)

theorem index7 : ∀ t : Fin cfg0.N, win0_7.index t (0 : Fin 3) = 0 ∧ win0_7.index t (1 : Fin 3) = 0 ∧ win0_7.index t (2 : Fin 3) = t.val :=
  (by decide +kernel : ∀ t : Fin grid0.N, _)

theorem index8 : ∀ t : Fin cfg0.N, win0_8.index t (0 : Fin 3) = 0 ∧ win0_8.index t (1 : Fin 3) = 0 ∧ win0_8.index t (2 : Fin 3) = t.val :=
  (by decide +kernel : ∀ t : Fin grid0.N, _)

section
variable (t : Fin cfg0.N)

theorem lt_N : t.val < 64 := t.isLt

/-- The token that is row `r` of a point's tile. -/
def token (r : Fin 256) : Fin 16384 := ⟨t.val * 256 + r.val, by have := lt_N t; omega⟩

theorem emb0 (r : Fin 256) (k : Fin 1024) : ((cfg0.win 0).blk t).view.emb (ix3 0 r k : S1x256x1024.Idx)
    = (ix3 (seqOf (token t r)) (posOf (token t r)) k : S4x4096x1024.Idx) := by
  obtain ⟨e0, e1, e2⟩ := index0 t
  funext a; apply Fin.ext
  match a with
  | ⟨0, _⟩ => show win0_0.index t (0 : Fin 3) * 1 + 1 * 0 = (t.val * 256 + r.val) / 4096; omega
  | ⟨1, _⟩ => show win0_0.index t (1 : Fin 3) * 256 + 1 * r.val = (t.val * 256 + r.val) % 4096; omega
  | ⟨2, _⟩ => show win0_0.index t (2 : Fin 3) * 1024 + 1 * k.val = k.val; omega

theorem emb1 (r : Fin 256) (k : Fin 1024) : ((cfg0.win 1).blk t).view.emb (ix3 0 0 k : S1x1x1024.Idx) = (ix3 (seqOf (token t r)) 0 k : S4x1x1024.Idx) := by
  obtain ⟨e0, e1, e2⟩ := index1 t
  funext a; apply Fin.ext
  match a with
  | ⟨0, _⟩ => show win0_1.index t (0 : Fin 3) * 1 + 1 * 0 = (t.val * 256 + r.val) / 4096; omega
  | ⟨1, _⟩ => show win0_1.index t (1 : Fin 3) * 1 + 1 * 0 = 0; omega
  | ⟨2, _⟩ => show win0_1.index t (2 : Fin 3) * 1024 + 1 * k.val = k.val; omega

theorem emb2 (r : Fin 256) (k : Fin 1024) : ((cfg0.win 2).blk t).view.emb (ix3 0 0 k : S1x1x1024.Idx) = (ix3 (seqOf (token t r)) 0 k : S4x1x1024.Idx) := by
  obtain ⟨e0, e1, e2⟩ := index2 t
  funext a; apply Fin.ext
  match a with
  | ⟨0, _⟩ => show win0_2.index t (0 : Fin 3) * 1 + 1 * 0 = (t.val * 256 + r.val) / 4096; omega
  | ⟨1, _⟩ => show win0_2.index t (1 : Fin 3) * 1 + 1 * 0 = 0; omega
  | ⟨2, _⟩ => show win0_2.index t (2 : Fin 3) * 1024 + 1 * k.val = k.val; omega

theorem emb3 (k : Fin 1024) : ((cfg0.win 3).blk t).view.emb (ix2 0 k : S1x1024.Idx) = (ix2 0 k : S1x1024.Idx) := by
  obtain ⟨e0, e1⟩ := index3 t
  funext a; apply Fin.ext
  match a with
  | ⟨0, _⟩ => show win0_3.index t (0 : Fin 2) * 1 + 1 * 0 = 0; omega
  | ⟨1, _⟩ => show win0_3.index t (1 : Fin 2) * 1024 + 1 * k.val = k.val; omega

theorem emb4 (d : Fin 1024) (l : Fin 2048) : ((cfg0.win 4).blk t).view.emb (ix2 d l : S1024x2048.Idx) = (ix2 d l : S1024x2048.Idx) := by
  obtain ⟨e0, e1⟩ := index4 t
  funext a; apply Fin.ext
  match a with
  | ⟨0, _⟩ => show win0_4.index t (0 : Fin 2) * 1024 + 1 * d.val = d.val; omega
  | ⟨1, _⟩ => show win0_4.index t (1 : Fin 2) * 2048 + 1 * l.val = l.val; omega

theorem emb5 (n : Fin 16) (k e : Fin 128) : ((cfg0.win 5).blk t).view.emb (ix3 n k e : S16x128x128.Idx) = (ix3 n k e : S16x128x128.Idx) := by
  obtain ⟨e0, e1, e2⟩ := index5 t
  funext a; apply Fin.ext
  match a with
  | ⟨0, _⟩ => show win0_5.index t (0 : Fin 3) * 16 + 1 * n.val = n.val; omega
  | ⟨1, _⟩ => show win0_5.index t (1 : Fin 3) * 128 + 1 * k.val = k.val; omega
  | ⟨2, _⟩ => show win0_5.index t (2 : Fin 3) * 128 + 1 * e.val = e.val; omega

theorem emb6 (d : Fin 1024) (r : Fin 256) : ((cfg0.win 6).blk t).view.emb (ix2 d r : S1024x256.Idx) = (ix2 d (token t r) : S1024x16384.Idx) := by
  obtain ⟨e0, e1⟩ := index6 t
  funext a; apply Fin.ext
  match a with
  | ⟨0, _⟩ => show win0_6.index t (0 : Fin 2) * 1024 + 1 * d.val = d.val; omega
  | ⟨1, _⟩ => show win0_6.index t (1 : Fin 2) * 256 + 1 * r.val = t.val * 256 + r.val; omega

theorem emb7 (n : Fin 8) (k : Fin 128) (r : Fin 256) : ((cfg0.win 7).blk t).view.emb (ix3 n k r : S8x128x256.Idx) = (ix3 n k (token t r) : S8x128x16384.Idx) := by
  obtain ⟨e0, e1, e2⟩ := index7 t
  funext a; apply Fin.ext
  match a with
  | ⟨0, _⟩ => show win0_7.index t (0 : Fin 3) * 8 + 1 * n.val = n.val; omega
  | ⟨1, _⟩ => show win0_7.index t (1 : Fin 3) * 128 + 1 * k.val = k.val; omega
  | ⟨2, _⟩ => show win0_7.index t (2 : Fin 3) * 256 + 1 * r.val = t.val * 256 + r.val; omega

theorem emb8 (n : Fin 8) (k : Fin 128) (r : Fin 256) : ((cfg0.win 8).blk t).view.emb (ix3 n k r : S8x128x256.Idx) = (ix3 n k (token t r) : S8x128x16384.Idx) := by
  obtain ⟨e0, e1, e2⟩ := index8 t
  funext a; apply Fin.ext
  match a with
  | ⟨0, _⟩ => show win0_8.index t (0 : Fin 3) * 8 + 1 * n.val = n.val; omega
  | ⟨1, _⟩ => show win0_8.index t (1 : Fin 3) * 128 + 1 * k.val = k.val; omega
  | ⟨2, _⟩ => show win0_8.index t (2 : Fin 3) * 256 + 1 * r.val = t.val * 256 + r.val; omega

end

variable (m : (ℓ : Loc nD τ sig) → Buf (Elt Ideal) ℓ) (c : Dev nD)

/-- The gain that the host reshapes. -/
theorem gain_eq (l : Fin 1024) : (show EReal from V m c main_v3 (ix2 0 l : S1x1024.Idx)) = (show EReal from m ((c : Thread nD τ).loc main_arg3) (ix1 l : S1024.Idx)) := by
  have e : V m c main_v3 = (shapeCast S1x1024 (show FVec Ideal S1024 .f32 from m ((c : Thread nD τ).loc main_arg3)) shapeCasts_S1024_S1x1024 : FVec Ideal S1x1024 .f32) := by
    show StableHlo.after hostOps0 (fun b => m (c, b)) (Proc.devRef .tc main_v3) = _
    after_results
    rfl
  rw [e]
  pointwise

/-- The query's weights that the host narrows. -/
theorem weights_eq (d : Fin 1024) (l : Fin 2048) : (show EReal from V m c main_v0 (ix2 d l : S1024x2048.Idx))
    = (show EReal from m ((c : Thread nD τ).loc main_arg4) (ix2 d l : S1024x2048.Idx)) := by
  have e : V m c main_v0 = (truncf .bf16 (show FVec Ideal S1024x2048 .f32 from m ((c : Thread nD τ).loc main_arg4)) bitsLt_bf16_f32 : FVec Ideal S1024x2048 .bf16) := by
    show StableHlo.after hostOps0 (fun b => m (c, b)) (Proc.devRef .tc main_v0) = _
    after_results
  rw [e]
  pointwise

/-- The sub-keys that the host lays out as sixteen sets. -/
theorem keys_eq (s : Fin 2) (n : Fin 8) (k e : Fin 128) : (show EReal from V m c main_v2 (ix3 (keySet s n) k e : S16x128x128.Idx))
    = (show EReal from m ((c : Thread nD τ).loc main_arg5) (ix4 n s k e : S8x2x128x128.Idx)) := by
  have e' : V m c main_v2 = (truncf .bf16 (shapeCast S16x128x128 (show FVec Ideal S8x2x128x128 .f32 from m ((c : Thread nD τ).loc main_arg5))
      shapeCasts_S8x2x128x128_S16x128x128) bitsLt_bf16_f32 : FVec Ideal S16x128x128 .bf16) := by
    show StableHlo.after hostOps0 (fun b => m (c, b)) (Proc.devRef .tc main_v2) = _
    after_results
    rfl
  rw [e']
  pointwise
  refine congrArg (show S8x2x128x128.Idx → EReal from m ((c : Thread nD τ).loc main_arg5)) ?_
  funext a; apply Fin.ext
  have hn := n.isLt
  have hs := s.isLt
  match a with
  | ⟨0, _⟩ => show (n.val * 2 + s.val) / 2 = n.val; omega
  | ⟨1, _⟩ => show (n.val * 2 + s.val) % 2 = s.val; omega
  | ⟨2, _⟩ => rfl
  | ⟨3, _⟩ => rfl

section
variable (t : Fin cfg0.N)

theorem iblk0 (r : Fin 256) (k : Fin 1024) : @Eq EReal (iblk m c 0 t (ix3 0 r k : S1x256x1024.Idx))
    (m ((c : Thread nD τ).loc main_arg0) (ix3 (seqOf (token t r)) (posOf (token t r)) k : S4x4096x1024.Idx)) := by
  show V m c main_arg0 (((cfg0.win 0).blk t).view.emb (ix3 0 r k : S1x256x1024.Idx)) = _
  rw [emb0, V_main_arg0]

theorem iblk1 (r : Fin 256) (k : Fin 1024) : @Eq EReal (iblk m c 1 t (ix3 0 0 k : S1x1x1024.Idx))
    (m ((c : Thread nD τ).loc main_arg1) (ix3 (seqOf (token t r)) 0 k : S4x1x1024.Idx)) := by
  show V m c main_arg1 (((cfg0.win 1).blk t).view.emb (ix3 0 0 k : S1x1x1024.Idx)) = _
  rw [emb1 t r, V_main_arg1]

theorem iblk2 (r : Fin 256) (k : Fin 1024) : @Eq EReal (iblk m c 2 t (ix3 0 0 k : S1x1x1024.Idx))
    (m ((c : Thread nD τ).loc main_arg2) (ix3 (seqOf (token t r)) 0 k : S4x1x1024.Idx)) := by
  show V m c main_arg2 (((cfg0.win 2).blk t).view.emb (ix3 0 0 k : S1x1x1024.Idx)) = _
  rw [emb2 t r, V_main_arg2]

theorem iblk3 (k : Fin 1024) : @Eq EReal (iblk m c 3 t (ix2 0 k : S1x1024.Idx)) (m ((c : Thread nD τ).loc main_arg3) (ix1 k : S1024.Idx)) := by
  show V m c main_v3 (((cfg0.win 3).blk t).view.emb (ix2 0 k : S1x1024.Idx)) = _
  rw [emb3]; exact gain_eq m c k

theorem iblk4 (d : Fin 1024) (l : Fin 2048) : @Eq EReal (iblk m c 4 t (ix2 d l : S1024x2048.Idx)) (m ((c : Thread nD τ).loc main_arg4) (ix2 d l : S1024x2048.Idx)) := by
  show V m c main_v0 (((cfg0.win 4).blk t).view.emb (ix2 d l : S1024x2048.Idx)) = _
  rw [emb4]; exact weights_eq m c d l

theorem iblk5 (s : Fin 2) (n : Fin 8) (k e : Fin 128) : @Eq EReal (iblk m c 5 t (ix3 (keySet s n) k e : S16x128x128.Idx))
    (m ((c : Thread nD τ).loc main_arg5) (ix4 n s k e : S8x2x128x128.Idx)) := by
  show V m c main_v2 (((cfg0.win 5).blk t).view.emb (ix3 (keySet s n) k e : S16x128x128.Idx)) = _
  rw [emb5]; exact keys_eq m c s n k e

end

/-- The results of the launched arguments. -/
def rows : S1024x16384.Idx → EReal :=
  routeRows (m ((c : Thread nD τ).loc main_arg0)) (m ((c : Thread nD τ).loc main_arg1)) (m ((c : Thread nD τ).loc main_arg2)) (m ((c : Thread nD τ).loc main_arg3))
def half (s : Fin 2) : S8x128x16384.Idx → EReal :=
  routeScores (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) s

/-- A tile's rows are its tokens' rows. -/
theorem lane_eq (t : Fin cfg0.N) (r : Fin 256) (d : Fin 1024) :
    tileLane (iblk m c 0 t) (iblk m c 1 t) (iblk m c 2 t) (iblk m c 3 t) r d
      = tokenLane (m ((c : Thread nD τ).loc main_arg0)) (m ((c : Thread nD τ).loc main_arg1)) (m ((c : Thread nD τ).loc main_arg2))
        (m ((c : Thread nD τ).loc main_arg3)) (token t r) d :=
  congrArg₂ (fun u v : EReal => u + v)
    (congrArg₂ (fun u v : EReal => u * v) (normed_congr (iblk0 m c t r) (iblk3 m c t d) d) (congrArg (fun u : EReal => 1 + u) (iblk1 m c t r d))) (iblk2 m c t r d)

/-- A tile's scores are its tokens' scores. -/
theorem scores_eq (t : Fin cfg0.N) (s : Fin 2) (n : Fin 8) (k : Fin 128) (r : Fin 256) :
    @Eq EReal (scores (iblk m c 5 t) s (k0_pay856 (iblk m c 0 t) (iblk m c 1 t) (iblk m c 2 t) (iblk m c 3 t) (iblk m c 4 t) (iblk m c 5 t)) (ix3 n k r : S8x128x256.Idx))
      (half m c s (ix3 n k (token t r) : S8x128x16384.Idx)) :=
  score_congr (fun e => iblk5 m c t s n k e)
    (fun l => (queries_apply _ _ _ _ _ _ r l).trans (query_congr (lane_eq m c t r) (iblk4 m c t) l)) s n

/-- What a point writes back is its block of the results. -/
theorem flushed6_eq (t : Fin cfg0.N) : (dats m 0 c).flushed 6 t = ((cfg0.win 6).blk t).view.read (Elt Ideal) (rows m c) := by
  show (cfg0.win 6).cut (grid0.coords t) ((dats m 0 c).after 6 t) = _
  rw [after0_6]
  funext j
  show @Eq EReal (out0_6 (iblk m c 0 t) (iblk m c 1 t) (iblk m c 2 t) (iblk m c 3 t) (iblk m c 4 t) (iblk m c 5 t) j) (rows m c (((cfg0.win 6).blk t).view.emb j))
  obtain ⟨d, r, rfl⟩ := idx2 (a := 1024) (b := 256) j
  rw [emb6]
  exact (block6 _ _ _ _ _ _ d r).trans (lane_eq m c t r d)

theorem flushed7_eq (t : Fin cfg0.N) : (dats m 0 c).flushed 7 t = ((cfg0.win 7).blk t).view.read (Elt Ideal) (half m c 0) := by
  show (cfg0.win 7).cut (grid0.coords t) ((dats m 0 c).after 7 t) = _
  rw [after0_7]
  funext j
  show @Eq EReal (out0_7 (iblk m c 0 t) (iblk m c 1 t) (iblk m c 2 t) (iblk m c 3 t) (iblk m c 4 t) (iblk m c 5 t) j) (half m c 0 (((cfg0.win 7).blk t).view.emb j))
  obtain ⟨n, k, r, rfl⟩ := triple (a := 8) (b := 128) (c := 256) j
  rw [emb7]
  exact (block7 _ _ _ _ _ _ _).trans (scores_eq m c t 0 n k r)

theorem flushed8_eq (t : Fin cfg0.N) : (dats m 0 c).flushed 8 t = ((cfg0.win 8).blk t).view.read (Elt Ideal) (half m c 1) := by
  show (cfg0.win 8).cut (grid0.coords t) ((dats m 0 c).after 8 t) = _
  rw [after0_8]
  funext j
  show @Eq EReal (out0_8 (iblk m c 0 t) (iblk m c 1 t) (iblk m c 2 t) (iblk m c 3 t) (iblk m c 4 t) (iblk m c 5 t) j) (half m c 1 (((cfg0.win 8).blk t).view.emb j))
  obtain ⟨n, k, r, rfl⟩ := triple (a := 8) (b := 128) (c := 256) j
  rw [emb8]
  exact (block8 _ _ _ _ _ _ _).trans (scores_eq m c t 1 n k r)

/-- The point and the row of its tile that a token falls in. -/
theorem token_split (i : Fin 16384) : ∃ (t : Fin cfg0.N) (r : Fin 256), token t r = i :=
  ⟨⟨i.val / 256, by show _ < 64; omega⟩, ⟨i.val % 256, by omega⟩, Fin.ext (by show i.val / 256 * 256 + i.val % 256 = i.val; omega)⟩

/-- Every index of a result is in some point's block. -/
theorem covered6 (i : S1024x16384.Idx) : ∃ t : Fin cfg0.N, (cfg0.win 6).flush t = true ∧ i ∈ ((cfg0.win 6).blk t).view.set := by
  obtain ⟨d, n, rfl⟩ := idx2 (a := 1024) (b := 16384) i
  obtain ⟨t, r, rfl⟩ := token_split n
  exact ⟨t, flush0_6 t, (congrArg (· ∈ ((cfg0.win 6).blk t).view.set) (emb6 t d r)).mp (((cfg0.win 6).blk t).view.emb_mem_set _)⟩

theorem covered7 (i : S8x128x16384.Idx) : ∃ t : Fin cfg0.N, (cfg0.win 7).flush t = true ∧ i ∈ ((cfg0.win 7).blk t).view.set := by
  obtain ⟨n, k, l, rfl⟩ := triple (a := 8) (b := 128) (c := 16384) i
  obtain ⟨t, r, rfl⟩ := token_split l
  exact ⟨t, flush0_7 t, (congrArg (· ∈ ((cfg0.win 7).blk t).view.set) (emb7 t n k r)).mp (((cfg0.win 7).blk t).view.emb_mem_set _)⟩

theorem covered8 (i : S8x128x16384.Idx) : ∃ t : Fin cfg0.N, (cfg0.win 8).flush t = true ∧ i ∈ ((cfg0.win 8).blk t).view.set := by
  obtain ⟨n, k, l, rfl⟩ := triple (a := 8) (b := 128) (c := 16384) i
  obtain ⟨t, r, rfl⟩ := token_split l
  exact ⟨t, flush0_8 t, (congrArg (· ∈ ((cfg0.win 8).blk t).view.set) (emb8 t n k r)).mp (((cfg0.win 8).blk t).view.emb_mem_set _)⟩

/-- The result arrays after the run. -/
theorem final6 : (dats m 0 c).arrAt 6 cfg0.N = rows m c := (dats m 0 c).arrAt_eq_of_cover 6 _ (fun t _ => flushed6_eq m c t) covered6
theorem final7 : (dats m 0 c).arrAt 7 cfg0.N = half m c 0 := (dats m 0 c).arrAt_eq_of_cover 7 _ (fun t _ => flushed7_eq m c t) covered7
theorem final8 : (dats m 0 c).arrAt 8 cfg0.N = half m c 1 := (dats m 0 c).arrAt_eq_of_cover 8 _ (fun t _ => flushed8_eq m c t) covered8

/-- The run ends with the three results at their values and with the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4_0) = rows m c
      ∧ r.2.mem ((c : Thread nD τ).loc main_v4_1) = half m c 0
      ∧ r.2.mem ((c : Thread nD τ).loc main_v4_2) = half m c 1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 6).trans (final6 m c), ((h c).1 7).trans (final7 m c), ((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.RouteIdeal.Hand
-- ==== Proof.Route.Reference.lean ====
/-
  THE REFERENCE OF THE ROUTE. Its composed operations, read at an index, are the same rows and the same scores.
-/
module

public import proofs.«01_k».proof.Proof.Route.Spec
public import proofs.«01_k».proof.Proof.Gen.RouteRefIdeal.Run

@[expose] public section

noncomputable section

namespace Cert.RouteRefIdeal.Hand

open Cert.RouteRefIdeal Cert.RouteRefIdeal.Gen Idealize.ShloMosaic Idealize.ShloMosaic.TcCoe Cert.Hand Cert.Hand.Route

variable (x : FVec Ideal S4x4096x1024 .f32) (sc sh : FVec Ideal S4x1x1024 .f32) (g : FVec Ideal S1024 .f32) (w : FVec Ideal S1024x2048 .f32)
  (keys : FVec Ideal S8x2x128x128 .f32)

/-- The modulated rows, one per token. -/
def hidden : FVec Ideal S16384x1024 .f32 :=
  shapeCast _ (addf (mulf (mulf (mulf x (broadcastInDim S4x4096x1024 ![0, 1, 2] bcast_S4x4096x1_S4x4096x1024_0_1_2
        (Host.rsqrt (addf (Host.divf (broadcastInDim S4x4096x1 ![0, 1] bcast_S4x4096_S4x4096x1_0_1
            (Host.reduceAdd (mulf x x) (constant S_ .f32 0x00000000#32) reducesTo_S4x4096x1024_S4x4096_d2 h_S_))
          (broadcastInDim S4x4096x1 ![] bcast_S_S4x4096x1 (constant S_ .f32 0x44800000#32)))
          (broadcastInDim S4x4096x1 ![] bcast_S_S4x4096x1 (constant S_ .f32 0x358637BD#32))))))
        (broadcastInDim S4x4096x1024 ![0, 1, 2] bcast_S1x1x1024_S4x4096x1024_0_1_2 (broadcastInDim S1x1x1024 ![2] bcast_S1024_S1x1x1024_2 g)))
        (broadcastInDim S4x4096x1024 ![0, 1, 2] bcast_S4x1x1024_S4x4096x1024_0_1_2
          (addf (broadcastInDim S4x1x1024 ![] bcast_S_S4x1x1024 (constant S_ .f32 0x3F800000#32)) sc)))
        (broadcastInDim S4x4096x1024 ![0, 1, 2] bcast_S4x1x1024_S4x4096x1024_0_1_2 sh)) shapeCasts_S4x4096x1024_S16384x1024

/-- The queries, by head and half. -/
def queries : FVec Ideal S16384x8x2x128 .f32 :=
  shapeCast _ (Host.dotGeneral dot_S16384x1024_S1024x2048_S16384x2048_1_0_0_1_n_n none (hidden x sc sh g) w) shapeCasts_S16384x2048_S16384x8x2x128

/-- The scores of queries `q`, by token, head, half and sub-key. -/
def products (q : FVec Ideal S16384x8x2x128 .f32) : FVec Ideal S16384x8x2x128 .f32 :=
  transpose S16384x8x2x128 [3, 0, 1, 2] (Host.dotGeneral dot_S8x2x128x128_S16384x8x2x128_S8x2x128x16384_3_3_2_0_01_12 none keys q)
    transposes_S8x2x128x16384_S16384x8x2x128_3_0_1_2

theorem hidden_apply (n : Fin 16384) (d : Fin 1024) : (show EReal from hidden x sc sh g (ix2 n d)) = tokenLane x sc sh g n d := by
  unfold hidden
  pointwise
  rfl

theorem queries_apply (n : Fin 16384) (h : Fin 8) (s : Fin 2) (e : Fin 128) :
    (show EReal from queries x sc sh g w (ix4 n h s e)) = query (tokenLane x sc sh g n) (fun d l => (show EReal from w (ix2 d l))) (queryLane s h e) := by
  refine Eq.trans ?_ (Finset.sum_congr rfl fun d _ => congrArg (fun u : EReal => u * (show EReal from w (ix2 d (queryLane s h e)))) (hidden_apply x sc sh g n d))
  unfold queries
  generalize hidden x sc sh g = v
  have e' : queryLane s h e = ⟨h.val * 256 + s.val * 128 + e.val, by omega⟩ := Fin.ext (by
    show (h.val * 2 + s.val) * 128 + e.val = h.val * 256 + s.val * 128 + e.val; omega)
  rw [e']
  pointwise

theorem products_apply (q : FVec Ideal S16384x8x2x128 .f32) (n : Fin 16384) (h : Fin 8) (s : Fin 2) (k : Fin 128) :
    (show EReal from products keys q (ix4 n h s k)) = ∑ e : Fin 128, (show EReal from keys (ix4 h s k e)) * (show EReal from q (ix4 n h s e)) := by
  unfold products
  pointwise

/-- The reference's first result. -/
theorem rows_eq : truncf .bf16 (transpose S1024x16384 [1, 0] (hidden x sc sh g) transposes_S16384x1024_S1024x16384_1_0) bitsLt_bf16_f32 = routeRows x sc sh g := by
  funext j
  obtain ⟨d, n, rfl⟩ := idx2 (a := 1024) (b := 16384) j
  refine Eq.trans ?_ (hidden_apply x sc sh g n d)
  generalize hidden x sc sh g = v
  show @Eq EReal _ _
  pointwise

/-- The scores that the reference's second and third results hold. -/
theorem score_eq (h : Fin 8) (s : Fin 2) (k : Fin 128) (n : Fin 16384) :
    (show EReal from products keys (queries x sc sh g w) (ix4 n h s k)) = routeScores x sc sh g w keys s (ix3 h k n) :=
  (products_apply keys _ n h s k).trans (Finset.sum_congr rfl fun e _ =>
    congrArg (fun u : EReal => (show EReal from keys (ix4 h s k e)) * u) (queries_apply x sc sh g w n h s e))

theorem first_eq : transpose S8x128x16384 [1, 2, 0] (shapeCast _ (extractStridedSlice S16384x8x1x128 ![0, 0, 0, 0] (products keys (queries x sc sh g w))
      slices_S16384x8x2x128_S16384x8x1x128_0_0_0_0) shapeCasts_S16384x8x1x128_S16384x8x128) transposes_S16384x8x128_S8x128x16384_1_2_0
    = routeScores x sc sh g w keys 0 := by
  funext j
  obtain ⟨h, k, n, rfl⟩ := triple (a := 8) (b := 128) (c := 16384) j
  refine Eq.trans ?_ (score_eq x sc sh g w keys h 0 k n)
  generalize products keys (queries x sc sh g w) = v
  show @Eq EReal _ _
  pointwise

theorem second_eq : transpose S8x128x16384 [1, 2, 0] (shapeCast _ (extractStridedSlice S16384x8x1x128 ![0, 0, 1, 0] (products keys (queries x sc sh g w))
      slices_S16384x8x2x128_S16384x8x1x128_0_0_1_0) shapeCasts_S16384x8x1x128_S16384x8x128) transposes_S16384x8x128_S8x128x16384_1_2_0
    = routeScores x sc sh g w keys 1 := by
  funext j
  obtain ⟨h, k, n, rfl⟩ := triple (a := 8) (b := 128) (c := 16384) j
  refine Eq.trans ?_ (score_eq x sc sh g w keys h 1 k n)
  generalize products keys (queries x sc sh g w) = v
  show @Eq EReal _ _
  pointwise

end Cert.RouteRefIdeal.Hand
-- ==== Proof.lean ====
/-
  THE CERTIFICATE. The frames are the generated ones. Block-sparse attention: the kernel's result (Proof/Final.lean) and the reference's
  (Proof/Ref/Whole.lean) are the same function of the arguments' real arrays. Projections (Proof/Proj), merge (Proof/Merge), modulation and
  final norm (Proof/Norm), route (Proof/Route): kernel and reference are the same function of the arguments' extended reals.
-/
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Final
public import proofs.«01_k».proof.Proof.Finite
public import proofs.«01_k».proof.Proof.Ref.Whole
public import proofs.«01_k».proof.Proof.Gen.Queries
public import proofs.«01_k».proof.Proof.Gen.Queries.Frame
public import proofs.«01_k».proof.Proof.Gen.QueriesIdeal
public import proofs.«01_k».proof.Proof.Gen.QueriesIdeal.Frame
public import proofs.«01_k».proof.Proof.Gen.QueriesIdeal.Value
public import proofs.«01_k».proof.Proof.Gen.QueriesRefIdeal
public import proofs.«01_k».proof.Proof.Gen.QueriesRefIdeal.Run
public import proofs.«01_k».proof.Proof.Gen.MobaRows
public import proofs.«01_k».proof.Proof.Gen.MobaRows.Frame
public import proofs.«01_k».proof.Proof.Gen.MobaRowsIdeal
public import proofs.«01_k».proof.Proof.Gen.MobaRowsIdeal.Frame
public import proofs.«01_k».proof.Proof.Gen.MobaRowsIdeal.Value
public import proofs.«01_k».proof.Proof.Gen.MobaRowsRefIdeal
public import proofs.«01_k».proof.Proof.Gen.MobaRowsRefIdeal.Run
public import proofs.«01_k».proof.Proof.Gen.RwkvRows
public import proofs.«01_k».proof.Proof.Gen.RwkvRows.Frame
public import proofs.«01_k».proof.Proof.Gen.RwkvRowsIdeal
public import proofs.«01_k».proof.Proof.Gen.RwkvRowsIdeal.Frame
public import proofs.«01_k».proof.Proof.Gen.RwkvRowsIdeal.Value
public import proofs.«01_k».proof.Proof.Gen.RwkvRowsRefIdeal
public import proofs.«01_k».proof.Proof.Gen.RwkvRowsRefIdeal.Run
public import proofs.«01_k».proof.Proof.Gen.DsaRows
public import proofs.«01_k».proof.Proof.Gen.DsaRows.Frame
public import proofs.«01_k».proof.Proof.Gen.DsaRowsIdeal
public import proofs.«01_k».proof.Proof.Gen.DsaRowsIdeal.Frame
public import proofs.«01_k».proof.Proof.Gen.DsaRowsIdeal.Value
public import proofs.«01_k».proof.Proof.Gen.DsaRowsRefIdeal
public import proofs.«01_k».proof.Proof.Gen.DsaRowsRefIdeal.Run
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Modulate
public import proofs.«01_k».proof.Proof.Gen.Modulate.Frame
public import proofs.«01_k».proof.Proof.Gen.ModulateIdeal
public import proofs.«01_k».proof.Proof.Gen.ModulateIdeal.Frame
public import proofs.«01_k».proof.Proof.Gen.ModulateIdeal.Value
public import proofs.«01_k».proof.Proof.Gen.ModulateRefIdeal
public import proofs.«01_k».proof.Proof.Gen.ModulateRefIdeal.Run
public import proofs.«01_k».proof.Proof.Gen.FinalNorm
public import proofs.«01_k».proof.Proof.Gen.FinalNorm.Frame
public import proofs.«01_k».proof.Proof.Gen.FinalNormIdeal
public import proofs.«01_k».proof.Proof.Gen.FinalNormIdeal.Frame
public import proofs.«01_k».proof.Proof.Gen.FinalNormIdeal.Value
public import proofs.«01_k».proof.Proof.Gen.FinalNormRefIdeal
public import proofs.«01_k».proof.Proof.Gen.FinalNormRefIdeal.Run
public import proofs.«01_k».proof.Proof.Gen.Route
public import proofs.«01_k».proof.Proof.Gen.Route.Frame
public import proofs.«01_k».proof.Proof.Gen.RouteIdeal
public import proofs.«01_k».proof.Proof.Gen.RouteIdeal.Frame
public import proofs.«01_k».proof.Proof.Gen.RouteRefIdeal
public import proofs.«01_k».proof.Proof.Gen.RouteRefIdeal.Run
public import proofs.«01_k».proof.Proof.Proj.Queries
public import proofs.«01_k».proof.Proof.Proj.MobaRows
public import proofs.«01_k».proof.Proof.Proj.RwkvRows
public import proofs.«01_k».proof.Proof.Proj.DsaRows
public import proofs.«01_k».proof.Proof.Proj.Gates
public import proofs.«01_k».proof.Proof.Merge.Final
public import proofs.«01_k».proof.Proof.Norm.Final
public import proofs.«01_k».proof.Proof.Norm.Modulate
public import proofs.«01_k».proof.Proof.Merge.Reference
public import Idealize.ShloMosaic.Lib.Quiescent
public import Idealize.ShloMosaic.Adequacy
public import Idealize.ShloMosaic.Init
public import proofs.«01_k».proof.Proof.Route.Final
public import proofs.«01_k».proof.Proof.Route.Reference

@[expose] public section

noncomputable section

namespace Cert.Proof

open Idealize.ShloMosaic Idealize.ShloMosaic.TcCoe Idealize.SL.Sem Cert.Hand

/-- The reference ends with its arguments as they were and every counter at zero. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Finite argument arrays hold their real arrays. -/
theorem holds {a0 : FVec Ideal Cert.ReferenceIdeal.S4x4096x1536 .f32} {a1 : FVec Ideal Cert.ReferenceIdeal.S4x4096x1024 .bf16}
    {a2 : FVec Ideal Cert.ReferenceIdeal.S4x16x512 .f32} (h0 : Cert.KernelIdeal.Hand.Finite (s := Cert.ReferenceIdeal.S4x4096x1536) a0)
    (h1 : Cert.KernelIdeal.Hand.Finite (s := Cert.ReferenceIdeal.S4x4096x1024) a1)
    (h2 : Cert.KernelIdeal.Hand.Finite (s := Cert.ReferenceIdeal.S4x16x512) a2) :
    Cert.ReferenceIdeal.Hand.Holds (Cert.KernelIdeal.Hand.arrays a0 a1 a2) a0 a1 a2 where
  q _ _ _ := h0 _
  k _ _ _ := h1 _
  v _ _ _ := h1 _
  km _ _ _ := h2 _

/-- The reference's result is the attention, at every index. -/
theorem reference_result {A : Arrays} {a0 : FVec Ideal Cert.ReferenceIdeal.S4x4096x1536 .f32}
    {a1 : FVec Ideal Cert.ReferenceIdeal.S4x4096x1024 .bf16} {a2 : FVec Ideal Cert.ReferenceIdeal.S4x16x512 .f32}
    (H : Cert.ReferenceIdeal.Hand.Holds A a0 a1 a2) : Cert.ReferenceIdeal.Hand.whole a0 a1 a2 = Cert.KernelIdeal.Hand.result A := by
  funext j
  have hj : (j 2).val < 512 := (j 2).isLt
  have e := Cert.ReferenceIdeal.Hand.whole_apply H (j 0) (j 1) ⟨(j 2).val / 64, by omega⟩ ⟨(j 2).val % 64, by omega⟩
  have hi : ix3 (j 0) (j 1) (lane ⟨(j 2).val / 64, by omega⟩ ⟨(j 2).val % 64, by omega⟩) = j := by
    funext k
    match k with
    | ⟨0, _⟩ => rfl
    | ⟨1, _⟩ => rfl
    | ⟨2, _⟩ => exact Fin.ext (by show (j 2).val / 64 * 64 + (j 2).val % 64 = (j 2).val; omega)
  exact (congrArg (Cert.ReferenceIdeal.Hand.whole a0 a1 a2) hi.symm).trans e

/-- Kernel and reference end with the same attention. -/
theorem same_attention : algebraic_KernelIdeal_ReferenceIdeal_pre_finite := by
  intro m g m' g' hpre hargs
  have hf : ∀ c, Cert.KernelIdeal.Hand.Fin3 m c := fun c =>
    have h := Cert.Pre_finite.Hand.real_of_fn _ _ _ (hpre c)
    ⟨h.1, h.2.1, h.2.2⟩
  refine ⟨fun c => Cert.KernelIdeal.Hand.result (Cert.KernelIdeal.Hand.launched m c), ?_, ?_⟩
  · refine (θ_run Cert.KernelIdeal.defs _ _).mono (fun r h c => ?_) (Cert.KernelIdeal.Value.run_blocks m g)
    exact ⟨(h c).1.trans (Cert.KernelIdeal.Hand.final (hf c)), (h c).2⟩
  · refine (θ_run Cert.ReferenceIdeal.defs _ _).mono (fun r h c => ?_) (Cert.ReferenceIdeal.Value.run m' g')
    refine ⟨(h c).1.trans ?_, (h c).2⟩
    rw [Cert.ReferenceIdeal.Hand.res_eq, (hargs c).1, (hargs c).2.1, (hargs c).2.2]
    exact reference_result (holds (hf c).a0 (hf c).a1 (hf c).a2)

/-- The queries' projection's reference ends with its arguments as they were and every counter at zero. -/
theorem queries_reference_frame : quiescent_QueriesRefIdeal := fun m ρ _ =>
  (θ_run Cert.QueriesRefIdeal.defs _ _).mono (fun r h => ⟨fun c => (h c).2, sem_eq_zero_of_no_sems (by decide) r.2⟩)
    (Cert.QueriesRefIdeal.Value.run m ρ)

/-- Kernel and reference end with the same queries' rows. -/
theorem same_queries : algebraic_QueriesIdeal_QueriesRefIdeal := by
  intro m g m' g' _ hargs
  refine ⟨fun c => Cert.QueriesIdeal.Hand.result (m ((c.tc : Thread Cert.QueriesIdeal.nD Cert.QueriesIdeal.τ).loc Cert.QueriesIdeal.main_arg0))
    (m ((c.tc : Thread Cert.QueriesIdeal.nD Cert.QueriesIdeal.τ).loc Cert.QueriesIdeal.main_arg1)), ?_, ?_⟩
  · exact (θ_run Cert.QueriesIdeal.defs _ _).mono (fun r h c => ⟨(h c).1.trans (Cert.QueriesIdeal.Hand.final m c), (h c).2⟩)
      (Cert.QueriesIdeal.Value.run_blocks m g)
  · refine (θ_run Cert.QueriesRefIdeal.defs _ _).mono (fun r h c => ⟨(h c).1.trans ?_, (h c).2⟩) (Cert.QueriesRefIdeal.Value.run m' g')
    rw [(hargs c).1, (hargs c).2]
    exact Cert.QueriesRefIdeal.Hand.reference_eq _ _

/-- The block-sparse attention's projection's reference ends with its arguments as they were and every counter at zero. -/
theorem mobaRows_reference_frame : quiescent_MobaRowsRefIdeal := fun m ρ _ =>
  (θ_run Cert.MobaRowsRefIdeal.defs _ _).mono (fun r h => ⟨fun c => (h c).2, sem_eq_zero_of_no_sems (by decide) r.2⟩)
    (Cert.MobaRowsRefIdeal.Value.run m ρ)

/-- Kernel and reference end with the same block-sparse attention's rows. -/
theorem same_mobaRows : algebraic_MobaRowsIdeal_MobaRowsRefIdeal := by
  intro m g m' g' _ hargs
  refine ⟨fun c => Cert.MobaRowsIdeal.Hand.result (m ((c.tc : Thread Cert.MobaRowsIdeal.nD Cert.MobaRowsIdeal.τ).loc Cert.MobaRowsIdeal.main_arg0))
    (m ((c.tc : Thread Cert.MobaRowsIdeal.nD Cert.MobaRowsIdeal.τ).loc Cert.MobaRowsIdeal.main_arg1)), ?_, ?_⟩
  · exact (θ_run Cert.MobaRowsIdeal.defs _ _).mono (fun r h c => ⟨(h c).1.trans (Cert.MobaRowsIdeal.Hand.final m c), (h c).2⟩)
      (Cert.MobaRowsIdeal.Value.run_blocks m g)
  · refine (θ_run Cert.MobaRowsRefIdeal.defs _ _).mono (fun r h c => ⟨(h c).1.trans ?_, (h c).2⟩) (Cert.MobaRowsRefIdeal.Value.run m' g')
    rw [(hargs c).1, (hargs c).2]
    exact Cert.MobaRowsRefIdeal.Hand.reference_eq _ _

/-- The recurrence's projection's reference ends with its arguments as they were and every counter at zero. -/
theorem rwkvRows_reference_frame : quiescent_RwkvRowsRefIdeal := fun m ρ _ =>
  (θ_run Cert.RwkvRowsRefIdeal.defs _ _).mono (fun r h => ⟨fun c => (h c).2, sem_eq_zero_of_no_sems (by decide) r.2⟩)
    (Cert.RwkvRowsRefIdeal.Value.run m ρ)

/-- Kernel and reference end with the same recurrence's rows. -/
theorem same_rwkvRows : algebraic_RwkvRowsIdeal_RwkvRowsRefIdeal := by
  intro m g m' g' _ hargs
  refine ⟨fun c => Cert.RwkvRowsIdeal.Hand.result (m ((c.tc : Thread Cert.RwkvRowsIdeal.nD Cert.RwkvRowsIdeal.τ).loc Cert.RwkvRowsIdeal.main_arg0))
    (m ((c.tc : Thread Cert.RwkvRowsIdeal.nD Cert.RwkvRowsIdeal.τ).loc Cert.RwkvRowsIdeal.main_arg1)), ?_, ?_⟩
  · exact (θ_run Cert.RwkvRowsIdeal.defs _ _).mono (fun r h c => ⟨(h c).1.trans (Cert.RwkvRowsIdeal.Hand.final m c), (h c).2⟩)
      (Cert.RwkvRowsIdeal.Value.run_blocks m g)
  · refine (θ_run Cert.RwkvRowsRefIdeal.defs _ _).mono (fun r h c => ⟨(h c).1.trans ?_, (h c).2⟩) (Cert.RwkvRowsRefIdeal.Value.run m' g')
    rw [(hargs c).1, (hargs c).2]
    exact Cert.RwkvRowsRefIdeal.Hand.reference_eq _ _

/-- The latent attention's projection's reference ends with its arguments as they were and every counter at zero. -/
theorem dsaRows_reference_frame : quiescent_DsaRowsRefIdeal := fun m ρ _ =>
  (θ_run Cert.DsaRowsRefIdeal.defs _ _).mono (fun r h => ⟨fun c => (h c).2, sem_eq_zero_of_no_sems (by decide) r.2⟩)
    (Cert.DsaRowsRefIdeal.Value.run m ρ)

/-- Kernel and reference end with the same latent attention's rows. -/
theorem same_dsaRows : algebraic_DsaRowsIdeal_DsaRowsRefIdeal := by
  intro m g m' g' _ hargs
  refine ⟨fun c => Cert.DsaRowsIdeal.Hand.result (m ((c.tc : Thread Cert.DsaRowsIdeal.nD Cert.DsaRowsIdeal.τ).loc Cert.DsaRowsIdeal.main_arg0))
    (m ((c.tc : Thread Cert.DsaRowsIdeal.nD Cert.DsaRowsIdeal.τ).loc Cert.DsaRowsIdeal.main_arg1)), ?_, ?_⟩
  · exact (θ_run Cert.DsaRowsIdeal.defs _ _).mono (fun r h c => ⟨(h c).1.trans (Cert.DsaRowsIdeal.Hand.final m c), (h c).2⟩)
      (Cert.DsaRowsIdeal.Value.run_blocks m g)
  · refine (θ_run Cert.DsaRowsRefIdeal.defs _ _).mono (fun r h c => ⟨(h c).1.trans ?_, (h c).2⟩) (Cert.DsaRowsRefIdeal.Value.run m' g')
    rw [(hargs c).1, (hargs c).2]
    exact Cert.DsaRowsRefIdeal.Hand.reference_eq _ _

/-- The gates' projection's reference ends with its arguments as they were and every counter at zero. -/
theorem gates_reference_frame : quiescent_GatesRefIdeal := fun m ρ _ =>
  (θ_run Cert.GatesRefIdeal.defs _ _).mono (fun r h => ⟨fun c => (h c).2, sem_eq_zero_of_no_sems (by decide) r.2⟩)
    (Cert.GatesRefIdeal.Value.run m ρ)

/-- Kernel and reference end with the same gates' rows. -/
theorem same_gates : algebraic_GatesIdeal_GatesRefIdeal := by
  intro m g m' g' _ hargs
  refine ⟨fun c => Cert.GatesIdeal.Hand.result (m ((c.tc : Thread Cert.GatesIdeal.nD Cert.GatesIdeal.τ).loc Cert.GatesIdeal.main_arg0))
    (m ((c.tc : Thread Cert.GatesIdeal.nD Cert.GatesIdeal.τ).loc Cert.GatesIdeal.main_arg1)), ?_, ?_⟩
  · exact (θ_run Cert.GatesIdeal.defs _ _).mono (fun r h c => ⟨(h c).1.trans (Cert.GatesIdeal.Hand.final m c), (h c).2⟩)
      (Cert.GatesIdeal.Value.run_blocks m g)
  · refine (θ_run Cert.GatesRefIdeal.defs _ _).mono (fun r h c => ⟨(h c).1.trans ?_, (h c).2⟩) (Cert.GatesRefIdeal.Value.run m' g')
    rw [(hargs c).1, (hargs c).2]
    exact Cert.GatesRefIdeal.Hand.reference_eq _ _

/-- The merge's reference ends with its arguments as they were and every counter at zero. -/
theorem merge_reference_frame : quiescent_MergeRefIdeal := fun m ρ _ =>
  (θ_run Cert.MergeRefIdeal.defs _ _).mono (fun r h => ⟨fun c => (h c).2, sem_eq_zero_of_no_sems (by decide) r.2⟩)
    (Cert.MergeRefIdeal.Value.run m ρ)

/-- Kernel and reference end with the same merged branches. -/
theorem same_merge : algebraic_MergeIdeal_MergeRefIdeal := by
  intro m g m' g' _ hargs
  refine ⟨fun c => Cert.MergeIdeal.Hand.result m c, ?_, ?_⟩
  · exact (θ_run Cert.MergeIdeal.defs _ _).mono (fun r h c => ⟨(h c).1.trans (Cert.MergeIdeal.Hand.final m c), (h c).2⟩)
      (Cert.MergeIdeal.Value.run_blocks m g)
  · refine (θ_run Cert.MergeRefIdeal.defs _ _).mono (fun r h c => ⟨(h c).1.trans ?_, (h c).2⟩) (Cert.MergeRefIdeal.Value.run m' g')
    obtain ⟨h0, h1, h2, h3, h4, h5, h6, h7⟩ := hargs c
    rw [h0, h1, h2, h3, h4, h5, h6, h7]
    exact Cert.MergeRefIdeal.Hand.whole_eq _ _ _ _ _ _ _ _

/-- The modulation's reference ends with its arguments as they were and every counter at zero. -/
theorem modulate_reference_frame : quiescent_ModulateRefIdeal := fun m ρ _ =>
  (θ_run Cert.ModulateRefIdeal.defs _ _).mono (fun r h => ⟨fun c => (h c).2, sem_eq_zero_of_no_sems (by decide) r.2⟩)
    (Cert.ModulateRefIdeal.Value.run m ρ)

/-- The final norm's reference ends with its arguments as they were and every counter at zero. -/
theorem finalNorm_reference_frame : quiescent_FinalNormRefIdeal := fun m ρ _ =>
  (θ_run Cert.FinalNormRefIdeal.defs _ _).mono (fun r h => ⟨fun c => (h c).2, sem_eq_zero_of_no_sems (by decide) r.2⟩)
    (Cert.FinalNormRefIdeal.Value.run m ρ)

/-- Kernel and reference end with the same modulated stream. -/
theorem same_modulate : algebraic_ModulateIdeal_ModulateRefIdeal := by
  intro m g m' g' _ hargs
  refine ⟨fun c => Cert.ModulateIdeal.Hand.whole m c, ?_, ?_⟩
  · exact (θ_run Cert.ModulateIdeal.defs _ _).mono (fun r h c => ⟨(h c).1.trans (Cert.ModulateIdeal.Hand.final m c), (h c).2⟩)
      (Cert.ModulateIdeal.Value.run_blocks m g)
  · refine (θ_run Cert.ModulateRefIdeal.defs _ _).mono (fun r h c => ⟨(h c).1.trans ?_, (h c).2⟩) (Cert.ModulateRefIdeal.Value.run m' g')
    obtain ⟨h0, h1, h2, h3⟩ := hargs c
    rw [h0, h1, h2, h3]
    exact Cert.ModulateRefIdeal.Hand.reference_eq _ _ _ _

/-- Kernel and reference end with the same normalized rows. -/
theorem same_finalNorm : algebraic_FinalNormIdeal_FinalNormRefIdeal := by
  intro m g m' g' _ hargs
  refine ⟨fun c => Cert.FinalNormIdeal.Hand.result (m ((c.tc : Thread Cert.FinalNormIdeal.nD Cert.FinalNormIdeal.τ).loc Cert.FinalNormIdeal.main_arg0))
    (m ((c.tc : Thread Cert.FinalNormIdeal.nD Cert.FinalNormIdeal.τ).loc Cert.FinalNormIdeal.main_arg1)), ?_, ?_⟩
  · exact (θ_run Cert.FinalNormIdeal.defs _ _).mono (fun r h c => ⟨(h c).1.trans (Cert.FinalNormIdeal.Hand.final m c), (h c).2⟩)
      (Cert.FinalNormIdeal.Value.run_blocks m g)
  · refine (θ_run Cert.FinalNormRefIdeal.defs _ _).mono (fun r h c => ⟨(h c).1.trans ?_, (h c).2⟩) (Cert.FinalNormRefIdeal.Value.run m' g')
    rw [(hargs c).1, (hargs c).2]
    exact Cert.FinalNormRefIdeal.Hand.reference_eq _ _

theorem route_reference_frame : quiescent_RouteRefIdeal := fun m ρ _ =>
  (θ_run Cert.RouteRefIdeal.defs _ _).mono (fun r h => ⟨fun c => (h c).2.2.2, sem_eq_zero_of_no_sems (by decide) r.2⟩)
    (Cert.RouteRefIdeal.Value.run m ρ)

theorem same_route : algebraic_RouteIdeal_RouteRefIdeal := by
  intro m g m' g' _ hargs
  refine ⟨fun c => Cert.RouteIdeal.Hand.rows m c, fun c => Cert.RouteIdeal.Hand.half m c 0, fun c => Cert.RouteIdeal.Hand.half m c 1,
    Cert.RouteIdeal.Hand.run m g, ?_⟩
  refine (θ_run Cert.RouteRefIdeal.defs _ _).mono (fun r h c => ⟨(h c).1.trans ?_, (h c).2.1.trans ?_, (h c).2.2.1.trans ?_, (h c).2.2.2⟩)
    (Cert.RouteRefIdeal.Value.run m' g') <;> obtain ⟨h0, h1, h2, h3, h4, h5⟩ := hargs c
  · rw [h0, h1, h2, h3]
    exact Cert.RouteRefIdeal.Hand.rows_eq _ _ _ _
  · rw [h0, h1, h2, h3, h4, h5]
    exact Cert.RouteRefIdeal.Hand.first_eq _ _ _ _ _ _
  · rw [h0, h1, h2, h3, h4, h5]
    exact Cert.RouteRefIdeal.Hand.second_eq _ _ _ _ _ _

theorem claim : Cert.Claim := ⟨Cert.Kernel.Gen.facts, Cert.KernelIdeal.Gen.facts, Cert.ReferenceIdeal.Gen.facts,
  Cert.Queries.Gen.facts, Cert.QueriesIdeal.Gen.facts, Cert.QueriesRefIdeal.Gen.facts,
  Cert.MobaRows.Gen.facts, Cert.MobaRowsIdeal.Gen.facts, Cert.MobaRowsRefIdeal.Gen.facts,
  Cert.RwkvRows.Gen.facts, Cert.RwkvRowsIdeal.Gen.facts, Cert.RwkvRowsRefIdeal.Gen.facts,
  Cert.DsaRows.Gen.facts, Cert.DsaRowsIdeal.Gen.facts, Cert.DsaRowsRefIdeal.Gen.facts,
  Cert.Gates.Gen.facts, Cert.GatesIdeal.Gen.facts, Cert.GatesRefIdeal.Gen.facts,
  Cert.Merge.Gen.facts, Cert.MergeIdeal.Gen.facts, Cert.MergeRefIdeal.Gen.facts,
  Cert.Modulate.Gen.facts, Cert.ModulateIdeal.Gen.facts, Cert.ModulateRefIdeal.Gen.facts,
  Cert.FinalNorm.Gen.facts, Cert.FinalNormIdeal.Gen.facts, Cert.FinalNormRefIdeal.Gen.facts,
  Cert.Route.Gen.facts, Cert.RouteIdeal.Gen.facts, Cert.RouteRefIdeal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Queries.Gen.frame m ρ, fun m ρ _ => Cert.QueriesIdeal.Gen.frame m ρ, queries_reference_frame,
  fun m ρ _ => Cert.MobaRows.Gen.frame m ρ, fun m ρ _ => Cert.MobaRowsIdeal.Gen.frame m ρ, mobaRows_reference_frame,
  fun m ρ _ => Cert.RwkvRows.Gen.frame m ρ, fun m ρ _ => Cert.RwkvRowsIdeal.Gen.frame m ρ, rwkvRows_reference_frame,
  fun m ρ _ => Cert.DsaRows.Gen.frame m ρ, fun m ρ _ => Cert.DsaRowsIdeal.Gen.frame m ρ, dsaRows_reference_frame,
  fun m ρ _ => Cert.Gates.Gen.frame m ρ, fun m ρ _ => Cert.GatesIdeal.Gen.frame m ρ, gates_reference_frame,
  fun m ρ _ => Cert.Merge.Gen.frame m ρ, fun m ρ _ => Cert.MergeIdeal.Gen.frame m ρ, merge_reference_frame,
  fun m ρ _ => Cert.Modulate.Gen.frame m ρ, fun m ρ _ => Cert.ModulateIdeal.Gen.frame m ρ, modulate_reference_frame,
  fun m ρ _ => Cert.FinalNorm.Gen.frame m ρ, fun m ρ _ => Cert.FinalNormIdeal.Gen.frame m ρ, finalNorm_reference_frame,
  fun m ρ _ => Cert.Route.Gen.frame m ρ, fun m ρ _ => Cert.RouteIdeal.Gen.frame m ρ, route_reference_frame,
  IdealRules.named_const.statement Cert.KernelIdeal.κ "mask" .f32 0xF149F2CA#32 ⊥ rfl, same_attention,
  trivial, same_queries,
  trivial, same_mobaRows,
  trivial, same_rwkvRows,
  trivial, same_dsaRows,
  trivial, same_gates,
  trivial, same_merge,
  trivial, same_modulate,
  trivial, same_finalNorm,
  trivial, same_route⟩

end Cert.Proof

end
